-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_pool [hPre_finite_pool : Cert.Pre_finite_pool.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_pool.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_pool.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite_pool.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_pool [hPre_finite_pool : Cert.Pre_finite_pool.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_pool.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_pool.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite_pool.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Reference8 (m : (ℓ : Loc Cert.Reference8.nD Cert.Reference8.τ Cert.Reference8.sig) → Buf (Elt Bits) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Reference9 (m : (ℓ : Loc Cert.Reference9.nD Cert.Reference9.τ Cert.Reference9.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_pool [hKernel4Ideal : Cert.Kernel4Ideal.Facts] [hPre_finite_pool : Cert.Pre_finite_pool.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_pool m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_pool [hReference4Ideal : Cert.Reference4Ideal.Facts] [hPre_finite_pool : Cert.Pre_finite_pool.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_pool m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Reference8 [hReference8 : Cert.Reference8.Facts] : Prop :=
  ∀ (m : (ℓ : Loc Cert.Reference8.nD Cert.Reference8.τ Cert.Reference8.sig) → Buf (Elt Bits) ℓ) (g : Dev Cert.Reference8.nD → PrngReg), Pre_Reference8 m →
    θ_run (Cert.Reference8.defs (F := Bits)) (onTc (τ := Cert.Reference8.τ) (Cert.Reference8.main (F := Bits))) ⟨m, fun _ => 0, g⟩ (fun r => (∀ c : Dev Cert.Reference8.nD,
      r.2.mem ((c.tc : Thread Cert.Reference8.nD Cert.Reference8.τ).loc Cert.Reference8.main_arg0) = m ((c.tc : Thread Cert.Reference8.nD Cert.Reference8.τ).loc Cert.Reference8.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0))
      ∧ r.2.sem = fun _ => 0)

def quiescent_Reference9 [hReference9 : Cert.Reference9.Facts] : Prop :=
  ∀ (m : (ℓ : Loc Cert.Reference9.nD Cert.Reference9.τ Cert.Reference9.sig) → Buf (Elt Bits) ℓ) (g : Dev Cert.Reference9.nD → PrngReg), Pre_Reference9 m →
    θ_run (Cert.Reference9.defs (F := Bits)) (onTc (τ := Cert.Reference9.τ) (Cert.Reference9.main (F := Bits))) ⟨m, fun _ => 0, g⟩ (fun r => (∀ c : Dev Cert.Reference9.nD,
      r.2.mem ((c.tc : Thread Cert.Reference9.nD Cert.Reference9.τ).loc Cert.Reference9.main_arg0) = m ((c.tc : Thread Cert.Reference9.nD Cert.Reference9.τ).loc Cert.Reference9.main_arg0))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v83) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite_pool [hKernel4Ideal : Cert.Kernel4Ideal.Facts] [hReference4Ideal : Cert.Reference4Ideal.Facts] [hPre_finite_pool : Cert.Pre_finite_pool.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_pool m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9_0)) (v1 : (c : Dev Cert.Kernel4Ideal.nD) → Buf (Elt Ideal) ((c.tc : Thread Cert.Kernel4Ideal.nD Cert.Kernel4Ideal.τ).loc Cert.Kernel4Ideal.main_v9_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9_0) = v0 c
          ∧ r.2.mem ((c.tc : Thread Cert.Kernel4Ideal.nD Cert.Kernel4Ideal.τ).loc Cert.Kernel4Ideal.main_v9_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v95) = v0 c
          ∧ r.2.mem ((c.tc : Thread Cert.Reference4Ideal.nD Cert.Reference4Ideal.τ).loc Cert.Reference4Ideal.main_v97) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v29) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def bitexact_Kernel8_Reference8 [hKernel8 : Cert.Kernel8.Facts] [hReference8 : Cert.Reference8.Facts] : Prop :=
  ∀ (m : (ℓ : Loc Cert.Kernel8.nD Cert.Kernel8.τ Cert.Kernel8.sig) → Buf (Elt Bits) ℓ) (g : Dev Cert.Kernel8.nD → PrngReg)
    (m' : (ℓ : Loc Cert.Reference8.nD Cert.Reference8.τ Cert.Reference8.sig) → Buf (Elt Bits) ℓ) (g' : Dev Cert.Reference8.nD → PrngReg), Pre_Kernel8 m →
    (∀ c : Dev Cert.Kernel8.nD,
      m' ((c.tc : Thread Cert.Reference8.nD Cert.Reference8.τ).loc Cert.Reference8.main_arg0) = m ((c.tc : Thread Cert.Kernel8.nD Cert.Kernel8.τ).loc Cert.Kernel8.main_arg0)) →
    ∃ (v0 : (c : Dev Cert.Kernel8.nD) → Buf (Elt Bits) ((c.tc : Thread Cert.Kernel8.nD Cert.Kernel8.τ).loc Cert.Kernel8.main_v1)),
      θ_run (Cert.Kernel8.defs (F := Bits)) (onTc (τ := Cert.Kernel8.τ) (Cert.Kernel8.main (F := Bits))) ⟨m, fun _ => 0, g⟩ (fun r => ∀ c : Dev Cert.Kernel8.nD,
          r.2.mem ((c.tc : Thread Cert.Kernel8.nD Cert.Kernel8.τ).loc Cert.Kernel8.main_v1) = v0 c
          ∧ r.2.mem ((c.tc : Thread Cert.Kernel8.nD Cert.Kernel8.τ).loc Cert.Kernel8.main_arg0) = m ((c.tc : Thread Cert.Kernel8.nD Cert.Kernel8.τ).loc Cert.Kernel8.main_arg0))
      ∧ θ_run (Cert.Reference8.defs (F := Bits)) (onTc (τ := Cert.Reference8.τ) (Cert.Reference8.main (F := Bits))) ⟨m', fun _ => 0, g'⟩ (fun r => ∀ c : Dev Cert.Reference8.nD,
          r.2.mem ((c.tc : Thread Cert.Reference8.nD Cert.Reference8.τ).loc Cert.Reference8.main_v2) = v0 c
          ∧ r.2.mem ((c.tc : Thread Cert.Reference8.nD Cert.Reference8.τ).loc Cert.Reference8.main_arg0) = m' ((c.tc : Thread Cert.Reference8.nD Cert.Reference8.τ).loc Cert.Reference8.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0))

def bitexact_Kernel9_Reference9 [hKernel9 : Cert.Kernel9.Facts] [hReference9 : Cert.Reference9.Facts] : Prop :=
  ∀ (m : (ℓ : Loc Cert.Kernel9.nD Cert.Kernel9.τ Cert.Kernel9.sig) → Buf (Elt Bits) ℓ) (g : Dev Cert.Kernel9.nD → PrngReg)
    (m' : (ℓ : Loc Cert.Reference9.nD Cert.Reference9.τ Cert.Reference9.sig) → Buf (Elt Bits) ℓ) (g' : Dev Cert.Reference9.nD → PrngReg), Pre_Kernel9 m →
    (∀ c : Dev Cert.Kernel9.nD,
      m' ((c.tc : Thread Cert.Reference9.nD Cert.Reference9.τ).loc Cert.Reference9.main_arg0) = m ((c.tc : Thread Cert.Kernel9.nD Cert.Kernel9.τ).loc Cert.Kernel9.main_arg0)) →
    ∃ (v0 : (c : Dev Cert.Kernel9.nD) → Buf (Elt Bits) ((c.tc : Thread Cert.Kernel9.nD Cert.Kernel9.τ).loc Cert.Kernel9.main_v1)),
      θ_run (Cert.Kernel9.defs (F := Bits)) (onTc (τ := Cert.Kernel9.τ) (Cert.Kernel9.main (F := Bits))) ⟨m, fun _ => 0, g⟩ (fun r => ∀ c : Dev Cert.Kernel9.nD,
          r.2.mem ((c.tc : Thread Cert.Kernel9.nD Cert.Kernel9.τ).loc Cert.Kernel9.main_v1) = v0 c
          ∧ r.2.mem ((c.tc : Thread Cert.Kernel9.nD Cert.Kernel9.τ).loc Cert.Kernel9.main_arg0) = m ((c.tc : Thread Cert.Kernel9.nD Cert.Kernel9.τ).loc Cert.Kernel9.main_arg0))
      ∧ θ_run (Cert.Reference9.defs (F := Bits)) (onTc (τ := Cert.Reference9.τ) (Cert.Reference9.main (F := Bits))) ⟨m', fun _ => 0, g'⟩ (fun r => ∀ c : Dev Cert.Reference9.nD,
          r.2.mem ((c.tc : Thread Cert.Reference9.nD Cert.Reference9.τ).loc Cert.Reference9.main_v2) = v0 c
          ∧ r.2.mem ((c.tc : Thread Cert.Reference9.nD Cert.Reference9.τ).loc Cert.Reference9.main_arg0) = m' ((c.tc : Thread Cert.Reference9.nD Cert.Reference9.τ).loc Cert.Reference9.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hReference8 : Cert.Reference8.Facts) (hKernel9 : Cert.Kernel9.Facts) (hKernel9Ideal : Cert.Kernel9Ideal.Facts) (hReference9Ideal : Cert.Reference9Ideal.Facts) (hReference9 : Cert.Reference9.Facts) (hPre_finite_scores : Cert.Pre_finite_scores.Facts) (hPre_finite_pool : Cert.Pre_finite_pool.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_pool (hKernel4Ideal := hKernel4Ideal) (hPre_finite_pool := hPre_finite_pool)
    ∧ quiescent_Reference4Ideal (hReference4Ideal := hReference4Ideal)
    ∧ quiescent_Reference4Ideal_pre_finite_pool (hReference4Ideal := hReference4Ideal) (hPre_finite_pool := hPre_finite_pool)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Reference8 (hReference8 := hReference8)
    ∧ quiescent_Kernel9 (hKernel9 := hKernel9)
    ∧ quiescent_Kernel9Ideal (hKernel9Ideal := hKernel9Ideal)
    ∧ quiescent_Reference9Ideal (hReference9Ideal := hReference9Ideal)
    ∧ quiescent_Reference9 (hReference9 := hReference9)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_pool (hKernel4Ideal := hKernel4Ideal) (hReference4Ideal := hReference4Ideal) (hPre_finite_pool := hPre_finite_pool)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ bitexact_Kernel8_Reference8 (hKernel8 := hKernel8) (hReference8 := hReference8)
    ∧ preserves_Kernel9_Kernel9Ideal
    ∧ algebraic_Kernel9Ideal_Reference9Ideal (hKernel9Ideal := hKernel9Ideal) (hReference9Ideal := hReference9Ideal)
    ∧ bitexact_Kernel9_Reference9 (hKernel9 := hKernel9) (hReference9 := hReference9)
-- ==== Pre_finite_pool.lean ====
abbrev S2x4096x512 : Shape := ⟨3, ![2, 4096, 512]⟩
abbrev S1x4x128x128 : Shape := ⟨4, ![1, 4, 128, 128]⟩
abbrev S1x512 : Shape := ⟨2, ![1, 512]⟩
abbrev S2x256x1024 : Shape := ⟨3, ![2, 256, 1024]⟩
abbrev S_ : Shape := ⟨0, ![]⟩
abbrev S2x256x512 : Shape := ⟨3, ![2, 256, 512]⟩

class Facts : Prop where
  bcast_S_S2x4096x512 : S_.BroadcastsInDim S2x4096x512 (![] : Fin 0 → Fin S2x4096x512.rank)
  slices_S2x256x1024_S2x256x512_0_0_0 : S2x256x1024.Slices ![0, 0, 0] S2x256x512
  bcast_S_S2x256x512 : S_.BroadcastsInDim S2x256x512 (![] : Fin 0 → Fin S2x256x512.rank)

variable [Facts]

def fn {F : FTy → Type} [FloatOps F] (main_arg0 : FVec F S2x4096x512 .f32) (main_arg1 : FVec F S2x4096x512 .f32) (main_arg2 : FVec F S1x4x128x128 .f32) (main_arg3 : FVec F S1x512 .f32) (main_arg4 : FVec F S2x256x1024 .f32) : IVec S2x4096x512 1 × IVec S2x4096x512 1 × IVec S2x256x512 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_v3 : FVec F S2x4096x512 .f32 := Host.absf main_arg1
  let main_cst_0 : FVec F S_ .f32 := constant S_ .f32 0x7F800000#32
  let main_v4 : FVec F S2x4096x512 .f32 := broadcastInDim S2x4096x512 ![] bcast_S_S2x4096x512 main_cst_0
  let main_v5 : IVec S2x4096x512 1 := cmpf .olt main_v3 main_v4
  let main_v6 : FVec F S2x256x512 .f32 := (extractStridedSlice S2x256x512 ![0, 0, 0] · slices_S2x256x1024_S2x256x512_0_0_0) main_arg4
  let main_v7 : FVec F S2x256x512 .f32 := Host.absf main_v6
  let main_cst_1 : FVec F S_ .f32 := constant S_ .f32 0x7F800000#32
  let main_v8 : FVec F S2x256x512 .f32 := broadcastInDim S2x256x512 ![] bcast_S_S2x256x512 main_cst_1
  let main_v9 : IVec S2x256x512 1 := cmpf .olt main_v7 main_v8
  (main_v2, main_v5, main_v9)
-- ==== Pre_finite_scores.lean ====
abbrev S2x4096x16x64 : Shape := ⟨4, ![2, 4096, 16, 64]⟩
abbrev S2x4096x4x64 : Shape := ⟨4, ![2, 4096, 4, 64]⟩
abbrev S16 : Shape := ⟨1, ![16]⟩
abbrev S_ : Shape := ⟨0, ![]⟩

class Facts : Prop where
  bcast_S_S2x4096x16x64 : S_.BroadcastsInDim S2x4096x16x64 (![] : Fin 0 → Fin S2x4096x16x64.rank)
  bcast_S_S2x4096x4x64 : S_.BroadcastsInDim S2x4096x4x64 (![] : Fin 0 → Fin S2x4096x4x64.rank)
  bcast_S_S16 : S_.BroadcastsInDim S16 (![] : Fin 0 → Fin S16.rank)

variable [Facts]

def fn {F : FTy → Type} [FloatOps F] (main_arg0 : FVec F S2x4096x16x64 .f32) (main_arg1 : FVec F S2x4096x4x64 .f32) (main_arg2 : FVec F S2x4096x4x64 .f32) (main_arg3 : FVec F S16 .f32) : IVec S2x4096x16x64 1 × IVec S2x4096x4x64 1 × IVec S16 1 :=
  let main_v0 : FVec F S2x4096x16x64 .f32 := Host.absf main_arg0
  let main_cst : FVec F S_ .f32 := constant S_ .f32 0x7F800000#32
  let main_v1 : FVec F S2x4096x16x64 .f32 := broadcastInDim S2x4096x16x64 ![] bcast_S_S2x4096x16x64 main_cst
  let main_v2 : IVec S2x4096x16x64 1 := cmpf .olt main_v0 main_v1
  let main_v3 : FVec F S2x4096x4x64 .f32 := Host.absf main_arg1
  let main_cst_0 : FVec F S_ .f32 := constant S_ .f32 0x7F800000#32
  let main_v4 : FVec F S2x4096x4x64 .f32 := broadcastInDim S2x4096x4x64 ![] bcast_S_S2x4096x4x64 main_cst_0
  let main_v5 : IVec S2x4096x4x64 1 := cmpf .olt main_v3 main_v4
  let main_v6 : FVec F S16 .f32 := Host.absf main_arg3
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v2, main_v5, main_v8)
-- ==== Kernel.lean ====
abbrev S2x4096x16x64 : Shape := ⟨4, ![2, 4096, 16, 64]⟩
abbrev S2x4096x4x64 : Shape := ⟨4, ![2, 4096, 4, 64]⟩
abbrev S16 : Shape := ⟨1, ![16]⟩
abbrev S_ : Shape := ⟨0, ![]⟩
abbrev S2x4096x512 : Shape := ⟨3, ![2, 4096, 512]⟩
abbrev S2x4096x1024 : Shape := ⟨3, ![2, 4096, 1024]⟩
abbrev S2x4096x256 : Shape := ⟨3, ![2, 4096, 256]⟩
abbrev S2x4096x2560 : Shape := ⟨3, ![2, 4096, 2560]⟩
abbrev S1x128x512 : Shape := ⟨3, ![1, 128, 512]⟩
abbrev S1x128x1024 : Shape := ⟨3, ![1, 128, 1024]⟩
abbrev S128x512 : Shape := ⟨2, ![128, 512]⟩
abbrev S128x1024 : Shape := ⟨2, ![128, 1024]⟩
abbrev S1x128x256 : Shape := ⟨3, ![1, 128, 256]⟩
abbrev S128x256 : Shape := ⟨2, ![128, 256]⟩
abbrev S256x256 : Shape := ⟨2, ![256, 256]⟩
abbrev S128x64 : Shape := ⟨2, ![128, 64]⟩
abbrev S256x64 : Shape := ⟨2, ![256, 64]⟩
abbrev S1 : Shape := ⟨1, ![1]⟩
abbrev S128 : Shape := ⟨1, ![128]⟩
abbrev S128x1 : Shape := ⟨2, ![128, 1]⟩

abbrev nBuf : Space → Nat
  | .hbm => 17
  | .vmem => 10
  | .smem => 1
  | _ => 0

abbrev bufTy : (tb : Table) → Fin (tcTables nBuf tb) → BufTy
  | .hbm, ⟨0, _⟩ => ⟨S2x4096x16x64, .f32⟩
  | .hbm, ⟨1, _⟩ => ⟨S2x4096x4x64, .f32⟩
  | .hbm, ⟨2, _⟩ => ⟨S2x4096x4x64, .f32⟩
  | .hbm, ⟨3, _⟩ => ⟨S16, .f32⟩
  | .hbm, ⟨4, _⟩ => ⟨S_, .bf16⟩
  | .hbm, ⟨5, _⟩ => ⟨S2x4096x512, .bf16⟩
  | .hbm, ⟨6, _⟩ => ⟨S2x4096x1024, .f32⟩
  | .hbm, ⟨7, _⟩ => ⟨S_, .f32⟩
  | .hbm, ⟨8, _⟩ => ⟨S2x4096x1024, .f32⟩
  | .hbm, ⟨9, _⟩ => ⟨S2x4096x1024, .f32⟩
  | .hbm, ⟨10, _⟩ => ⟨S2x4096x1024, .bf16⟩
  | .hbm, ⟨11, _⟩ => ⟨S2x4096x256, .f32⟩
  | .hbm, ⟨12, _⟩ => ⟨S2x4096x256, .bf16⟩
  | .hbm, ⟨13, _⟩ => ⟨S2x4096x256, .f32⟩
  | .hbm, ⟨14, _⟩ => ⟨S2x4096x256, .bf16⟩
  | .hbm, ⟨15, _⟩ => ⟨S2x4096x2560, .bf16⟩
  | .hbm, ⟨16, _⟩ => ⟨S2x4096x1024, .bf16⟩
  | .local _ .vmem, ⟨0, _⟩ => ⟨S1x128x512, .bf16⟩
  | .local _ .vmem, ⟨1, _⟩ => ⟨S1x128x512, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x128x512, .bf16⟩
  | .local _ .vmem, ⟨7, _⟩ => ⟨S1x128x512, .bf16⟩
  | .local _ .vmem, ⟨8, _⟩ => ⟨S1x128x1024, .bf16⟩
  | .local _ .vmem, ⟨9, _⟩ => ⟨S1x128x1024, .bf16⟩
  | .local _ .smem, ⟨0, _⟩ => ⟨S16, .f32⟩
  | _, _ => ⟨S2x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c3_i32 : BitVec 32 := 3#32
  let c0_i32_0 : BitVec 32 := 0#32
  ![arg0.toNat, v1.toNat, c3_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x4096x16x64 : Shape := ⟨4, ![2, 4096, 16, 64]⟩
abbrev S2x4096x4x64 : Shape := ⟨4, ![2, 4096, 4, 64]⟩
abbrev S16 : Shape := ⟨1, ![16]⟩
abbrev S2x32x128x4x4x64 : Shape := ⟨6, ![2, 32, 128, 4, 4, 64]⟩
abbrev S_ : Shape := ⟨0, ![]⟩
abbrev S2x128x4x64 : Shape := ⟨4, ![2, 128, 4, 64]⟩
abbrev S2x4224x4x64 : Shape := ⟨4, ![2, 4224, 4, 64]⟩
abbrev S2x33x128x4x64 : Shape := ⟨5, ![2, 33, 128, 4, 64]⟩
abbrev S2x32x128x4x64 : Shape := ⟨5, ![2, 32, 128, 4, 64]⟩
abbrev S2x32x256x4x64 : Shape := ⟨5, ![2, 32, 256, 4, 64]⟩
abbrev S2x32x4x256x128x4 : Shape := ⟨6, ![2, 32, 4, 256, 128, 4]⟩
abbrev S2x32x4x4x128x256 : Shape := ⟨6, ![2, 32, 4, 4, 128, 256]⟩
abbrev S32 : Shape := ⟨1, ![32]⟩
abbrev S32x1 : Shape := ⟨2, ![32, 1]⟩
abbrev S128 : Shape := ⟨1, ![128]⟩
abbrev S1x128 : Shape := ⟨2, ![1, 128]⟩
abbrev S32x128 : Shape := ⟨2, ![32, 128]⟩
abbrev S256 : Shape := ⟨1, ![256]⟩
abbrev S1x256 : Shape := ⟨2, ![1, 256]⟩
abbrev S32x256 : Shape := ⟨2, ![32, 256]⟩
abbrev S32x128x1 : Shape := ⟨3, ![32, 128, 1]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S4x4 : Shape := ⟨2, ![4, 4]⟩
abbrev S1x1x4x4x1x1 : Shape := ⟨6, ![1, 1, 4, 4, 1, 1]⟩
abbrev S2x32x4x4x128 : Shape := ⟨5, ![2, 32, 4, 4, 128]⟩
abbrev S2x32x4x4x128x1 : Shape := ⟨6, ![2, 32, 4, 4, 128, 1]⟩
abbrev S2x32x4x64x4x128 : Shape := ⟨6, ![2, 32, 4, 64, 4, 128]⟩
abbrev S2x4096x1024 : Shape := ⟨3, ![2, 4096, 1024]⟩

abbrev nBuf : Space → Nat
  | .hbm => 87
  | .vmem => 0
  | .smem => 0
  | _ => 0

abbrev bufTy : (tb : Table) → Fin (tcTables nBuf tb) → BufTy
  | .hbm, ⟨0, _⟩ => ⟨S2x4096x16x64, .f32⟩
  | .hbm, ⟨1, _⟩ => ⟨S2x4096x4x64, .f32⟩
  | .hbm, ⟨2, _⟩ => ⟨S2x4096x4x64, .f32⟩
  | .hbm, ⟨3, _⟩ => ⟨S16, .f32⟩
  | .hbm, ⟨4, _⟩ => ⟨S2x32x128x4x4x64, .f32⟩
  | .hbm, ⟨5, _⟩ => ⟨S_, .f32⟩
  | .hbm, ⟨6, _⟩ => ⟨S2x128x4x64, .f32⟩
  | .hbm, ⟨7, _⟩ => ⟨S2x4224x4x64, .f32⟩
  | .hbm, ⟨8, _⟩ => ⟨S2x33x128x4x64, .f32⟩
  | .hbm, ⟨9, _⟩ => ⟨S2x4224x4x64, .f32⟩
  | .hbm, ⟨10, _⟩ => ⟨S2x33x128x4x64, .f32⟩
  | .hbm, ⟨11, _⟩ => ⟨S2x32x128x4x64, .f32⟩
  | .hbm, ⟨12, _⟩ => ⟨S2x32x128x4x64, .f32⟩
  | .hbm, ⟨13, _⟩ => ⟨S2x32x256x4x64, .f32⟩
  | .hbm, ⟨14, _⟩ => ⟨S2x32x128x4x64, .f32⟩
  | .hbm, ⟨15, _⟩ => ⟨S2x32x128x4x64, .f32⟩
  | .hbm, ⟨16, _⟩ => ⟨S2x32x256x4x64, .f32⟩
  | .hbm, ⟨17, _⟩ => ⟨S2x32x4x256x128x4, .f32⟩
  | .hbm, ⟨18, _⟩ => ⟨S2x32x4x4x128x256, .f32⟩
  | .hbm, ⟨19, _⟩ => ⟨S_, .f32⟩
  | .hbm, ⟨20, _⟩ => ⟨S2x32x4x4x128x256, .f32⟩
  | .hbm, ⟨21, _⟩ => ⟨S2x32x4x4x128x256, .f32⟩
  | .hbm, ⟨22, _⟩ => ⟨S32, .i32⟩
  | .hbm, ⟨23, _⟩ => ⟨S32x1, .i32⟩
  | .hbm, ⟨24, _⟩ => ⟨S_, .i32⟩
  | .hbm, ⟨25, _⟩ => ⟨S32x1, .i32⟩
  | .hbm, ⟨26, _⟩ => ⟨S32x1, .i32⟩
  | .hbm, ⟨27, _⟩ => ⟨S128, .i32⟩
  | .hbm, ⟨28, _⟩ => ⟨S1x128, .i32⟩
  | .hbm, ⟨29, _⟩ => ⟨S32x128, .i32⟩
  | .hbm, ⟨30, _⟩ => ⟨S32x128, .i32⟩
  | .hbm, ⟨31, _⟩ => ⟨S32x128, .i32⟩
  | .hbm, ⟨32, _⟩ => ⟨S_, .i32⟩
  | .hbm, ⟨33, _⟩ => ⟨S32x1, .i32⟩
  | .hbm, ⟨34, _⟩ => ⟨S32x1, .i32⟩
  | .hbm, ⟨35, _⟩ => ⟨S256, .i32⟩
  | .hbm, ⟨36, _⟩ => ⟨S1x256, .i32⟩
  | .hbm, ⟨37, _⟩ => ⟨S32x256, .i32⟩
  | .hbm, ⟨38, _⟩ => ⟨S32x256, .i32⟩
  | .hbm, ⟨39, _⟩ => ⟨S32x256, .i32⟩
  | .hbm, ⟨40, _⟩ => ⟨S32x128x1, .i32⟩
  | .hbm, ⟨41, _⟩ => ⟨S32x1x256, .i32⟩
  | .hbm, ⟨42, _⟩ => ⟨S32x128x256, .i32⟩
  | .hbm, ⟨43, _⟩ => ⟨S32x128x256, .i32⟩
  | .hbm, ⟨44, _⟩ => ⟨S32x128x256, .i32⟩
  | .hbm, ⟨45, _⟩ => ⟨S_, .i32⟩
  | .hbm, ⟨46, _⟩ => ⟨S32x128x256, .i32⟩
  | .hbm, ⟨47, _⟩ => ⟨S32x128x256, .i1⟩
  | .hbm, ⟨48, _⟩ => ⟨S_, .i32⟩
  | .hbm, ⟨49, _⟩ => ⟨S32x128x256, .i32⟩
  | .hbm, ⟨50, _⟩ => ⟨S32x128x256, .i1⟩
  | .hbm, ⟨51, _⟩ => ⟨S32x128x256, .i1⟩
  | .hbm, ⟨52, _⟩ => ⟨S32x1x256, .i32⟩
  | .hbm, ⟨53, _⟩ => ⟨S_, .i32⟩
  | .hbm, ⟨54, _⟩ => ⟨S32x1x256, .i32⟩
  | .hbm, ⟨55, _⟩ => ⟨S32x1x256, .i1⟩
  | .hbm, ⟨56, _⟩ => ⟨S32x128x256, .i1⟩
  | .hbm, ⟨57, _⟩ => ⟨S32x128x256, .i1⟩
  | .hbm, ⟨58, _⟩ => ⟨S1x32x1x1x128x256, .i1⟩
  | .hbm, ⟨59, _⟩ => ⟨S_, .f32⟩
  | .hbm, ⟨60, _⟩ => ⟨S_, .f32⟩
  | .hbm, ⟨61, _⟩ => ⟨S2x32x4x4x128x256, .i1⟩
  | .hbm, ⟨62, _⟩ => ⟨S2x32x4x4x128x256, .f32⟩
  | .hbm, ⟨63, _⟩ => ⟨S2x32x4x4x128x256, .f32⟩
  | .hbm, ⟨64, _⟩ => ⟨S4x4, .f32⟩
  | .hbm, ⟨65, _⟩ => ⟨S1x1x4x4x1x1, .f32⟩
  | .hbm, ⟨66, _⟩ => ⟨S_, .f32⟩
  | .hbm, ⟨67, _⟩ => ⟨S2x32x4x4x128, .f32⟩
  | .hbm, ⟨68, _⟩ => ⟨S2x32x4x4x128x1, .f32⟩
  | .hbm, ⟨69, _⟩ => ⟨S2x32x4x4x128x1, .f32⟩
  | .hbm, ⟨70, _⟩ => ⟨S2x32x4x4x128x1, .f32⟩
  | .hbm, ⟨71, _⟩ => ⟨S2x32x4x4x128x256, .f32⟩
  | .hbm, ⟨72, _⟩ => ⟨S2x32x4x4x128x256, .f32⟩
  | .hbm, ⟨73, _⟩ => ⟨S2x32x4x4x128x256, .f32⟩
  | .hbm, ⟨74, _⟩ => ⟨S_, .f32⟩
  | .hbm, ⟨75, _⟩ => ⟨S2x32x4x4x128, .f32⟩
  | .hbm, ⟨76, _⟩ => ⟨S2x32x4x4x128x1, .f32⟩
  | .hbm, ⟨77, _⟩ => ⟨S2x32x4x4x128x1, .f32⟩
  | .hbm, ⟨78, _⟩ => ⟨S2x32x4x4x128x1, .f32⟩
  | .hbm, ⟨79, _⟩ => ⟨S2x32x4x4x128x1, .f32⟩
  | .hbm, ⟨80, _⟩ => ⟨S2x32x4x4x128x1, .f32⟩
  | .hbm, ⟨81, _⟩ => ⟨S2x32x4x4x128x256, .f32⟩
  | .hbm, ⟨82, _⟩ => ⟨S2x32x4x4x128x256, .f32⟩
  | .hbm, ⟨83, _⟩ => ⟨S2x32x4x64x4x128, .f32⟩
  | .hbm, ⟨84, _⟩ => ⟨S2x32x128x4x4x64, .f32⟩
  | .hbm, ⟨85, _⟩ => ⟨S2x4096x1024, .f32⟩
  | .hbm, ⟨86, _⟩ => ⟨S2x4096x1024, .bf16⟩
  | _, _ => ⟨S2x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_c_2 : Ref sig .tc := ⟨.hbm, 45, rfl⟩
abbrev main_v37 : Ref sig .tc := ⟨.hbm, 46, rfl⟩
abbrev main_v38 : Ref sig .tc := ⟨.hbm, 47, rfl⟩
abbrev main_c_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_c_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_call0_v0 : Ref sig .tc := ⟨.hbm, 60, rfl⟩
abbrev main_call0_v1 : Ref sig .tc := ⟨.hbm, 61, rfl⟩
abbrev main_call0_v2 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel2.lean ====
abbrev S2x4096x512 : Shape := ⟨3, ![2, 4096, 512]⟩
abbrev S2x4096x1024 : Shape := ⟨3, ![2, 4096, 1024]⟩
abbrev S1x2048x2048 : Shape := ⟨3, ![1, 2048, 2048]⟩
abbrev S2x4096x2048 : Shape := ⟨3, ![2, 4096, 2048]⟩
abbrev S1x2048 : Shape := ⟨2, ![1, 2048]⟩
abbrev S8192x512 : Shape := ⟨2, ![8192, 512]⟩
abbrev S8192x1024 : Shape := ⟨2, ![8192, 1024]⟩
abbrev S2048x2048 : Shape := ⟨2, ![2048, 2048]⟩
abbrev S8192x2048 : Shape := ⟨2, ![8192, 2048]⟩
abbrev S2048 : Shape := ⟨1, ![2048]⟩
abbrev S512x2048 : Shape := ⟨2, ![512, 2048]⟩
abbrev S1024x2048 : Shape := ⟨2, ![1024, 2048]⟩
abbrev S2048x8192 : Shape := ⟨2, ![2048, 8192]⟩
abbrev S512x512 : Shape := ⟨2, ![512, 512]⟩
abbrev S512x1024 : Shape := ⟨2, ![512, 1024]⟩
abbrev S2048x512 : Shape := ⟨2, ![2048, 512]⟩
abbrev S512 : Shape := ⟨1, ![512]⟩
abbrev S512x1 : Shape := ⟨2, ![512, 1]⟩

abbrev nBuf : Space → Nat
  | .hbm => 25
  | .vmem => 17
  | .smem => 0
  | _ => 0

abbrev bufTy : (tb : Table) → Fin (tcTables nBuf tb) → BufTy
  | .hbm, ⟨0, _⟩ => ⟨S2x4096x512, .f32⟩
  | .hbm, ⟨1, _⟩ => ⟨S2x4096x1024, .f32⟩
  | .hbm, ⟨2, _⟩ => ⟨S2x4096x512, .f32⟩
  | .hbm, ⟨3, _⟩ => ⟨S1x2048x2048, .f32⟩
  | .hbm, ⟨4, _⟩ => ⟨S2x4096x2048, .f32⟩
  | .hbm, ⟨5, _⟩ => ⟨S1x2048, .f32⟩
  | .hbm, ⟨6, _⟩ => ⟨S1x2048, .f32⟩
  | .hbm, ⟨7, _⟩ => ⟨S8192x512, .f32⟩
  | .hbm, ⟨8, _⟩ => ⟨S8192x512, .bf16⟩
  | .hbm, ⟨9, _⟩ => ⟨S8192x1024, .f32⟩
  | .hbm, ⟨10, _⟩ => ⟨S8192x1024, .bf16⟩
  | .hbm, ⟨11, _⟩ => ⟨S8192x512, .f32⟩
  | .hbm, ⟨12, _⟩ => ⟨S8192x512, .bf16⟩
  | .hbm, ⟨13, _⟩ => ⟨S2048x2048, .f32⟩
  | .hbm, ⟨14, _⟩ => ⟨S2048x2048, .bf16⟩
  | .hbm, ⟨15, _⟩ => ⟨S8192x2048, .f32⟩
  | .hbm, ⟨16, _⟩ => ⟨S2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S512x2048, .bf16⟩
  | .hbm, ⟨21, _⟩ => ⟨S1024x2048, .bf16⟩
  | .hbm, ⟨22, _⟩ => ⟨S512x2048, .bf16⟩
  | .hbm, ⟨23, _⟩ => ⟨S2048x8192, .f32⟩
  | .hbm, ⟨24, _⟩ => ⟨S2048x8192, .bf16⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | .local _ .vmem, ⟨7, _⟩ => ⟨S1024x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S2048x512, .f32⟩
  | .local _ .vmem, ⟨14, _⟩ => ⟨S2048x512, .f32⟩
  | .local _ .vmem, ⟨15, _⟩ => ⟨S2048x512, .bf16⟩
  | .local _ .vmem, ⟨16, _⟩ => ⟨S2048x512, .bf16⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S2x4096x512 : Shape := ⟨3, ![2, 4096, 512]⟩
abbrev S2x4096x1024 : Shape := ⟨3, ![2, 4096, 1024]⟩
abbrev S1x2048x2048 : Shape := ⟨3, ![1, 2048, 2048]⟩
abbrev S2x4096x2048 : Shape := ⟨3, ![2, 4096, 2048]⟩
abbrev S1x2048 : Shape := ⟨2, ![1, 2048]⟩
abbrev S2048x2048 : Shape := ⟨2, ![2048, 2048]⟩
abbrev S_ : Shape := ⟨0, ![]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩
abbrev S2048x8192 : Shape := ⟨2, ![2048, 8192]⟩

abbrev nBuf : Space → Nat
  | .hbm => 48
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x1024, .f32⟩
  | .hbm, ⟨2, _⟩ => ⟨S2x4096x512, .f32⟩
  | .hbm, ⟨3, _⟩ => ⟨S1x2048x2048, .f32⟩
  | .hbm, ⟨4, _⟩ => ⟨S2x4096x2048, .f32⟩
  | .hbm, ⟨5, _⟩ => ⟨S1x2048, .f32⟩
  | .hbm, ⟨6, _⟩ => ⟨S1x2048, .f32⟩
  | .hbm, ⟨7, _⟩ => ⟨S2x4096x2048, .f32⟩
  | .hbm, ⟨8, _⟩ => ⟨S2048x2048, .f32⟩
  | .hbm, ⟨9, _⟩ => ⟨S2x4096x2048, .f32⟩
  | .hbm, ⟨10, _⟩ => ⟨S_, .f32⟩
  | .hbm, ⟨11, _⟩ => ⟨S2x4096x2048, .f32⟩
  | .hbm, ⟨12, _⟩ => ⟨S2x4096x2048, .f32⟩
  | .hbm, ⟨13, _⟩ => ⟨S2x4096x2048, .f32⟩
  | .hbm, ⟨14, _⟩ => ⟨S2048, .f32⟩
  | .hbm, ⟨15, _⟩ => ⟨S2048, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S_, .f32⟩
  | .hbm, ⟨26, _⟩ => ⟨S2x4096, .f32⟩
  | .hbm, ⟨27, _⟩ => ⟨S2x4096x1, .f32⟩
  | .hbm, ⟨28, _⟩ => ⟨S_, .f32⟩
  | .hbm, ⟨29, _⟩ => ⟨S2x4096x1, .f32⟩
  | .hbm, ⟨30, _⟩ => ⟨S2x4096x1, .f32⟩
  | .hbm, ⟨31, _⟩ => ⟨S2x4096x2048, .f32⟩
  | .hbm, ⟨32, _⟩ => ⟨S2x4096x2048, .f32⟩
  | .hbm, ⟨33, _⟩ => ⟨S_, .f32⟩
  | .hbm, ⟨34, _⟩ => ⟨S2x4096x1, .f32⟩
  | .hbm, ⟨35, _⟩ => ⟨S2x4096x1, .f32⟩
  | .hbm, ⟨36, _⟩ => ⟨S2x4096x1, .f32⟩
  | .hbm, ⟨37, _⟩ => ⟨S2x4096x2048, .f32⟩
  | .hbm, ⟨38, _⟩ => ⟨S2x4096x2048, .f32⟩
  | .hbm, ⟨39, _⟩ => ⟨S1x1x2048, .f32⟩
  | .hbm, ⟨40, _⟩ => ⟨S2x4096x2048, .f32⟩
  | .hbm, ⟨41, _⟩ => ⟨S2x4096x2048, .f32⟩
  | .hbm, ⟨42, _⟩ => ⟨S1x1x2048, .f32⟩
  | .hbm, ⟨43, _⟩ => ⟨S2x4096x2048, .f32⟩
  | .hbm, ⟨44, _⟩ => ⟨S2x4096x2048, .f32⟩
  | .hbm, ⟨45, _⟩ => ⟨S8192x2048, .f32⟩
  | .hbm, ⟨46, _⟩ => ⟨S2048x8192, .f32⟩
  | .hbm, ⟨47, _⟩ => ⟨S2048x8192, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel3.lean ====
abbrev S2x4096x2048 : Shape := ⟨3, ![2, 4096, 2048]⟩
abbrev S1x2048x2560 : Shape := ⟨3, ![1, 2048, 2560]⟩
abbrev S2x4096 : Shape := ⟨2, ![2, 4096]⟩
abbrev S128 : Shape := ⟨1, ![128]⟩
abbrev S1x128 : Shape := ⟨2, ![1, 128]⟩
abbrev S8192x2048 : Shape := ⟨2, ![8192, 2048]⟩
abbrev S2048x2560 : Shape := ⟨2, ![2048, 2560]⟩
abbrev S_ : Shape := ⟨0, ![]⟩
abbrev S8192x1 : Shape := ⟨2, ![8192, 1]⟩
abbrev S8192x2560 : Shape := ⟨2, ![8192, 2560]⟩
abbrev S512x2048 : Shape := ⟨2, ![512, 2048]⟩
abbrev S512x1 : Shape := ⟨2, ![512, 1]⟩
abbrev S512x2560 : Shape := ⟨2, ![512, 2560]⟩
abbrev S512x128 : Shape := ⟨2, ![512, 128]⟩
abbrev S2048x512 : Shape := ⟨2, ![2048, 512]⟩
abbrev S512x512 : Shape := ⟨2, ![512, 512]⟩

abbrev nBuf : Space → Nat
  | .hbm => 20
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S1x2048x2560, .f32⟩
  | .hbm, ⟨2, _⟩ => ⟨S2x4096, .i32⟩
  | .hbm, ⟨3, _⟩ => ⟨S128, .f32⟩
  | .hbm, ⟨4, _⟩ => ⟨S128, .i1⟩
  | .hbm, ⟨5, _⟩ => ⟨S1x128, .f32⟩
  | .hbm, ⟨6, _⟩ => ⟨S1x128, .f32⟩
  | .hbm, ⟨7, _⟩ => ⟨S8192x2048, .f32⟩
  | .hbm, ⟨8, _⟩ => ⟨S2048x2560, .f32⟩
  | .hbm, ⟨9, _⟩ => ⟨S2048x2560, .bf16⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S1x128, .f32⟩
  | .hbm, ⟨18, _⟩ => ⟨S8192x1, .i32⟩
  | .hbm, ⟨19, _⟩ => ⟨S8192x2560, .bf16⟩
  | .local _ .vmem, ⟨0, _⟩ => ⟨S512x2048, .f32⟩
  | .local _ .vmem, ⟨1, _⟩ => ⟨S512x2048, .f32⟩
  | .local _ .vmem, ⟨2, _⟩ => ⟨S2048x2560, .bf16⟩
  | .local _ .vmem, ⟨3, _⟩ => ⟨S512x1, .i32⟩
  | .local _ .vmem, ⟨4, _⟩ => ⟨S512x1, .i32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S512x2560, .bf16⟩
  | .local _ .vmem, ⟨9, _⟩ => ⟨S512x2560, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_cst_0 : Ref sig .tc := ⟨.hbm, 5, rfl⟩
abbrev main_cst_1 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_2 : Ref sig .tc := ⟨.hbm, 10, rfl⟩
abbrev main_v3 : Ref sig .tc := ⟨.hbm, 11, rfl⟩
abbrev main_v4 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2560 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S2x4096x2048 : Shape := ⟨3, ![2, 4096, 2048]⟩
abbrev S1x2048x2560 : Shape := ⟨3, ![1, 2048, 2560]⟩
abbrev S2x4096 : Shape := ⟨2, ![2, 4096]⟩
abbrev S2048x2560 : Shape := ⟨2, ![2048, 2560]⟩
abbrev S2x4096x2560 : Shape := ⟨3, ![2, 4096, 2560]⟩
abbrev S2x4096x512 : Shape := ⟨3, ![2, 4096, 512]⟩
abbrev S2x4096x1024 : Shape := ⟨3, ![2, 4096, 1024]⟩
abbrev S2x4096x256 : Shape := ⟨3, ![2, 4096, 256]⟩
abbrev S2x4096x16x64 : Shape := ⟨4, ![2, 4096, 16, 64]⟩
abbrev S8 : Shape := ⟨1, ![8]⟩
abbrev S_ : Shape := ⟨0, ![]⟩
abbrev S2x4096x1 : Shape := ⟨3, ![2, 4096, 1]⟩
abbrev S1x1x8 : Shape := ⟨3, ![1, 1, 8]⟩
abbrev S2x4096x8 : Shape := ⟨3, ![2, 4096, 8]⟩
abbrev S2x4096x1x8 : Shape := ⟨4, ![2, 4096, 1, 8]⟩
abbrev S2x4096x16x8 : Shape := ⟨4, ![2, 4096, 16, 8]⟩
abbrev S2x4096x16x48 : Shape := ⟨4, ![2, 4096, 16, 48]⟩
abbrev S2x4096x4x64 : Shape := ⟨4, ![2, 4096, 4, 64]⟩
abbrev S2x4096x4x8 : Shape := ⟨4, ![2, 4096, 4, 8]⟩
abbrev S2x4096x4x48 : Shape := ⟨4, ![2, 4096, 4, 48]⟩
abbrev S8192x2560 : Shape := ⟨2, ![8192, 2560]⟩

abbrev nBuf : Space → Nat
  | .hbm => 96
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x2560, .f32⟩
  | .hbm, ⟨2, _⟩ => ⟨S2x4096, .i32⟩
  | .hbm, ⟨3, _⟩ => ⟨S2048x2560, .f32⟩
  | .hbm, ⟨4, _⟩ => ⟨S2x4096x2560, .f32⟩
  | .hbm, ⟨5, _⟩ => ⟨S2x4096x512, .f32⟩
  | .hbm, ⟨6, _⟩ => ⟨S2x4096x1024, .f32⟩
  | .hbm, ⟨7, _⟩ => ⟨S2x4096x256, .f32⟩
  | .hbm, ⟨8, _⟩ => ⟨S2x4096x256, .f32⟩
  | .hbm, ⟨9, _⟩ => ⟨S2x4096x512, .f32⟩
  | .hbm, ⟨10, _⟩ => ⟨S2x4096x16x64, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S_, .f32⟩
  | .hbm, ⟨16, _⟩ => ⟨S8, .f32⟩
  | .hbm, ⟨17, _⟩ => ⟨S8, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S2x4096, .f32⟩
  | .hbm, ⟨26, _⟩ => ⟨S2x4096x1, .f32⟩
  | .hbm, ⟨27, _⟩ => ⟨S1x1x8, .f32⟩
  | .hbm, ⟨28, _⟩ => ⟨S2x4096x8, .f32⟩
  | .hbm, ⟨29, _⟩ => ⟨S2x4096x8, .f32⟩
  | .hbm, ⟨30, _⟩ => ⟨S2x4096x8, .f32⟩
  | .hbm, ⟨31, _⟩ => ⟨S2x4096x8, .f32⟩
  | .hbm, ⟨32, _⟩ => ⟨S2x4096x1x8, .f32⟩
  | .hbm, ⟨33, _⟩ => ⟨S2x4096x8, .f32⟩
  | .hbm, ⟨34, _⟩ => ⟨S2x4096x1x8, .f32⟩
  | .hbm, ⟨35, _⟩ => ⟨S2x4096x16x8, .f32⟩
  | .hbm, ⟨36, _⟩ => ⟨S2x4096x16x8, .f32⟩
  | .hbm, ⟨37, _⟩ => ⟨S2x4096x16x48, .f32⟩
  | .hbm, ⟨38, _⟩ => ⟨S2x4096x16x8, .f32⟩
  | .hbm, ⟨39, _⟩ => ⟨S2x4096x16x8, .f32⟩
  | .hbm, ⟨40, _⟩ => ⟨S2x4096x16x8, .f32⟩
  | .hbm, ⟨41, _⟩ => ⟨S2x4096x16x8, .f32⟩
  | .hbm, ⟨42, _⟩ => ⟨S2x4096x16x8, .f32⟩
  | .hbm, ⟨43, _⟩ => ⟨S2x4096x16x8, .f32⟩
  | .hbm, ⟨44, _⟩ => ⟨S2x4096x16x8, .f32⟩
  | .hbm, ⟨45, _⟩ => ⟨S2x4096x16x8, .f32⟩
  | .hbm, ⟨46, _⟩ => ⟨S2x4096x16x8, .f32⟩
  | .hbm, ⟨47, _⟩ => ⟨S2x4096x16x8, .f32⟩
  | .hbm, ⟨48, _⟩ => ⟨S2x4096x16x64, .f32⟩
  | .hbm, ⟨49, _⟩ => ⟨S_, .f32⟩
  | .hbm, ⟨50, _⟩ => ⟨S2x4096x16x64, .f32⟩
  | .hbm, ⟨51, _⟩ => ⟨S2x4096x16x64, .f32⟩
  | .hbm, ⟨52, _⟩ => ⟨S2x4096x4x64, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S8, .f32⟩
  | .hbm, ⟨64, _⟩ => ⟨S_, .f32⟩
  | .hbm, ⟨65, _⟩ => ⟨S8, .f32⟩
  | .hbm, ⟨66, _⟩ => ⟨S8, .f32⟩
  | .hbm, ⟨67, _⟩ => ⟨S2x4096, .f32⟩
  | .hbm, ⟨68, _⟩ => ⟨S2x4096x1, .f32⟩
  | .hbm, ⟨69, _⟩ => ⟨S1x1x8, .f32⟩
  | .hbm, ⟨70, _⟩ => ⟨S2x4096x8, .f32⟩
  | .hbm, ⟨71, _⟩ => ⟨S2x4096x8, .f32⟩
  | .hbm, ⟨72, _⟩ => ⟨S2x4096x8, .f32⟩
  | .hbm, ⟨73, _⟩ => ⟨S2x4096x8, .f32⟩
  | .hbm, ⟨74, _⟩ => ⟨S2x4096x1x8, .f32⟩
  | .hbm, ⟨75, _⟩ => ⟨S2x4096x8, .f32⟩
  | .hbm, ⟨76, _⟩ => ⟨S2x4096x1x8, .f32⟩
  | .hbm, ⟨77, _⟩ => ⟨S2x4096x4x8, .f32⟩
  | .hbm, ⟨78, _⟩ => ⟨S2x4096x4x8, .f32⟩
  | .hbm, ⟨79, _⟩ => ⟨S2x4096x4x48, .f32⟩
  | .hbm, ⟨80, _⟩ => ⟨S2x4096x4x8, .f32⟩
  | .hbm, ⟨81, _⟩ => ⟨S2x4096x4x8, .f32⟩
  | .hbm, ⟨82, _⟩ => ⟨S2x4096x4x8, .f32⟩
  | .hbm, ⟨83, _⟩ => ⟨S2x4096x4x8, .f32⟩
  | .hbm, ⟨84, _⟩ => ⟨S2x4096x4x8, .f32⟩
  | .hbm, ⟨85, _⟩ => ⟨S2x4096x4x8, .f32⟩
  | .hbm, ⟨86, _⟩ => ⟨S2x4096x4x8, .f32⟩
  | .hbm, ⟨87, _⟩ => ⟨S2x4096x4x8, .f32⟩
  | .hbm, ⟨88, _⟩ => ⟨S2x4096x4x8, .f32⟩
  | .hbm, ⟨89, _⟩ => ⟨S2x4096x4x8, .f32⟩
  | .hbm, ⟨90, _⟩ => ⟨S2x4096x4x64, .f32⟩
  | .hbm, ⟨91, _⟩ => ⟨S2x4096x1024, .f32⟩
  | .hbm, ⟨92, _⟩ => ⟨S2x4096x256, .f32⟩
  | .hbm, ⟨93, _⟩ => ⟨S2x4096x2560, .f32⟩
  | .hbm, ⟨94, _⟩ => ⟨S8192x2560, .f32⟩
  | .hbm, ⟨95, _⟩ => ⟨S8192x2560, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_cst_3 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_cst_4 : Ref sig .tc := ⟨.hbm, 54, rfl⟩
abbrev main_v46 : Ref sig .tc := ⟨.hbm, 55, rfl⟩
abbrev main_v47 : Ref sig .tc := ⟨.hbm, 56, rfl⟩
abbrev main_cst_5 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩

abbrev nD : Nat := 1
abbrev τ : Topo := Topo.v7x

variable {F : FTy → Type} [FloatOps F]
-- ==== Kernel4.lean ====
abbrev S2x4096x512 : Shape := ⟨3, ![2, 4096, 512]⟩
abbrev S1x4x128x128 : Shape := ⟨4, ![1, 4, 128, 128]⟩
abbrev S1x512 : Shape := ⟨2, ![1, 512]⟩
abbrev S2x256x1024 : Shape := ⟨3, ![2, 256, 1024]⟩
abbrev S_ : Shape := ⟨0, ![]⟩
abbrev S2x4096x1536 : Shape := ⟨3, ![2, 4096, 1536]⟩
abbrev S2x4096x2560 : Shape := ⟨3, ![2, 4096, 2560]⟩
abbrev S4x128x128 : Shape := ⟨3, ![4, 128, 128]⟩
abbrev S512 : Shape := ⟨1, ![512]⟩
abbrev S1x512x512 : Shape := ⟨3, ![1, 512, 512]⟩
abbrev S1x256x1024 : Shape := ⟨3, ![1, 256, 1024]⟩
abbrev S528x512 : Shape := ⟨2, ![528, 512]⟩
abbrev S16x512 : Shape := ⟨2, ![16, 512]⟩
abbrev S512x512 : Shape := ⟨2, ![512, 512]⟩
abbrev S512x1 : Shape := ⟨2, ![512, 1]⟩
abbrev S512x128 : Shape := ⟨2, ![512, 128]⟩
abbrev S1x128x128 : Shape := ⟨3, ![1, 128, 128]⟩
abbrev S128x128 : Shape := ⟨2, ![128, 128]⟩
abbrev S1x128 : Shape := ⟨2, ![1, 128]⟩
abbrev S1x512x128 : Shape := ⟨3, ![1, 512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 17
  | .vmem => 13
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S1x4x128x128, .f32⟩
  | .hbm, ⟨3, _⟩ => ⟨S1x512, .f32⟩
  | .hbm, ⟨4, _⟩ => ⟨S2x256x1024, .f32⟩
  | .hbm, ⟨5, _⟩ => ⟨S_, .bf16⟩
  | .hbm, ⟨6, _⟩ => ⟨S2x4096x1536, .bf16⟩
  | .hbm, ⟨7, _⟩ => ⟨S2x4096x512, .bf16⟩
  | .hbm, ⟨8, _⟩ => ⟨S2x4096x512, .bf16⟩
  | .hbm, ⟨9, _⟩ => ⟨S2x4096x2560, .bf16⟩
  | .hbm, ⟨10, _⟩ => ⟨S4x128x128, .f32⟩
  | .hbm, ⟨11, _⟩ => ⟨S4x128x128, .bf16⟩
  | .hbm, ⟨12, _⟩ => ⟨S512, .f32⟩
  | .hbm, ⟨13, _⟩ => ⟨S1x512, .f32⟩
  | .hbm, ⟨14, _⟩ => ⟨S2x256x1024, .bf16⟩
  | .hbm, ⟨15, _⟩ => ⟨S2x4096x512, .bf16⟩
  | .hbm, ⟨16, _⟩ => ⟨S2x4096x512, .bf16⟩
  | .local _ .vmem, ⟨0, _⟩ => ⟨S1x512x512, .bf16⟩
  | .local _ .vmem, ⟨1, _⟩ => ⟨S1x512x512, .bf16⟩
  | .local _ .vmem, ⟨2, _⟩ => ⟨S4x128x128, .bf16⟩
  | .local _ .vmem, ⟨3, _⟩ => ⟨S1x512, .f32⟩
  | .local _ .vmem, ⟨4, _⟩ => ⟨S1x512x512, .bf16⟩
  | .local _ .vmem, ⟨5, _⟩ => ⟨S1x512x512, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S528x512, .f32⟩
  | _, _ => ⟨S2x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference4Ideal.lean ====
abbrev S2x4096x512 : Shape := ⟨3, ![2, 4096, 512]⟩
abbrev S1x4x128x128 : Shape := ⟨4, ![1, 4, 128, 128]⟩
abbrev S1x512 : Shape := ⟨2, ![1, 512]⟩
abbrev S2x256x1024 : Shape := ⟨3, ![2, 256, 1024]⟩
abbrev S_ : Shape := ⟨0, ![]⟩
abbrev S2x4096x128 : Shape := ⟨3, ![2, 4096, 128]⟩
abbrev S2x4098x128 : Shape := ⟨3, ![2, 4098, 128]⟩
abbrev S4096 : Shape := ⟨1, ![4096]⟩
abbrev S1x4096x1 : Shape := ⟨3, ![1, 4096, 1]⟩
abbrev S2x4100x128 : Shape := ⟨3, ![2, 4100, 128]⟩
abbrev S2x4104x128 : Shape := ⟨3, ![2, 4104, 128]⟩
abbrev S2x4112x128 : Shape := ⟨3, ![2, 4112, 128]⟩
abbrev S2x4096x1x128 : Shape := ⟨4, ![2, 4096, 1, 128]⟩
abbrev S2x4096x4x128 : Shape := ⟨4, ![2, 4096, 4, 128]⟩
abbrev S4x128x128 : Shape := ⟨3, ![4, 128, 128]⟩
abbrev S4x128x2x4096 : Shape := ⟨4, ![4, 128, 2, 4096]⟩
abbrev S512 : Shape := ⟨1, ![512]⟩
abbrev S1x1x512 : Shape := ⟨3, ![1, 1, 512]⟩
abbrev S2x256x512 : Shape := ⟨3, ![2, 256, 512]⟩
abbrev S2x256x4x128 : Shape := ⟨4, ![2, 256, 4, 128]⟩
abbrev S2x4x4096x256 : Shape := ⟨4, ![2, 4, 4096, 256]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩

abbrev nBuf : Space → Nat
  | .hbm => 125
  | .vmem => 0
  | .smem => 0
  | _ => 0

abbrev bufTy : (tb : Table) → Fin (tcTables nBuf tb) → BufTy
  | .hbm, ⟨0, _⟩ => ⟨S2x4096x512, .f32⟩
  | .hbm, ⟨1, _⟩ => ⟨S2x4096x512, .f32⟩
  | .hbm, ⟨2, _⟩ => ⟨S1x4x128x128, .f32⟩
  | .hbm, ⟨3, _⟩ => ⟨S1x512, .f32⟩
  | .hbm, ⟨4, _⟩ => ⟨S2x256x1024, .f32⟩
  | .hbm, ⟨5, _⟩ => ⟨S_, .f32⟩
  | .hbm, ⟨6, _⟩ => ⟨S_, .f32⟩
  | .hbm, ⟨7, _⟩ => ⟨S2x4096x512, .f32⟩
  | .hbm, ⟨8, _⟩ => ⟨S2x4096x128, .f32⟩
  | .hbm, ⟨9, _⟩ => ⟨S_, .i32⟩
  | .hbm, ⟨10, _⟩ => ⟨S_, .f32⟩
  | .hbm, ⟨11, _⟩ => ⟨S2x4098x128, .f32⟩
  | .hbm, ⟨12, _⟩ => ⟨S2x4096x128, .f32⟩
  | .hbm, ⟨13, _⟩ => ⟨S4096, .i32⟩
  | .hbm, ⟨14, _⟩ => ⟨S_, .i32⟩
  | .hbm, ⟨15, _⟩ => ⟨S4096, .i32⟩
  | .hbm, ⟨16, _⟩ => ⟨S4096, .i32⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .f32⟩
  | .hbm, ⟨21, _⟩ => ⟨S1x4096x1, .f32⟩
  | .hbm, ⟨22, _⟩ => ⟨S2x4096x128, .f32⟩
  | .hbm, ⟨23, _⟩ => ⟨S2x4096x128, .f32⟩
  | .hbm, ⟨24, _⟩ => ⟨S2x4096x128, .f32⟩
  | .hbm, ⟨25, _⟩ => ⟨S2x4096x128, .f32⟩
  | .hbm, ⟨26, _⟩ => ⟨S2x4096x128, .f32⟩
  | .hbm, ⟨27, _⟩ => ⟨S2x4096x128, .f32⟩
  | .hbm, ⟨28, _⟩ => ⟨S_, .i32⟩
  | .hbm, ⟨29, _⟩ => ⟨S_, .f32⟩
  | .hbm, ⟨30, _⟩ => ⟨S2x4100x128, .f32⟩
  | .hbm, ⟨31, _⟩ => ⟨S2x4096x128, .f32⟩
  | .hbm, ⟨32, _⟩ => ⟨S4096, .i32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .f32⟩
  | .hbm, ⟨40, _⟩ => ⟨S1x4096x1, .f32⟩
  | .hbm, ⟨41, _⟩ => ⟨S2x4096x128, .f32⟩
  | .hbm, ⟨42, _⟩ => ⟨S2x4096x128, .f32⟩
  | .hbm, ⟨43, _⟩ => ⟨S2x4096x128, .f32⟩
  | .hbm, ⟨44, _⟩ => ⟨S2x4096x128, .f32⟩
  | .hbm, ⟨45, _⟩ => ⟨S2x4096x128, .f32⟩
  | .hbm, ⟨46, _⟩ => ⟨S2x4096x128, .f32⟩
  | .hbm, ⟨47, _⟩ => ⟨S_, .i32⟩
  | .hbm, ⟨48, _⟩ => ⟨S_, .f32⟩
  | .hbm, ⟨49, _⟩ => ⟨S2x4104x128, .f32⟩
  | .hbm, ⟨50, _⟩ => ⟨S2x4096x128, .f32⟩
  | .hbm, ⟨51, _⟩ => ⟨S4096, .i32⟩
  | .hbm, ⟨52, _⟩ => ⟨S_, .i32⟩
  | .hbm, ⟨53, _⟩ => ⟨S4096, .i32⟩
  | .hbm, ⟨54, _⟩ => ⟨S4096, .i32⟩
  | .hbm, ⟨55, _⟩ => ⟨S_, .i32⟩
  | .hbm, ⟨56, _⟩ => ⟨S4096, .i32⟩
  | .hbm, ⟨57, _⟩ => ⟨S4096, .i32⟩
  | .hbm, ⟨58, _⟩ => ⟨S4096, .f32⟩
  | .hbm, ⟨59, _⟩ => ⟨S1x4096x1, .f32⟩
  | .hbm, ⟨60, _⟩ => ⟨S2x4096x128, .f32⟩
  | .hbm, ⟨61, _⟩ => ⟨S2x4096x128, .f32⟩
  | .hbm, ⟨62, _⟩ => ⟨S2x4096x128, .f32⟩
  | .hbm, ⟨63, _⟩ => ⟨S2x4096x128, .f32⟩
  | .hbm, ⟨64, _⟩ => ⟨S2x4096x128, .f32⟩
  | .hbm, ⟨65, _⟩ => ⟨S2x4096x128, .f32⟩
  | .hbm, ⟨66, _⟩ => ⟨S_, .i32⟩
  | .hbm, ⟨67, _⟩ => ⟨S_, .f32⟩
  | .hbm, ⟨68, _⟩ => ⟨S2x4112x128, .f32⟩
  | .hbm, ⟨69, _⟩ => ⟨S2x4096x128, .f32⟩
  | .hbm, ⟨70, _⟩ => ⟨S4096, .i32⟩
  | .hbm, ⟨71, _⟩ => ⟨S_, .i32⟩
  | .hbm, ⟨72, _⟩ => ⟨S4096, .i32⟩
  | .hbm, ⟨73, _⟩ => ⟨S4096, .i32⟩
  | .hbm, ⟨74, _⟩ => ⟨S_, .i32⟩
  | .hbm, ⟨75, _⟩ => ⟨S4096, .i32⟩
  | .hbm, ⟨76, _⟩ => ⟨S4096, .i32⟩
  | .hbm, ⟨77, _⟩ => ⟨S4096, .f32⟩
  | .hbm, ⟨78, _⟩ => ⟨S1x4096x1, .f32⟩
  | .hbm, ⟨79, _⟩ => ⟨S2x4096x128, .f32⟩
  | .hbm, ⟨80, _⟩ => ⟨S2x4096x128, .f32⟩
  | .hbm, ⟨81, _⟩ => ⟨S2x4096x128, .f32⟩
  | .hbm, ⟨82, _⟩ => ⟨S2x4096x128, .f32⟩
  | .hbm, ⟨83, _⟩ => ⟨S2x4096x128, .f32⟩
  | .hbm, ⟨84, _⟩ => ⟨S2x4096x1x128, .f32⟩
  | .hbm, ⟨85, _⟩ => ⟨S2x4096x1x128, .f32⟩
  | .hbm, ⟨86, _⟩ => ⟨S2x4096x1x128, .f32⟩
  | .hbm, ⟨87, _⟩ => ⟨S2x4096x1x128, .f32⟩
  | .hbm, ⟨88, _⟩ => ⟨S2x4096x4x128, .f32⟩
  | .hbm, ⟨89, _⟩ => ⟨S4x128x128, .f32⟩
  | .hbm, ⟨90, _⟩ => ⟨S4x128x2x4096, .f32⟩
  | .hbm, ⟨91, _⟩ => ⟨S2x4096x4x128, .f32⟩
  | .hbm, ⟨92, _⟩ => ⟨S2x4096x512, .f32⟩
  | .hbm, ⟨93, _⟩ => ⟨S512, .f32⟩
  | .hbm, ⟨94, _⟩ => ⟨S1x1x512, .f32⟩
  | .hbm, ⟨95, _⟩ => ⟨S2x4096x512, .f32⟩
  | .hbm, ⟨96, _⟩ => ⟨S2x4096x512, .f32⟩
  | .hbm, ⟨97, _⟩ => ⟨S2x256x512, .f32⟩
  | .hbm, ⟨98, _⟩ => ⟨S2x256x512, .f32⟩
  | .hbm, ⟨99, _⟩ => ⟨S2x4096x4x128, .f32⟩
  | .hbm, ⟨100, _⟩ => ⟨S2x256x4x128, .f32⟩
  | .hbm, ⟨101, _⟩ => ⟨S2x256x4x128, .f32⟩
  | .hbm, ⟨102, _⟩ => ⟨S2x4x4096x256, .f32⟩
  | .hbm, ⟨103, _⟩ => ⟨S_, .f32⟩
  | .hbm, ⟨104, _⟩ => ⟨S2x4x4096x256, .f32⟩
  | .hbm, ⟨105, _⟩ => ⟨S2x4x4096x256, .f32⟩
  | .hbm, ⟨106, _⟩ => ⟨S_, .f32⟩
  | .hbm, ⟨107, _⟩ => ⟨S2x4x4096, .f32⟩
  | .hbm, ⟨108, _⟩ => ⟨S_, .f32⟩
  | .hbm, ⟨109, _⟩ => ⟨S2x4x4096, .f32⟩
  | .hbm, ⟨110, _⟩ => ⟨S2x4x4096, .f32⟩
  | .hbm, ⟨111, _⟩ => ⟨S2x4x4096x1, .f32⟩
  | .hbm, ⟨112, _⟩ => ⟨S2x4x4096x256, .f32⟩
  | .hbm, ⟨113, _⟩ => ⟨S2x4x4096x256, .f32⟩
  | .hbm, ⟨114, _⟩ => ⟨S2x4x4096x256, .f32⟩
  | .hbm, ⟨115, _⟩ => ⟨S_, .f32⟩
  | .hbm, ⟨116, _⟩ => ⟨S2x4x4096, .f32⟩
  | .hbm, ⟨117, _⟩ => ⟨S2x4x4096x1, .f32⟩
  | .hbm, ⟨118, _⟩ => ⟨S2x4x4096x256, .f32⟩
  | .hbm, ⟨119, _⟩ => ⟨S2x4x4096x256, .f32⟩
  | .hbm, ⟨120, _⟩ => ⟨S2x4x128x4096, .f32⟩
  | .hbm, ⟨121, _⟩ => ⟨S2x4096x4x128, .f32⟩
  | .hbm, ⟨122, _⟩ => ⟨S2x4096x512, .bf16⟩
  | .hbm, ⟨123, _⟩ => ⟨S2x4096x512, .f32⟩
  | .hbm, ⟨124, _⟩ => ⟨S2x4096x512, .bf16⟩
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_cst : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_call2_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_call3_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_c_6 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_8 : Ref sig .tc := ⟨.hbm, 66, rfl⟩
abbrev main_call4_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst : Ref sig .tc := ⟨.hbm, 103, rfl⟩
abbrev main_v80 : Ref sig .tc := ⟨.hbm, 104, rfl⟩
abbrev main_v81 : Ref sig .tc := ⟨.hbm, 105, rfl⟩
abbrev main_cst_11 : Ref sig .tc := ⟨.hbm, 106, rfl⟩
abbrev main_v82 : Ref sig .tc := ⟨.hbm, 107, rfl⟩
abbrev main_cst_12 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_13 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩

abbrev nD : Nat := 1
abbrev τ : Topo := Topo.v7x

variable {F : FTy → Type} [FloatOps F]
-- ==== Kernel6.lean ====
abbrev S2x256x2048 : Shape := ⟨3, ![2, 256, 2048]⟩
abbrev S1x2048x1024 : Shape := ⟨3, ![1, 2048, 1024]⟩
abbrev S512x2048 : Shape := ⟨2, ![512, 2048]⟩
abbrev S2048x1024 : Shape := ⟨2, ![2048, 1024]⟩
abbrev S512x1024 : Shape := ⟨2, ![512, 1024]⟩
abbrev S2048x512 : Shape := ⟨2, ![2048, 512]⟩
abbrev S512x512 : Shape := ⟨2, ![512, 512]⟩

abbrev nBuf : Space → Nat
  | .hbm => 7
  | .vmem => 5
  | .smem => 0
  | _ => 0

abbrev bufTy : (tb : Table) → Fin (tcTables nBuf tb) → BufTy
  | .hbm, ⟨0, _⟩ => ⟨S2x256x2048, .f32⟩
  | .hbm, ⟨1, _⟩ => ⟨S1x2048x1024, .f32⟩
  | .hbm, ⟨2, _⟩ => ⟨S512x2048, .f32⟩
  | .hbm, ⟨3, _⟩ => ⟨S512x2048, .bf16⟩
  | .hbm, ⟨4, _⟩ => ⟨S2048x1024, .f32⟩
  | .hbm, ⟨5, _⟩ => ⟨S2048x1024, .bf16⟩
  | .hbm, ⟨6, _⟩ => ⟨S512x1024, .bf16⟩
  | .local _ .vmem, ⟨0, _⟩ => ⟨S512x2048, .bf16⟩
  | .local _ .vmem, ⟨1, _⟩ => ⟨S2048x512, .bf16⟩
  | .local _ .vmem, ⟨2, _⟩ => ⟨S2048x512, .bf16⟩
  | .local _ .vmem, ⟨3, _⟩ => ⟨S512x512, .bf16⟩
  | .local _ .vmem, ⟨4, _⟩ => ⟨S512x512, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2x256x2048 : Shape := ⟨3, ![2, 256, 2048]⟩
abbrev S1x2048x1024 : Shape := ⟨3, ![1, 2048, 1024]⟩
abbrev S2048x1024 : Shape := ⟨2, ![2048, 1024]⟩
abbrev S2x256x1024 : Shape := ⟨3, ![2, 256, 1024]⟩
abbrev S512x1024 : Shape := ⟨2, ![512, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S1x2048x1024, .f32⟩
  | .hbm, ⟨2, _⟩ => ⟨S2048x1024, .f32⟩
  | .hbm, ⟨3, _⟩ => ⟨S2x256x1024, .f32⟩
  | .hbm, ⟨4, _⟩ => ⟨S512x1024, .f32⟩
  | .hbm, ⟨5, _⟩ => ⟨S512x1024, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S2x4096x2048 : Shape := ⟨3, ![2, 4096, 2048]⟩
abbrev S1x2048 : Shape := ⟨2, ![1, 2048]⟩
abbrev S8192x2048 : Shape := ⟨2, ![8192, 2048]⟩
abbrev S2048x8192 : Shape := ⟨2, ![2048, 8192]⟩
abbrev S2048 : Shape := ⟨1, ![2048]⟩
abbrev S2048x512 : Shape := ⟨2, ![2048, 512]⟩
abbrev S512x2048 : Shape := ⟨2, ![512, 2048]⟩
abbrev S512 : Shape := ⟨1, ![512]⟩
abbrev S512x1 : Shape := ⟨2, ![512, 1]⟩

abbrev nBuf : Space → Nat
  | .hbm => 13
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S2048x8192, .f32⟩
  | .hbm, ⟨6, _⟩ => ⟨S8192x2048, .f32⟩
  | .hbm, ⟨7, _⟩ => ⟨S2048x8192, .f32⟩
  | .hbm, ⟨8, _⟩ => ⟨S2048, .f32⟩
  | .hbm, ⟨9, _⟩ => ⟨S1x2048, .f32⟩
  | .hbm, ⟨10, _⟩ => ⟨S2048, .f32⟩
  | .hbm, ⟨11, _⟩ => ⟨S1x2048, .f32⟩
  | .hbm, ⟨12, _⟩ => ⟨S8192x2048, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S2x4096x2048 : Shape := ⟨3, ![2, 4096, 2048]⟩
abbrev S1x2048 : Shape := ⟨2, ![1, 2048]⟩
abbrev S_ : Shape := ⟨0, ![]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S2x4096x2048, .f32⟩
  | .hbm, ⟨6, _⟩ => ⟨S2x4096x2048, .f32⟩
  | .hbm, ⟨7, _⟩ => ⟨S2x4096x2048, .f32⟩
  | .hbm, ⟨8, _⟩ => ⟨S2048, .f32⟩
  | .hbm, ⟨9, _⟩ => ⟨S2048, .f32⟩
  | .hbm, ⟨10, _⟩ => ⟨S_, .f32⟩
  | .hbm, ⟨11, _⟩ => ⟨S2x4096, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x2048, .f32⟩
  | .hbm, ⟨26, _⟩ => ⟨S2x4096x2048, .f32⟩
  | .hbm, ⟨27, _⟩ => ⟨S_, .f32⟩
  | .hbm, ⟨28, _⟩ => ⟨S2x4096x1, .f32⟩
  | .hbm, ⟨29, _⟩ => ⟨S2x4096x1, .f32⟩
  | .hbm, ⟨30, _⟩ => ⟨S2x4096x1, .f32⟩
  | .hbm, ⟨31, _⟩ => ⟨S2x4096x2048, .f32⟩
  | .hbm, ⟨32, _⟩ => ⟨S2x4096x2048, .f32⟩
  | .hbm, ⟨33, _⟩ => ⟨S1x1x2048, .f32⟩
  | .hbm, ⟨34, _⟩ => ⟨S2x4096x2048, .f32⟩
  | .hbm, ⟨35, _⟩ => ⟨S2x4096x2048, .f32⟩
  | .hbm, ⟨36, _⟩ => ⟨S1x1x2048, .f32⟩
  | .hbm, ⟨37, _⟩ => ⟨S2x4096x2048, .f32⟩
  | .hbm, ⟨38, _⟩ => ⟨S2x4096x2048, .f32⟩
  | .hbm, ⟨39, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel8.lean ====
abbrev S1x2048x2048 : Shape := ⟨3, ![1, 2048, 2048]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 4
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference8.lean ====
abbrev S1x2048x2048 : Shape := ⟨3, ![1, 2048, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S2048x2048, .f32⟩
  | .hbm, ⟨2, _⟩ => ⟨S2048x2048, .f32⟩
  | .hbm, ⟨3, _⟩ => ⟨S2048x2048, .bf16⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Kernel9.lean ====
abbrev S1x16384x2048 : Shape := ⟨3, ![1, 16384, 2048]⟩
abbrev S16384x2048 : Shape := ⟨2, ![16384, 2048]⟩
abbrev S2048x16384 : Shape := ⟨2, ![2048, 16384]⟩
abbrev S512x2048 : Shape := ⟨2, ![512, 2048]⟩
abbrev S2048x512 : Shape := ⟨2, ![2048, 512]⟩

abbrev nBuf : Space → Nat
  | .hbm => 3
  | .vmem => 4
  | .smem => 0
  | _ => 0

abbrev bufTy : (tb : Table) → Fin (tcTables nBuf tb) → BufTy
  | .hbm, ⟨0, _⟩ => ⟨S1x16384x2048, .f32⟩
  | .hbm, ⟨1, _⟩ => ⟨S16384x2048, .f32⟩
  | .hbm, ⟨2, _⟩ => ⟨S2048x16384, .bf16⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S2048x512, .bf16⟩
  | _, _ => ⟨S1x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference9.lean ====
abbrev S1x16384x2048 : Shape := ⟨3, ![1, 16384, 2048]⟩
abbrev S16384x2048 : Shape := ⟨2, ![16384, 2048]⟩
abbrev S2048x16384 : Shape := ⟨2, ![2048, 16384]⟩

abbrev nBuf : Space → Nat
  | .hbm => 4
  | .vmem => 0
  | .smem => 0
  | _ => 0

abbrev bufTy : (tb : Table) → Fin (tcTables nBuf tb) → BufTy
  | .hbm, ⟨0, _⟩ => ⟨S1x16384x2048, .f32⟩
  | .hbm, ⟨1, _⟩ => ⟨S16384x2048, .f32⟩
  | .hbm, ⟨2, _⟩ => ⟨S2048x16384, .f32⟩
  | .hbm, ⟨3, _⟩ => ⟨S2048x16384, .bf16⟩
  | _, _ => ⟨S1x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Frames.lean ====
/- The frames: every program runs to its end and leaves its arguments as they were. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Reference8.Run
public import proofs.«01_k».proof.Proof.Gen.Reference9.Run
public import Idealize.ShloMosaic.Lib.Quiescent

@[expose] public section

noncomputable section

open Idealize.ShloMosaic Idealize.ShloMosaic.TcCoe Idealize.SL.Sem

namespace Cert.Frames

theorem kernel : Cert.quiescent_Kernel := fun m ρ _ => Cert.Kernel.Gen.frame m ρ
theorem ideal : Cert.quiescent_KernelIdeal := fun m ρ _ => Cert.KernelIdeal.Gen.frame m ρ
theorem reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem kernel2 : Cert.quiescent_Kernel2 := fun m ρ _ => Cert.Kernel2.Gen.frame m ρ
theorem ideal2 : Cert.quiescent_Kernel2Ideal := fun m ρ _ => Cert.Kernel2Ideal.Gen.frame m ρ
theorem reference2 : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

theorem kernel3 : Cert.quiescent_Kernel3 := fun m ρ _ => Cert.Kernel3.Gen.frame m ρ
theorem ideal3 : Cert.quiescent_Kernel3Ideal := fun m ρ _ => Cert.Kernel3Ideal.Gen.frame m ρ
theorem reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem kernel4 : Cert.quiescent_Kernel4 := fun m ρ _ => Cert.Kernel4.Gen.frame m ρ
theorem ideal4 : Cert.quiescent_Kernel4Ideal := fun m ρ _ => Cert.Kernel4Ideal.Gen.frame m ρ
theorem reference4 : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

theorem kernel6 : Cert.quiescent_Kernel6 := fun m ρ _ => Cert.Kernel6.Gen.frame m ρ
theorem ideal6 : Cert.quiescent_Kernel6Ideal := fun m ρ _ => Cert.Kernel6Ideal.Gen.frame m ρ
theorem reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem kernel7 : Cert.quiescent_Kernel7 := fun m ρ _ => Cert.Kernel7.Gen.frame m ρ
theorem ideal7 : Cert.quiescent_Kernel7Ideal := fun m ρ _ => Cert.Kernel7Ideal.Gen.frame m ρ
theorem reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem kernel8 : Cert.quiescent_Kernel8 := fun m ρ _ => Cert.Kernel8.Gen.frame m ρ
theorem ideal8 : Cert.quiescent_Kernel8Ideal := fun m ρ _ => Cert.Kernel8Ideal.Gen.frame m ρ
theorem reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem kernel9 : Cert.quiescent_Kernel9 := fun m ρ _ => Cert.Kernel9.Gen.frame m ρ
theorem ideal9 : Cert.quiescent_Kernel9Ideal := fun m ρ _ => Cert.Kernel9Ideal.Gen.frame m ρ
theorem reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem bits8 : Cert.quiescent_Reference8 := fun m ρ _ =>
  (θ_run Cert.Reference8.defs _ _).mono (fun r h => ⟨fun c => (h c).2, sem_eq_zero_of_no_sems (by decide) r.2⟩)
    (Cert.Reference8.Value.run (F := Bits) m ρ)

theorem bits9 : Cert.quiescent_Reference9 := fun m ρ _ =>
  (θ_run Cert.Reference9.defs _ _).mono (fun r h => ⟨fun c => (h c).2, sem_eq_zero_of_no_sems (by decide) r.2⟩)
    (Cert.Reference9.Value.run (F := Bits) m ρ)

end Cert.Frames

end
-- ==== Proof.Rows.lean ====
/- A layer norm of one row over the extended reals, and that the block a grid step holds and the whole array the reference holds are
   both normalised row by row. -/
module

public import proofs.«01_k».proof.Proof.Gen.Kernel7Ideal.Skeleton
public import proofs.«01_k».proof.Proof.Gen.Reference7Ideal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Rows

/-- The mean of a row. -/
def rowMean (r : Fin 2048 → EReal) : EReal :=
  Ideal.div (∑ k, r k) (FloatOps.ofBits (F := Ideal) .f32 0x45000000#32)

/-- A row less its mean. -/
def rowCentred (r : Fin 2048 → EReal) (k : Fin 2048) : EReal := r k - rowMean r

/-- The reciprocal root of a row's variance. -/
def rowScale (r : Fin 2048 → EReal) : EReal :=
  Ideal.rsqrt (rowMean (fun k => rowCentred r k * rowCentred r k) + FloatOps.ofBits (F := Ideal) .f32 0x3727C5AC#32)

/-- A row normalised, with its gain and its bias. -/
def rowNormed (r g b : Fin 2048 → EReal) (k : Fin 2048) : EReal := rowCentred r k * rowScale r * g k + b k

section reference

open Cert.Reference7Ideal Cert.Reference7Ideal.Gen

/-- The mean of each row. -/
def mean (z : FVec Ideal S2x4096x2048 .f32) : FVec Ideal S2x4096x1 .f32 :=
  Host.divf (broadcastInDim S2x4096x1 ![0, 1] bcast_S2x4096_S2x4096x1_0_1
      (Host.reduceAdd z (constant S_ .f32 0x00000000#32) reducesTo_S2x4096x2048_S2x4096_d2 h_S_))
    (broadcastInDim S2x4096x1 ![] bcast_S_S2x4096x1 (constant S_ .f32 0x45000000#32))

/-- Each row less its mean. -/
def centred (z : FVec Ideal S2x4096x2048 .f32) : FVec Ideal S2x4096x2048 .f32 :=
  subf z (broadcastInDim S2x4096x2048 ![0, 1, 2] bcast_S2x4096x1_S2x4096x2048_0_1_2 (mean z))

/-- The reciprocal root of each row's variance. -/
def scale (z : FVec Ideal S2x4096x2048 .f32) : FVec Ideal S2x4096x1 .f32 :=
  Host.rsqrt (addf (mean (mulf (centred z) (centred z)))
    (broadcastInDim S2x4096x1 ![] bcast_S_S2x4096x1 (constant S_ .f32 0x3727C5AC#32)))

/-- A gain or a bias along the rows. -/
def along (g : FVec Ideal S1x2048 .f32) : FVec Ideal S2x4096x2048 .f32 :=
  broadcastInDim S2x4096x2048 ![0, 1, 2] bcast_S1x1x2048_S2x4096x2048_0_1_2
    (broadcastInDim S1x1x2048 ![2] bcast_S2048_S1x1x2048_2 (shapeCast S2048 g shapeCasts_S1x2048_S2048))

/-- The rows of an array normalised. -/
def normed (z : FVec Ideal S2x4096x2048 .f32) (g b : FVec Ideal S1x2048 .f32) : FVec Ideal S2x4096x2048 .f32 :=
  addf (mulf (mulf (centred z) (broadcastInDim S2x4096x2048 ![0, 1, 2] bcast_S2x4096x1_S2x4096x2048_0_1_2 (scale z))) (along g))
    (along b)

theorem mean_at (z : FVec Ideal S2x4096x2048 .f32) (j : S2x4096x1.Idx) :
    mean z j = rowMean fun k => z (ix3 (j 0) (j 1) k) := by
  pointwise [mean, rowMean]

theorem centred_at (z : FVec Ideal S2x4096x2048 .f32) (j : S2x4096x2048.Idx) :
    centred z j = rowCentred (fun k => z (ix3 (j 0) (j 1) k)) (j 2) := by
  pointwise [centred, rowCentred]
  exact congrArg (z j - ·) (mean_at z _)

theorem scale_at (z : FVec Ideal S2x4096x2048 .f32) (j : S2x4096x1.Idx) :
    scale z j = rowScale fun k => z (ix3 (j 0) (j 1) k) := by
  pointwise [scale, rowScale]
  rw [mean_at]
  simp only [mulf, centred_at]
  rfl

theorem normed_at (z : FVec Ideal S2x4096x2048 .f32) (g b : FVec Ideal S1x2048 .f32) (j : S2x4096x2048.Idx) :
    normed z g b j = rowNormed (fun k => z (ix3 (j 0) (j 1) k)) (fun k => g (ix2 0 k)) (fun k => b (ix2 0 k)) (j 2) := by
  pointwise [normed, along, rowNormed]
  rw [centred_at, scale_at]
  rfl

end reference

section block

open Cert.Kernel7Ideal Cert.Kernel7Ideal.Gen

/-- The mean of each row of a block. -/
def blockMean (z : FVec Ideal S512x2048 .f32) : FVec Ideal S512x1 .f32 :=
  divf (shapeCast S512x1 (multiReduction .add [1] S512 z 0x00000000#32 reduces_S512x2048_S512 (.inl rfl) rfl) shapeCasts_S512_S512x1)
    (broadcast S512x1 (Scalar.ofBits .f32 0x45000000#32))

/-- Each row of a block less its mean. -/
def blockCentred (z : FVec Ideal S512x2048 .f32) : FVec Ideal S512x2048 .f32 :=
  subf z (broadcastTo S512x2048 (blockMean z) broadcasts_S512x1_S512x2048)

/-- The reciprocal root of the variance of each row of a block. -/
def blockScale (z : FVec Ideal S512x2048 .f32) : FVec Ideal S512x1 .f32 :=
  rsqrt (addf (blockMean (mulf (blockCentred z) (blockCentred z))) (broadcast S512x1 (Scalar.ofBits .f32 0x3727C5AC#32)))

/-- The rows of a block normalised. -/
def blockNormed (z : FVec Ideal S512x2048 .f32) (g b : FVec Ideal S1x2048 .f32) : FVec Ideal S512x2048 .f32 :=
  addf (mulf (mulf (blockCentred z) (broadcastTo S512x2048 (blockScale z) broadcasts_S512x1_S512x2048))
      (broadcastTo S512x2048 (shapeCast S1x2048 g shapeCasts_S1x2048_S1x2048) broadcasts_S1x2048_S512x2048))
    (broadcastTo S512x2048 (shapeCast S1x2048 b shapeCasts_S1x2048_S1x2048) broadcasts_S1x2048_S512x2048)

theorem blockMean_at (z : FVec Ideal S512x2048 .f32) (j : S512x1.Idx) :
    blockMean z j = rowMean fun k => z (ix2 (j 0) k) := by
  pointwise [blockMean, rowMean]

theorem blockCentred_at (z : FVec Ideal S512x2048 .f32) (j : S512x2048.Idx) :
    blockCentred z j = rowCentred (fun k => z (ix2 (j 0) k)) (j 1) := by
  pointwise [blockCentred, rowCentred]
  exact congrArg (z j - ·) (blockMean_at z _)

theorem blockScale_at (z : FVec Ideal S512x2048 .f32) (j : S512x1.Idx) :
    blockScale z j = rowScale fun k => z (ix2 (j 0) k) := by
  pointwise [blockScale, rowScale]
  rw [blockMean_at]
  simp only [mulf, blockCentred_at]
  rfl

theorem blockNormed_at (z : FVec Ideal S512x2048 .f32) (g b : FVec Ideal S1x2048 .f32) (j : S512x2048.Idx) :
    blockNormed z g b j = rowNormed (fun k => z (ix2 (j 0) k)) (fun k => g (ix2 0 k)) (fun k => b (ix2 0 k)) (j 1) := by
  pointwise [blockNormed, rowNormed]
  rw [blockCentred_at, blockScale_at]
  rfl

end block

end Cert.Rows

end
-- ==== Proof.Outproj.lean ====
/- The value of the output projection: the three parts of the mixing layer's output are multiplied by their rows of the weight and
   summed, the residual is added, and the rows are normalised. -/
module

public import proofs.«01_k».proof.Proof.Gen.Kernel2Ideal.Frame
public import proofs.«01_k».proof.Proof.Gen.Reference2Ideal
public import proofs.«01_k».proof.Proof.Gen.Reference2Ideal.Run
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Outproj

open Cert.Reference2Ideal Cert.Reference2Ideal.Gen

/-- What is normalised: the input scaled by the residual's constant, plus the projection of the three parts side by side. -/
def total (p : FVec Ideal S2x4096x512 .f32) (s : FVec Ideal S2x4096x1024 .f32) (r : FVec Ideal S2x4096x512 .f32)
    (w : FVec Ideal S1x2048x2048 .f32) (x : FVec Ideal S2x4096x2048 .f32) : FVec Ideal S2x4096x2048 .f32 :=
  addf (mulf (broadcastInDim S2x4096x2048 ![] bcast_S_S2x4096x2048 (constant S_ .f32 0x3F9837F0#32)) x)
    (Host.dotGeneral (φ₁ := .f32) (φ₂ := .f32) dot_S2x4096x2048_S2048x2048_S2x4096x2048_2_0_01_1_n_n none (Value.fn_main_v0 (F := Ideal) p s r)
      (shapeCast S2048x2048 w shapeCasts_S1x2048x2048_S2048x2048))

/-- The reference's result, tokens along the second axis. -/
def normed (p : FVec Ideal S2x4096x512 .f32) (s : FVec Ideal S2x4096x1024 .f32) (r : FVec Ideal S2x4096x512 .f32)
    (w : FVec Ideal S1x2048x2048 .f32) (x : FVec Ideal S2x4096x2048 .f32) (g b : FVec Ideal S1x2048 .f32) :
    FVec Ideal S2048x8192 .f32 :=
  transpose S2048x8192 [1, 0] (shapeCast S8192x2048 (Rows.normed (total p s r w x) g b) shapeCasts_S2x4096x2048_S8192x2048)
    transposes_S8192x2048_S2048x8192_1_0

/-- A sum over the model's width is the sum over its three parts. -/
theorem sum_three (f : Fin 2048 → EReal) : ∑ k, f k
    = ((∑ k : Fin 512, f ⟨(k : ℕ), by omega⟩) + ∑ k : Fin 1024, f ⟨512 + (k : ℕ), by omega⟩)
      + ∑ k : Fin 512, f ⟨1536 + (k : ℕ), by omega⟩ := by
  refine (Fin.sum_univ_add (a := 1536) (b := 512) f).trans (congrArg (· + _) ?_)
  exact Fin.sum_univ_add (a := 512) (b := 1024) fun k => f (Fin.castAdd 512 k)

/-- An entry of what is normalised, as three sums. -/
theorem total_at (p : FVec Ideal S2x4096x512 .f32) (s : FVec Ideal S2x4096x1024 .f32) (r : FVec Ideal S2x4096x512 .f32)
    (w : FVec Ideal S1x2048x2048 .f32) (x : FVec Ideal S2x4096x2048 .f32) (j0 : Fin 2) (j1 : Fin 4096) (l : Fin 2048) :
    total p s r w x (ix3 j0 j1 l) = FloatOps.ofBits (F := Ideal) .f32 0x3F9837F0#32 * x (ix3 j0 j1 l)
      + (((∑ k : Fin 512, p (ix3 j0 j1 k) * w (ix3 0 ⟨(k : ℕ), by omega⟩ l))
        + ∑ k : Fin 1024, s (ix3 j0 j1 k) * w (ix3 0 ⟨512 + (k : ℕ), by omega⟩ l))
        + ∑ k : Fin 512, r (ix3 j0 j1 k) * w (ix3 0 ⟨1536 + (k : ℕ), by omega⟩ l)) := by
  pointwise [total, Value.fn_main_v0]
  refine congrArg _ ((sum_three _).trans ?_)
  refine congrArg₂ (· + ·) (congrArg₂ (· + ·) ?_ ?_) ?_
  · refine Finset.sum_congr rfl fun k _ => ?_
    rw [dif_pos k.isLt]
  · refine Finset.sum_congr rfl fun k _ => ?_
    have h0 : ¬ 512 + (k : ℕ) < 512 := by omega
    have h1 : 512 + (k : ℕ) - 512 < 1024 := by omega
    rw [dif_neg h0, dif_pos h1]
    simp only [Nat.add_sub_cancel_left]
  · refine Finset.sum_congr rfl fun k _ => ?_
    have h0 : ¬ 1536 + (k : ℕ) < 512 := by omega
    have h1 : ¬ 1536 + (k : ℕ) - 512 < 1024 := by omega
    have h2 : 1536 + (k : ℕ) - 512 - 1024 = k := by omega
    simp only [dif_neg h0, dif_neg h1, h2]

theorem normed_at (p : FVec Ideal S2x4096x512 .f32) (s : FVec Ideal S2x4096x1024 .f32) (r : FVec Ideal S2x4096x512 .f32)
    (w : FVec Ideal S1x2048x2048 .f32) (x : FVec Ideal S2x4096x2048 .f32) (g b : FVec Ideal S1x2048 .f32)
    (i : Fin 8192) (l : Fin 2048) :
    normed p s r w x g b (ix2 l i)
      = Rows.rowNormed (fun k => total p s r w x (ix3 ⟨(i : ℕ) / 4096, by omega⟩ ⟨(i : ℕ) % 4096, by omega⟩ k))
          (fun k => g (ix2 0 k)) (fun k => b (ix2 0 k)) l := by
  pointwise [normed]
  exact Rows.normed_at _ _ _ _

end Cert.Outproj

namespace Cert.Outproj

open Cert.Kernel2Ideal Cert.Kernel2Ideal.Gen

/-- What a grid step normalises. -/
def blockTotal (p : FVec Ideal S512x512 .bf16) (wp : FVec Ideal S512x2048 .bf16) (s : FVec Ideal S512x1024 .bf16)
    (ws : FVec Ideal S1024x2048 .bf16) (r : FVec Ideal S512x512 .bf16) (wr : FVec Ideal S512x2048 .bf16)
    (x : FVec Ideal S512x2048 .f32) : FVec Ideal S512x2048 .f32 :=
  addf (mulf (broadcast S512x2048 (Scalar.ofBits .f32 0x3F9837F0#32)) (shapeCast S512x2048 x shapeCasts_S512x2048_S512x2048))
    (addf (addf
      (matmul (φ₁ := .bf16) (φ₂ := .bf16) dot_S512x512_S512x2048_S512x2048_1_0_0_1_n_n none (shapeCast S512x512 p shapeCasts_S512x512_S512x512)
        (shapeCast S512x2048 wp shapeCasts_S512x2048_S512x2048) (constant S512x2048 .f32 0x00000000#32))
      (matmul (φ₁ := .bf16) (φ₂ := .bf16) dot_S512x1024_S1024x2048_S512x2048_1_0_0_1_n_n none (shapeCast S512x1024 s shapeCasts_S512x1024_S512x1024)
        (shapeCast S1024x2048 ws shapeCasts_S1024x2048_S1024x2048) (constant S512x2048 .f32 0x00000000#32)))
      (matmul (φ₁ := .bf16) (φ₂ := .bf16) dot_S512x512_S512x2048_S512x2048_1_0_0_1_n_n none (shapeCast S512x512 r shapeCasts_S512x512_S512x512)
        (shapeCast S512x2048 wr shapeCasts_S512x2048_S512x2048) (constant S512x2048 .f32 0x00000000#32)))

theorem blockTotal_at (p : FVec Ideal S512x512 .bf16) (wp : FVec Ideal S512x2048 .bf16) (s : FVec Ideal S512x1024 .bf16)
    (ws : FVec Ideal S1024x2048 .bf16) (r : FVec Ideal S512x512 .bf16) (wr : FVec Ideal S512x2048 .bf16)
    (x : FVec Ideal S512x2048 .f32) (i : Fin 512) (l : Fin 2048) :
    blockTotal p wp s ws r wr x (ix2 i l) = FloatOps.ofBits (F := Ideal) .f32 0x3F9837F0#32 * x (ix2 i l)
      + (((∑ k : Fin 512, p (ix2 i k) * wp (ix2 k l)) + ∑ k : Fin 1024, s (ix2 i k) * ws (ix2 k l))
        + ∑ k : Fin 512, r (ix2 i k) * wr (ix2 k l)) := by
  pointwise [blockTotal]

/-- A grid step's store is its block normalised, tokens along the second axis. -/
theorem pay_eq (p : FVec Ideal S512x512 .bf16) (wp : FVec Ideal S512x2048 .bf16) (s : FVec Ideal S512x1024 .bf16)
    (ws : FVec Ideal S1024x2048 .bf16) (r : FVec Ideal S512x512 .bf16) (wr : FVec Ideal S512x2048 .bf16)
    (x : FVec Ideal S512x2048 .f32) (g b : FVec Ideal S1x2048 .f32) :
    k0_pay1 (F := Ideal) (k0_pay3 p wp s ws r wr x) (k0_pay4 p wp s ws r wr x) g b
      = transpose S2048x512 [1, 0] (Rows.blockNormed (blockTotal p wp s ws r wr x) g b) transposes_S512x2048_p1_0_S2048x512 := rfl

theorem pay_at (p : FVec Ideal S512x512 .bf16) (wp : FVec Ideal S512x2048 .bf16) (s : FVec Ideal S512x1024 .bf16)
    (ws : FVec Ideal S1024x2048 .bf16) (r : FVec Ideal S512x512 .bf16) (wr : FVec Ideal S512x2048 .bf16)
    (x : FVec Ideal S512x2048 .f32) (g b : FVec Ideal S1x2048 .f32) (i : Fin 512) (l : Fin 2048) :
    k0_pay1 (F := Ideal) (k0_pay3 p wp s ws r wr x) (k0_pay4 p wp s ws r wr x) g b (ix2 l i)
      = Rows.rowNormed (fun k => blockTotal p wp s ws r wr x (ix2 i k)) (fun k => g (ix2 0 k)) (fun k => b (ix2 0 k)) l := by
  rw [pay_eq]
  pointwise []
  exact Rows.blockNormed_at _ _ _ _

variable (m : (ℓ : Loc nD τ sig) → Buf (Elt Ideal) ℓ)

theorem block_at : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![0, 0] ∧ win0_8.index t = ![0, 0] ∧ win0_9.index t = ![0, t.val] ∧ win0_10.index t = ![0, t.val] :=
  (by decide +kernel : ∀ t : Fin grid0.N, _)

theorem row_lt (t : Fin cfg0.N) (i : Fin 512) : (t : ℕ) * 512 + (i : ℕ) < 8192 := by
  have : (t : ℕ) < 16 := t.isLt
  omega

theorem pool_at (c : Dev nD) (t : Fin cfg0.N) (i k : Fin 512) :
    iblk m c 0 t (ix2 i k) = m ((c : Thread nD τ).loc main_arg0)
      (ix3 ⟨((t : ℕ) * 512 + i) / 4096, by have := row_lt t i; omega⟩ ⟨((t : ℕ) * 512 + i) % 4096, by omega⟩ k) := by
  blk_point [iblk, V, block_at t]

theorem swa_at (c : Dev nD) (t : Fin cfg0.N) (i : Fin 512) (k : Fin 1024) :
    iblk m c 1 t (ix2 i k) = m ((c : Thread nD τ).loc main_arg1)
      (ix3 ⟨((t : ℕ) * 512 + i) / 4096, by have := row_lt t i; omega⟩ ⟨((t : ℕ) * 512 + i) % 4096, by omega⟩ k) := by
  blk_point [iblk, V, block_at t]

theorem mem_at (c : Dev nD) (t : Fin cfg0.N) (i k : Fin 512) :
    iblk m c 2 t (ix2 i k) = m ((c : Thread nD τ).loc main_arg2)
      (ix3 ⟨((t : ℕ) * 512 + i) / 4096, by have := row_lt t i; omega⟩ ⟨((t : ℕ) * 512 + i) % 4096, by omega⟩ k) := by
  blk_point [iblk, V, block_at t]

theorem pool_weight_at (c : Dev nD) (t : Fin cfg0.N) (k : Fin 512) (l : Fin 2048) :
    iblk m c 3 t (ix2 k l) = m ((c : Thread nD τ).loc main_arg3) (ix3 0 ⟨(k : ℕ), by omega⟩ l) := by
  blk_point [iblk, V, block_at t]

theorem swa_weight_at (c : Dev nD) (t : Fin cfg0.N) (k : Fin 1024) (l : Fin 2048) :
    iblk m c 4 t (ix2 k l) = m ((c : Thread nD τ).loc main_arg3) (ix3 0 ⟨512 + (k : ℕ), by omega⟩ l) := by
  blk_point [iblk, V, block_at t]

theorem mem_weight_at (c : Dev nD) (t : Fin cfg0.N) (k : Fin 512) (l : Fin 2048) :
    iblk m c 5 t (ix2 k l) = m ((c : Thread nD τ).loc main_arg3) (ix3 0 ⟨1536 + (k : ℕ), by omega⟩ l) := by
  blk_point [iblk, V, block_at t]

theorem input_at (c : Dev nD) (t : Fin cfg0.N) (i : Fin 512) (l : Fin 2048) :
    iblk m c 6 t (ix2 i l) = m ((c : Thread nD τ).loc main_arg4)
      (ix3 ⟨((t : ℕ) * 512 + i) / 4096, by have := row_lt t i; omega⟩ ⟨((t : ℕ) * 512 + i) % 4096, by omega⟩ l) := by
  blk_point [iblk, V, block_at t]

theorem gain_at (c : Dev nD) (t : Fin cfg0.N) (k : Fin 2048) :
    iblk m c 7 t (ix2 0 k) = m ((c : Thread nD τ).loc main_arg5) (ix2 0 k) := by
  blk_point [iblk, V, block_at t]

theorem shift_at (c : Dev nD) (t : Fin cfg0.N) (k : Fin 2048) :
    iblk m c 8 t (ix2 0 k) = m ((c : Thread nD τ).loc main_arg6) (ix2 0 k) := by
  blk_point [iblk, V, block_at t]

/-- The sum a grid step normalises is the reference's. -/
theorem block_total (c : Dev nD) (t : Fin cfg0.N) (i : Fin 512) (l : Fin 2048) :
    blockTotal (iblk m c 0 t) (iblk m c 3 t) (iblk m c 1 t) (iblk m c 4 t) (iblk m c 2 t) (iblk m c 5 t) (iblk m c 6 t) (ix2 i l)
      = total (m ((c : Thread nD τ).loc main_arg0)) (m ((c : Thread nD τ).loc main_arg1)) (m ((c : Thread nD τ).loc main_arg2))
          (m ((c : Thread nD τ).loc main_arg3)) (m ((c : Thread nD τ).loc main_arg4))
          (ix3 ⟨((t : ℕ) * 512 + i) / 4096, by have := row_lt t i; omega⟩ ⟨((t : ℕ) * 512 + i) % 4096, by omega⟩ l) := by
  refine (blockTotal_at _ _ _ _ _ _ _ _ _).trans (Eq.trans ?_ (total_at _ _ _ _ _ _ _ _).symm)
  refine Ideal.add_congr (Ideal.mul_congr rfl (input_at m c t i l)) (Ideal.add_congr (Ideal.add_congr ?_ ?_) ?_)
  · exact Finset.sum_congr rfl fun k _ => Ideal.mul_congr (pool_at m c t i k) (pool_weight_at m c t k l)
  · exact Finset.sum_congr rfl fun k _ => Ideal.mul_congr (swa_at m c t i k) (swa_weight_at m c t k l)
  · exact Finset.sum_congr rfl fun k _ => Ideal.mul_congr (mem_at m c t i k) (mem_weight_at m c t k l)

/-- A grid step stores the reference's columns. -/
theorem stored (c : Dev nD) (t : Fin cfg0.N) (i : Fin 512) (l : Fin 2048) :
    k0_pay1 (k0_pay3 (iblk m c 0 t) (iblk m c 3 t) (iblk m c 1 t) (iblk m c 4 t) (iblk m c 2 t) (iblk m c 5 t) (iblk m c 6 t))
        (k0_pay4 (iblk m c 0 t) (iblk m c 3 t) (iblk m c 1 t) (iblk m c 4 t) (iblk m c 2 t) (iblk m c 5 t) (iblk m c 6 t))
        (iblk m c 7 t) (iblk m c 8 t) (ix2 l i)
      = normed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (ix2 l ⟨(t : ℕ) * 512 + i, row_lt t i⟩) := by
  rw [normed_at]
  refine (pay_at _ _ _ _ _ _ _ _ _ _ _).trans ?_
  refine congr (congr (congr (congrArg Rows.rowNormed (funext fun k => ?_)) (funext fun k => ?_)) (funext fun k => ?_)) rfl
  · exact block_total m c t i k
  · exact gain_at m c t k
  · exact shift_at m c t k

theorem place9 (t : Fin cfg0.N) (y) : ((cfg0.win 9).blk t).view.emb y
    = ix2 (y 0 : Fin 2048) ⟨(t : ℕ) * 512 + (y 1 : Fin 512), row_lt t (y 1)⟩ := by
  blk_ext [block_at t]

theorem place10 (t : Fin cfg0.N) (y) : ((cfg0.win 10).blk t).view.emb y
    = ix2 (y 0 : Fin 2048) ⟨(t : ℕ) * 512 + (y 1 : Fin 512), row_lt t (y 1)⟩ := by
  blk_ext [block_at t]

theorem result9 (c : Dev nD) : (dats m 0 c).arrAt 9 (cfgs 0).N
    = normed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (dats m 0 c).arrAt_eq_of_covers 9 _ (by decide +kernel) fun t _ y => ?_
  blk_simp
  rw [after0_9]
  unfold_out out0_9
  frame_out
  refine (congrArg _ (eq_ix2 y)).trans ((stored m c t (y 1) (y 0)).trans ?_)
  exact congrArg (normed _ _ _ _ _ _ _) (place9 t y).symm

theorem result10 (c : Dev nD) : (dats m 0 c).arrAt 10 (cfgs 0).N
    = truncf .bf16 (normed (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))) bitsLt_bf16_f32 := by
  refine (dats m 0 c).arrAt_eq_of_covers 10 _ (by decide +kernel) fun t _ y => ?_
  blk_simp
  rw [after0_10]
  unfold_out out0_10
  frame_out
  refine (congrArg _ (eq_ix2 y)).trans ((stored m c t (y 1) (y 0)).trans ?_)
  exact congrArg (normed _ _ _ _ _ _ _) (place10 t y).symm

end Cert.Outproj

end
-- ==== Proof.InprojBlock.lean ====
/- The input projection's grid step: a block of rows times the weight, the queries' and keys' columns turned by the rotary angles. -/
module

public import proofs.«01_k».proof.Proof.Gen.Kernel3Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Inproj

open Cert.Kernel3Ideal Cert.Kernel3Ideal.Gen

/-- An entry of the product. -/
def prod (x : FVec Ideal S512x2048 .f32) (w : FVec Ideal S2048x2560 .bf16) (i : Fin 512) (n : Fin 2560) : EReal :=
  ∑ k : Fin 2048, x (ix2 i k) * w (ix2 k n)

/-- A row's angle on a lane. -/
def angle (p : IVec S512x1 32) (f : FVec Ideal S1x128 .f32) (i : Fin 512) (l : Fin 128) : EReal :=
  FloatOps.sitofp (F := Ideal) .f32 (p (ix2 i 0)) * f (ix2 0 l)

/-- A piece of 128 lanes, turned. -/
def turn (q c a b : FVec Ideal S512x128 .f32) : FVec Ideal S512x128 .f32 :=
  addf (addf (mulf q c) (mulf (dynamicRotate 1 120#32 none q rotates_S512x128_d1) a))
    (mulf (dynamicRotate 1 8#32 none q rotates_S512x128_d1) b)

theorem turn_at (q c a b : FVec Ideal S512x128 .f32) (i : Fin 512) (l : Fin 128) :
    turn q c a b (ix2 i l) = q (ix2 i l) * c (ix2 i l) + q (ix2 i ⟨((l : ℕ) + 8) % 128, by omega⟩) * a (ix2 i l)
      + q (ix2 i ⟨((l : ℕ) + 120) % 128, by omega⟩) * b (ix2 i l) := by
  pointwise [turn]
  have h1 : (l : ℕ) + 128 - 120 = l + 8 := by omega
  have h2 : (l : ℕ) + 128 - 8 = l + 120 := by omega
  simp only [h1, h2]

theorem cos_at (p : IVec S512x1 32) (f : FVec Ideal S1x128 .f32) (i : Fin 512) (l : Fin 128) :
    k0_pay12 (F := Ideal) p f (ix2 i l) = FloatOps.cos (F := Ideal) (φ := .f32) (angle p f i l) := by
  pointwise [k0_pay12, k0_pay10, angle]

theorem sin_at (p : IVec S512x1 32) (f a : FVec Ideal S1x128 .f32) (i : Fin 512) (l : Fin 128) :
    k0_pay13 (F := Ideal) p f a (ix2 i l) = FloatOps.sin (F := Ideal) (φ := .f32) (angle p f i l) * a (ix2 0 l) := by
  pointwise [k0_pay13, k0_pay11, k0_pay10, angle]

theorem product_at (x : FVec Ideal S512x2048 .bf16) (w : FVec Ideal S2048x512 .bf16) (i : Fin 512) (n : Fin 512) :
    k0_pay20 (F := Ideal) x w (ix2 i n) = ∑ k : Fin 2048, x (ix2 i k) * w (ix2 k n) := by
  pointwise [k0_pay20]

/-- An entry of the product, turned with its lane's neighbours. -/
def turned (x : FVec Ideal S512x2048 .f32) (w : FVec Ideal S2048x2560 .bf16) (p : IVec S512x1 32) (f a b : FVec Ideal S1x128 .f32)
    (i : Fin 512) (n : Fin 2560) : EReal :=
  prod x w i n * FloatOps.cos (F := Ideal) (φ := .f32) (angle p f i ⟨(n : ℕ) % 128, by omega⟩)
    + prod x w i ⟨(n : ℕ) / 128 * 128 + ((n : ℕ) % 128 + 8) % 128, by omega⟩
      * (FloatOps.sin (F := Ideal) (φ := .f32) (angle p f i ⟨(n : ℕ) % 128, by omega⟩) * a (ix2 0 ⟨(n : ℕ) % 128, by omega⟩))
    + prod x w i ⟨(n : ℕ) / 128 * 128 + ((n : ℕ) % 128 + 120) % 128, by omega⟩
      * (FloatOps.sin (F := Ideal) (φ := .f32) (angle p f i ⟨(n : ℕ) % 128, by omega⟩) * b (ix2 0 ⟨(n : ℕ) % 128, by omega⟩))

/-- An entry of what a grid step leaves. -/
def entry (x : FVec Ideal S512x2048 .f32) (w : FVec Ideal S2048x2560 .bf16) (p : IVec S512x1 32) (f a b : FVec Ideal S1x128 .f32)
    (i : Fin 512) (n : Fin 2560) : EReal :=
  if (n : ℕ) < 512 then prod x w i n
  else if (n : ℕ) < 1536 then turned x w p f a b i n * FloatOps.ofBits (F := Ideal) .f32 0x3E000000#32
  else if (n : ℕ) < 1792 then turned x w p f a b i n
  else prod x w i n

section

variable (x : FVec Ideal S512x2048 .f32) (w : FVec Ideal S2048x2560 .bf16) (p : IVec S512x1 32) (f a b : FVec Ideal S1x128 .f32)

/-- A piece of the columns that are stored as they are. -/
theorem plain_piece (o : ℕ) (ho : o + 128 ≤ 2560) (hq : o + 128 ≤ 512 ∨ 1792 ≤ o) (q : FVec Ideal S512x128 .f32)
    (hp : ∀ i l, q (ix2 i l) = prod x w i ⟨o + (l : ℕ), by omega⟩) (z : S512x128.Idx) (y : S512x2560.Idx)
    (h0 : (y 0 : ℕ) = z 0) (h1 : (y 1 : ℕ) = o + z 1) :
    truncf (F := Ideal) .bf16 q bitsLt_bf16_f32 z = entry x w p f a b (y 0) (y 1) := by
  obtain ⟨i, l, rfl⟩ : ∃ (i : Fin 512) (l : Fin 128), z = ix2 i l := ⟨z 0, z 1, eq_ix2 z⟩
  have e0 : (y 0 : Fin 512) = i := Fin.ext h0
  have e1 : (y 1 : Fin 2560) = ⟨o + (l : ℕ), (by omega : o + (l : ℕ) < 2560)⟩ := Fin.ext h1
  refine (hp i l).trans ?_
  rw [e0, e1]
  unfold entry
  rcases hq with hq | hq
  · exact (if_pos (show o + (l : ℕ) < 512 by omega)).symm
  · exact ((if_neg (show ¬ (o + (l : ℕ) < 512) by omega)).trans ((if_neg (show ¬ (o + (l : ℕ) < 1536) by omega)).trans (if_neg (show ¬ (o + (l : ℕ) < 1792) by omega)))).symm

/-- A turned piece, entry by entry. -/
theorem turn_piece (o : ℕ) (ho : o + 128 ≤ 2560) (hd : o % 128 = 0) (q : FVec Ideal S512x128 .f32)
    (hp : ∀ i l, q (ix2 i l) = prod x w i ⟨o + (l : ℕ), by omega⟩) (i : Fin 512) (l : Fin 128) :
    turn q (k0_pay12 (F := Ideal) p f) (k0_pay13 (F := Ideal) p f a) (k0_pay14 (F := Ideal) p f b) (ix2 i l)
      = turned x w p f a b i ⟨o + (l : ℕ), by omega⟩ := by
  rw [turn_at, hp, hp, hp, cos_at, sin_at]
  unfold turned
  have m : (o + (l : ℕ)) % 128 = l := by omega
  have d : (o + (l : ℕ)) / 128 * 128 = o := by omega
  have s : k0_pay14 (F := Ideal) p f b = k0_pay13 (F := Ideal) p f b := rfl
  simp only [m, d]
  rw [s, sin_at]

theorem query_piece (o : ℕ) (ho : 512 ≤ o) (ho' : o + 128 ≤ 1536) (hd : o % 128 = 0) (q : FVec Ideal S512x128 .f32)
    (hp : ∀ i l, q (ix2 i l) = prod x w i ⟨o + (l : ℕ), by omega⟩) (z : S512x128.Idx) (y : S512x2560.Idx)
    (h0 : (y 0 : ℕ) = z 0) (h1 : (y 1 : ℕ) = o + z 1) :
    truncf (F := Ideal) .bf16 (mulf (turn q (k0_pay12 (F := Ideal) p f) (k0_pay13 (F := Ideal) p f a) (k0_pay14 (F := Ideal) p f b))
      (broadcast S512x128 (Scalar.ofBits .f32 0x3E000000#32))) bitsLt_bf16_f32 z = entry x w p f a b (y 0) (y 1) := by
  obtain ⟨i, l, rfl⟩ : ∃ (i : Fin 512) (l : Fin 128), z = ix2 i l := ⟨z 0, z 1, eq_ix2 z⟩
  have e0 : (y 0 : Fin 512) = i := Fin.ext h0
  have e1 : (y 1 : Fin 2560) = ⟨o + (l : ℕ), (by omega : o + (l : ℕ) < 2560)⟩ := Fin.ext h1
  refine (congrArg (· * FloatOps.ofBits (F := Ideal) .f32 0x3E000000#32)
    (turn_piece x w p f a b o (by omega) hd q hp i l)).trans ?_
  rw [e0, e1]
  unfold entry
  exact ((if_neg (show ¬ (o + (l : ℕ) < 512) by omega)).trans (if_pos (show o + (l : ℕ) < 1536 by omega))).symm

theorem key_piece (o : ℕ) (ho : 1536 ≤ o) (ho' : o + 128 ≤ 1792) (hd : o % 128 = 0) (q : FVec Ideal S512x128 .f32)
    (hp : ∀ i l, q (ix2 i l) = prod x w i ⟨o + (l : ℕ), by omega⟩) (z : S512x128.Idx) (y : S512x2560.Idx)
    (h0 : (y 0 : ℕ) = z 0) (h1 : (y 1 : ℕ) = o + z 1) :
    truncf (F := Ideal) .bf16 (turn q (k0_pay12 (F := Ideal) p f) (k0_pay13 (F := Ideal) p f a) (k0_pay14 (F := Ideal) p f b))
      bitsLt_bf16_f32 z = entry x w p f a b (y 0) (y 1) := by
  obtain ⟨i, l, rfl⟩ : ∃ (i : Fin 512) (l : Fin 128), z = ix2 i l := ⟨z 0, z 1, eq_ix2 z⟩
  have e0 : (y 0 : Fin 512) = i := Fin.ext h0
  have e1 : (y 1 : Fin 2560) = ⟨o + (l : ℕ), (by omega : o + (l : ℕ) < 2560)⟩ := Fin.ext h1
  refine (turn_piece x w p f a b o (by omega) hd q hp i l).trans ?_
  rw [e0, e1]
  unfold entry
  exact ((if_neg (show ¬ (o + (l : ℕ) < 512) by omega)).trans ((if_neg (show ¬ (o + (l : ℕ) < 1536) by omega)).trans (if_pos (show o + (l : ℕ) < 1792 by omega)))).symm

end

/-- The buffer a grid step leaves. -/
theorem out_at (x : FVec Ideal S512x2048 .f32) (w : FVec Ideal S2048x2560 .bf16) (p : IVec S512x1 32) (f a b : FVec Ideal S1x128 .f32)
    (y : S512x2560.Idx) : out0_6 (F := Ideal) x w p f a b y = entry x w p f a b (y 0) (y 1) := by
  have u2 : View.ld (Val := Elt Ideal) (e' := .i32) p r0_1 = p := by
    funext j
    idx_vars j
    pointwise []
    rw [Subsingleton.elim j1 0]
  have u3 : View.ld (Val := Elt Ideal) (e' := .f32) f r0_2 = f := by
    funext j
    idx_vars j
    pointwise []
    rw [Subsingleton.elim j0 0]
  have u4 : View.ld (Val := Elt Ideal) (e' := .f32) a r0_2 = a := by
    funext j
    idx_vars j
    pointwise []
    rw [Subsingleton.elim j0 0]
  have u5 : View.ld (Val := Elt Ideal) (e' := .f32) b r0_2 = b := by
    funext j
    idx_vars j
    pointwise []
    rw [Subsingleton.elim j0 0]
  unfold_out out0_6
  rw [u2, u3, u4, u5]
  clear u2 u3 u4 u5
  canon_tiles z h
  · refine plain_piece x w p f a b 2432 (by decide) (by decide) _ (fun i l => ?_) z y h0 h1
    pointwise [prod, k0_pay4, k0_pay9]
    simp only [← Nat.add_assoc, Nat.reduceAdd]
  · refine plain_piece x w p f a b 2304 (by decide) (by decide) _ (fun i l => ?_) z y h0 h1
    pointwise [prod, k0_pay4, k0_pay9]
    simp only [← Nat.add_assoc, Nat.reduceAdd]
  · refine plain_piece x w p f a b 2176 (by decide) (by decide) _ (fun i l => ?_) z y h0 h1
    pointwise [prod, k0_pay4, k0_pay9]
    simp only [← Nat.add_assoc, Nat.reduceAdd]
  · refine plain_piece x w p f a b 2048 (by decide) (by decide) _ (fun i l => ?_) z y h0 h1
    pointwise [prod, k0_pay4, k0_pay9]
  · refine plain_piece x w p f a b 1920 (by decide) (by decide) _ (fun i l => ?_) z y h0 h1
    pointwise [prod, k0_pay30, k0_pay9]
    simp only [← Nat.add_assoc, Nat.reduceAdd]
  · refine plain_piece x w p f a b 1792 (by decide) (by decide) _ (fun i l => ?_) z y h0 h1
    pointwise [prod, k0_pay30, k0_pay9]
    simp only [← Nat.add_assoc, Nat.reduceAdd]
  · refine key_piece x w p f a b 1664 (by decide) (by decide) (by decide) _ (fun i l => ?_) z y h0 h1
    pointwise [prod, k0_pay30, k0_pay32, k0_pay9]
    simp only [← Nat.add_assoc, Nat.reduceAdd]
  · refine key_piece x w p f a b 1536 (by decide) (by decide) (by decide) _ (fun i l => ?_) z y h0 h1
    pointwise [prod, k0_pay30, k0_pay9]
  · refine query_piece x w p f a b 1408 (by decide) (by decide) (by decide) _ (fun i l => ?_) z y h0 h1
    pointwise [prod, k0_pay25, k0_pay9]
    simp only [← Nat.add_assoc, Nat.reduceAdd]
  · refine query_piece x w p f a b 1280 (by decide) (by decide) (by decide) _ (fun i l => ?_) z y h0 h1
    pointwise [prod, k0_pay25, k0_pay9]
    simp only [← Nat.add_assoc, Nat.reduceAdd]
  · refine query_piece x w p f a b 1152 (by decide) (by decide) (by decide) _ (fun i l => ?_) z y h0 h1
    pointwise [prod, k0_pay25, k0_pay9]
    simp only [← Nat.add_assoc, Nat.reduceAdd]
  · refine query_piece x w p f a b 1024 (by decide) (by decide) (by decide) _ (fun i l => ?_) z y h0 h1
    pointwise [prod, k0_pay25, k0_pay9]
  · refine query_piece x w p f a b 896 (by decide) (by decide) (by decide) _ (fun i l => ?_) z y h0 h1
    pointwise [prod, k0_pay20, k0_pay9]
    simp only [← Nat.add_assoc, Nat.reduceAdd]
  · refine query_piece x w p f a b 768 (by decide) (by decide) (by decide) _ (fun i l => ?_) z y h0 h1
    pointwise [prod, k0_pay20, k0_pay9]
    simp only [← Nat.add_assoc, Nat.reduceAdd]
  · refine query_piece x w p f a b 640 (by decide) (by decide) (by decide) _ (fun i l => ?_) z y h0 h1
    pointwise [prod, k0_pay20, k0_pay9]
    simp only [← Nat.add_assoc, Nat.reduceAdd]
  · refine query_piece x w p f a b 512 (by decide) (by decide) (by decide) _ (fun i l => ?_) z y h0 h1
    pointwise [prod, k0_pay20, k0_pay9]
  · refine plain_piece x w p f a b 384 (by decide) (by decide) _ (fun i l => ?_) z y h0 h1
    pointwise [prod, k0_pay15, k0_pay9]
  · refine plain_piece x w p f a b 256 (by decide) (by decide) _ (fun i l => ?_) z y h0 h1
    pointwise [prod, k0_pay15, k0_pay9]
  · refine plain_piece x w p f a b 128 (by decide) (by decide) _ (fun i l => ?_) z y h0 h1
    pointwise [prod, k0_pay15, k0_pay9]
  · refine plain_piece x w p f a b 0 (by decide) (by decide) _ (fun i l => ?_) z y h0 (h1.trans (Nat.zero_add _).symm)
    pointwise [prod, k0_pay15, k0_pay9]

end Cert.Inproj

end
-- ==== Proof.InprojRef.lean ====
/- The input projection's reference, entry by entry: the product's row, with the first sixteen columns of each query and key head
   turned by the rotary angles. -/
module

public import proofs.«01_k».proof.Proof.Gen.Reference3Ideal
public import proofs.«01_k».proof.Proof.Gen.Reference3Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Inproj

/-- The exponent of a rotary frequency. -/
def power (e : Fin 8) : EReal := ((-(e : ℝ) / 8 : ℝ) : EReal)

/-- A rotary frequency. -/
def freq (e : Fin 8) : EReal := FloatOps.powf (F := Ideal) (φ := .f32) (FloatOps.ofBits (F := Ideal) .f32 0x48F42400#32) (power e)

/-- A column of a row, turned within its head of 64 columns by the row's angles. -/
def rope (y : Fin 2560 → EReal) (a : Fin 8 → EReal) (n : Fin 2560) : EReal :=
  if h : (n : ℕ) % 64 < 8 then
    y n * FloatOps.cos (F := Ideal) (φ := .f32) (a ⟨(n : ℕ) % 64, h⟩)
      - y ⟨(n : ℕ) + 8, by omega⟩ * FloatOps.sin (F := Ideal) (φ := .f32) (a ⟨(n : ℕ) % 64, h⟩)
  else if h' : (n : ℕ) % 64 < 16 then
    y n * FloatOps.cos (F := Ideal) (φ := .f32) (a ⟨(n : ℕ) % 64 - 8, by omega⟩)
      + y ⟨(n : ℕ) - 8, by omega⟩ * FloatOps.sin (F := Ideal) (φ := .f32) (a ⟨(n : ℕ) % 64 - 8, by omega⟩)
  else y n

theorem rope_first (y : Fin 2560 → EReal) (a : Fin 8 → EReal) (n : Fin 2560) (e : Fin 8) (h : (n : ℕ) % 64 = e) :
    rope y a n = y n * FloatOps.cos (F := Ideal) (φ := .f32) (a e)
      - y ⟨(n : ℕ) + 8, by omega⟩ * FloatOps.sin (F := Ideal) (φ := .f32) (a e) := by
  have l : (n : ℕ) % 64 < 8 := by omega
  have q : (⟨(n : ℕ) % 64, l⟩ : Fin 8) = e := Fin.ext h
  unfold rope
  rw [dif_pos l, q]

theorem rope_second (y : Fin 2560 → EReal) (a : Fin 8 → EReal) (n : Fin 2560) (e : Fin 8) (h : (n : ℕ) % 64 = 8 + e) :
    rope y a n = y n * FloatOps.cos (F := Ideal) (φ := .f32) (a e)
      + y ⟨(n : ℕ) - 8, by omega⟩ * FloatOps.sin (F := Ideal) (φ := .f32) (a e) := by
  have l : ¬ (n : ℕ) % 64 < 8 := by omega
  have l' : (n : ℕ) % 64 < 16 := by omega
  have q : (⟨(n : ℕ) % 64 - 8, by omega⟩ : Fin 8) = e := Fin.ext (by simp only; omega)
  unfold rope
  rw [dif_neg l, dif_pos l', q]

theorem rope_rest (y : Fin 2560 → EReal) (a : Fin 8 → EReal) (n : Fin 2560) (h : 16 ≤ (n : ℕ) % 64) : rope y a n = y n := by
  unfold rope
  exact (dif_neg (by omega)).trans (dif_neg (by omega))

/-- A column of a row of the result. -/
def rowEntry (y : Fin 2560 → EReal) (a : Fin 8 → EReal) (n : Fin 2560) : EReal :=
  if (n : ℕ) < 512 then y n
  else if (n : ℕ) < 1536 then rope y a n * FloatOps.ofBits (F := Ideal) .f32 0x3E000000#32
  else if (n : ℕ) < 1792 then rope y a n
  else y n

open Cert.Reference3Ideal Cert.Reference3Ideal.Gen

/-- The projection. -/
def hidden (x : FVec Ideal S2x4096x2048 .f32) (w : FVec Ideal S1x2048x2560 .f32) : FVec Ideal S2x4096x2560 .f32 :=
  Host.dotGeneral (φ₁ := .f32) (φ₂ := .f32) dot_S2x4096x2048_S2048x2560_S2x4096x2560_2_0_01_1_n_n none x
    (shapeCast S2048x2560 w shapeCasts_S1x2048x2560_S2048x2560)

/-- The frequencies' exponents. -/
def powers : FVec Ideal S8 .f32 :=
  Host.divf (Host.negf (addf (broadcastInDim S8 ![] bcast_S_S8 (constant S_ .f32 0x00000000#32))
      (mulf (broadcastInDim S8 ![] bcast_S_S8 (constant S_ .f32 0x40000000#32)) (sitofp .f32 (iotaInDim S8 32 0)))))
    (broadcastInDim S8 ![] bcast_S_S8 (constant S_ .f32 0x41800000#32))

def freqs : FVec Ideal S8 .f32 :=
  Host.powf (broadcastInDim S8 ![] bcast_S_S8 (constant S_ .f32 0x48F42400#32)) powers

/-- The angles of every token. -/
def angles (p : IVec S2x4096 32) : FVec Ideal S2x4096x8 .f32 :=
  mulf (broadcastInDim S2x4096x8 ![0, 1, 2] bcast_S2x4096x1_S2x4096x8_0_1_2
      (broadcastInDim S2x4096x1 ![0, 1] bcast_S2x4096_S2x4096x1_0_1 (sitofp .f32 p)))
    (broadcastInDim S2x4096x8 ![0, 1, 2] bcast_S1x1x8_S2x4096x8_0_1_2 (broadcastInDim S1x1x8 ![2] bcast_S8_S1x1x8_2 freqs))

def cosines (p : IVec S2x4096 32) : FVec Ideal S2x4096x1x8 .f32 :=
  broadcastInDim S2x4096x1x8 ![0, 1, 3] bcast_S2x4096x8_S2x4096x1x8_0_1_3 (Host.cos (angles p))

def sines (p : IVec S2x4096 32) : FVec Ideal S2x4096x1x8 .f32 :=
  broadcastInDim S2x4096x1x8 ![0, 1, 3] bcast_S2x4096x8_S2x4096x1x8_0_1_3 (Host.sin (angles p))

theorem hidden_at (x : FVec Ideal S2x4096x2048 .f32) (w : FVec Ideal S1x2048x2560 .f32) (b : Fin 2) (s : Fin 4096) (n : Fin 2560) :
    hidden x w (ix3 b s n) = ∑ k : Fin 2048, x (ix3 b s k) * w (ix3 0 k n) := by
  pointwise [hidden]

theorem powers_at (e : Fin 8) : powers (ix1 e) = power e := by
  pointwise [powers]
  have two : Ideal.ofBits .f32 1073741824#32 = ((2 : ℝ) : EReal) := by
    show Ideal.ofBits .f32 1073741824#32 = _
    simp [Ideal.ofBits, Ideal.ieee, -EReal.coe_mul]
    norm_num
  have sixteen : Ideal.ofBits .f32 1098907648#32 = ((16 : ℝ) : EReal) := by
    show Ideal.ofBits .f32 1098907648#32 = _
    simp [Ideal.ofBits, Ideal.ieee, -EReal.coe_mul]
    norm_num
  have whole : FloatOps.sitofp (F := Ideal) .f32 (BitVec.ofNat 32 (e : ℕ)) = (((e : ℕ) : ℝ) : EReal) := by
    have he : (BitVec.ofNat 32 (e : ℕ)).toInt = ((e : ℕ) : ℤ) := by
      fin_cases e <;> rfl
    show (((BitVec.ofNat 32 (e : ℕ)).toInt : ℝ) : EReal) = _
    rw [he]
    norm_num
  rw [two, sixteen, whole, ← EReal.coe_mul, ← EReal.coe_neg, Ideal.div_coe (by norm_num)]
  unfold power
  refine (EReal.coe_mul _ _).symm.trans (congrArg _ ?_)
  ring

theorem freqs_at (e : Fin 8) : freqs (ix1 e) = freq e := by
  unfold freq
  rw [← powers_at]
  pointwise [freqs]

theorem angles_at (p : IVec S2x4096 32) (b : Fin 2) (s : Fin 4096) (e : Fin 8) :
    angles p (ix3 b s e) = FloatOps.sitofp (F := Ideal) .f32 (p (ix2 b s)) * freq e := by
  rw [← freqs_at]
  pointwise [angles]

theorem cosines_at (p : IVec S2x4096 32) (b : Fin 2) (s : Fin 4096) (e : Fin 8) :
    cosines p (ix4 b s 0 e) = FloatOps.cos (F := Ideal) (φ := .f32) (FloatOps.sitofp (F := Ideal) .f32 (p (ix2 b s)) * freq e) := by
  rw [← angles_at]
  pointwise [cosines]

theorem sines_at (p : IVec S2x4096 32) (b : Fin 2) (s : Fin 4096) (e : Fin 8) :
    sines p (ix4 b s 0 e) = FloatOps.sin (F := Ideal) (φ := .f32) (FloatOps.sitofp (F := Ideal) .f32 (p (ix2 b s)) * freq e) := by
  rw [← angles_at]
  pointwise [sines]

/-! ## The queries -/

def qHeads (h : FVec Ideal S2x4096x2560 .f32) : FVec Ideal S2x4096x16x64 .f32 :=
  shapeCast S2x4096x16x64 (extractStridedSlice S2x4096x1024 ![0, 0, 512] h slices_S2x4096x2560_S2x4096x1024_0_0_512)
    shapeCasts_S2x4096x1024_S2x4096x16x64

theorem qHeads_at (h : FVec Ideal S2x4096x2560 .f32) (b : Fin 2) (s : Fin 4096) (a : Fin 16) (d : Fin 64) :
    qHeads h (ix4 b s a d) = h (ix3 b s ⟨512 + ((a : ℕ) * 64 + d), by omega⟩) := by
  pointwise [qHeads]

def qFirst (t : FVec Ideal S2x4096x16x64 .f32) (c s : FVec Ideal S2x4096x1x8 .f32) : FVec Ideal S2x4096x16x8 .f32 :=
  subf (mulf (extractStridedSlice S2x4096x16x8 ![0, 0, 0, 0] t slices_S2x4096x16x64_S2x4096x16x8_0_0_0_0)
      (broadcastInDim S2x4096x16x8 ![0, 1, 2, 3] bcast_S2x4096x1x8_S2x4096x16x8_0_1_2_3 c))
    (mulf (extractStridedSlice S2x4096x16x8 ![0, 0, 0, 8] t slices_S2x4096x16x64_S2x4096x16x8_0_0_0_8)
      (broadcastInDim S2x4096x16x8 ![0, 1, 2, 3] bcast_S2x4096x1x8_S2x4096x16x8_0_1_2_3 s))

def qSecond (t : FVec Ideal S2x4096x16x64 .f32) (c s : FVec Ideal S2x4096x1x8 .f32) : FVec Ideal S2x4096x16x8 .f32 :=
  addf (mulf (extractStridedSlice S2x4096x16x8 ![0, 0, 0, 8] t slices_S2x4096x16x64_S2x4096x16x8_0_0_0_8)
      (broadcastInDim S2x4096x16x8 ![0, 1, 2, 3] bcast_S2x4096x1x8_S2x4096x16x8_0_1_2_3 c))
    (mulf (extractStridedSlice S2x4096x16x8 ![0, 0, 0, 0] t slices_S2x4096x16x64_S2x4096x16x8_0_0_0_0)
      (broadcastInDim S2x4096x16x8 ![0, 1, 2, 3] bcast_S2x4096x1x8_S2x4096x16x8_0_1_2_3 s))

def qRest (t : FVec Ideal S2x4096x16x64 .f32) : FVec Ideal S2x4096x16x48 .f32 :=
  extractStridedSlice S2x4096x16x48 ![0, 0, 0, 16] t slices_S2x4096x16x64_S2x4096x16x48_0_0_0_16

theorem qFirst_at (t : FVec Ideal S2x4096x16x64 .f32) (c s : FVec Ideal S2x4096x1x8 .f32) (i : Fin 2) (j : Fin 4096) (a : Fin 16)
    (e : Fin 8) : qFirst t c s (ix4 i j a e)
      = t (ix4 i j a ⟨(e : ℕ), by omega⟩) * c (ix4 i j 0 e) - t (ix4 i j a ⟨8 + (e : ℕ), by omega⟩) * s (ix4 i j 0 e) := by
  pointwise [qFirst]

theorem qSecond_at (t : FVec Ideal S2x4096x16x64 .f32) (c s : FVec Ideal S2x4096x1x8 .f32) (i : Fin 2) (j : Fin 4096) (a : Fin 16)
    (e : Fin 8) : qSecond t c s (ix4 i j a e)
      = t (ix4 i j a ⟨8 + (e : ℕ), by omega⟩) * c (ix4 i j 0 e) + t (ix4 i j a ⟨(e : ℕ), by omega⟩) * s (ix4 i j 0 e) := by
  pointwise [qSecond]

theorem qRest_at (t : FVec Ideal S2x4096x16x64 .f32) (i : Fin 2) (j : Fin 4096) (a : Fin 16) (e : Fin 48) :
    qRest t (ix4 i j a e) = t (ix4 i j a ⟨16 + (e : ℕ), by omega⟩) := by
  pointwise [qRest]

theorem qJoin_at (u v : FVec Ideal S2x4096x16x8 .f32) (r : FVec Ideal S2x4096x16x48 .f32) (i : Fin 2) (j : Fin 4096) (a : Fin 16)
    (d : Fin 64) : Value.fn_main_v41 (F := Ideal) u v r (ix4 i j a d)
      = if h : (d : ℕ) < 8 then u (ix4 i j a ⟨d, h⟩) else if h' : (d : ℕ) - 8 < 8 then v (ix4 i j a ⟨(d : ℕ) - 8, h'⟩)
        else r (ix4 i j a ⟨(d : ℕ) - 8 - 8, by omega⟩) := by
  pointwise [Value.fn_main_v41]

/-- The queries' heads, turned. -/
def qTurned (h : FVec Ideal S2x4096x2560 .f32) (p : IVec S2x4096 32) : FVec Ideal S2x4096x16x64 .f32 :=
  Value.fn_main_v41 (F := Ideal) (qFirst (qHeads h) (cosines p) (sines p)) (qSecond (qHeads h) (cosines p) (sines p)) (qRest (qHeads h))

theorem qTurned_at (h : FVec Ideal S2x4096x2560 .f32) (p : IVec S2x4096 32) (i : Fin 2) (j : Fin 4096) (a : Fin 16) (d : Fin 64) :
    qTurned h p (ix4 i j a d)
      = rope (fun n => h (ix3 i j n)) (fun e => FloatOps.sitofp (F := Ideal) .f32 (p (ix2 i j)) * freq e)
          ⟨512 + ((a : ℕ) * 64 + d), by omega⟩ := by
  have m : (512 + ((a : ℕ) * 64 + d)) % 64 = d := by omega
  refine (qJoin_at _ _ _ i j a d).trans ?_
  split_ifs with h0 h1
  · refine Eq.trans ?_ (rope_first _ _ _ ⟨d, h0⟩ m).symm
    rw [qFirst_at, cosines_at, sines_at, qHeads_at, qHeads_at]
    have k : 512 + ((a : ℕ) * 64 + (8 + d)) = 512 + ((a : ℕ) * 64 + d) + 8 := by omega
    simp only [k]
  · refine Eq.trans ?_ (rope_second _ _ _ ⟨(d : ℕ) - 8, h1⟩ (by simp only; omega)).symm
    rw [qSecond_at, cosines_at, sines_at, qHeads_at, qHeads_at]
    have k : 8 + ((d : ℕ) - 8) = d := by omega
    have k' : 512 + ((a : ℕ) * 64 + ((d : ℕ) - 8)) = 512 + ((a : ℕ) * 64 + d) - 8 := by omega
    simp only [k, k']
  · refine Eq.trans ?_ (rope_rest _ _ _ (by simp only; omega)).symm
    rw [qRest_at, qHeads_at]
    have k : 16 + ((d : ℕ) - 8 - 8) = d := by omega
    simp only [k]

/-! ## The keys -/

def kHeads (h : FVec Ideal S2x4096x2560 .f32) : FVec Ideal S2x4096x4x64 .f32 :=
  shapeCast S2x4096x4x64 (extractStridedSlice S2x4096x256 ![0, 0, 1536] h slices_S2x4096x2560_S2x4096x256_0_0_1536)
    shapeCasts_S2x4096x256_S2x4096x4x64

theorem kHeads_at (h : FVec Ideal S2x4096x2560 .f32) (b : Fin 2) (s : Fin 4096) (a : Fin 4) (d : Fin 64) :
    kHeads h (ix4 b s a d) = h (ix3 b s ⟨1536 + ((a : ℕ) * 64 + d), by omega⟩) := by
  pointwise [kHeads]

def kFirst (t : FVec Ideal S2x4096x4x64 .f32) (c s : FVec Ideal S2x4096x1x8 .f32) : FVec Ideal S2x4096x4x8 .f32 :=
  subf (mulf (extractStridedSlice S2x4096x4x8 ![0, 0, 0, 0] t slices_S2x4096x4x64_S2x4096x4x8_0_0_0_0)
      (broadcastInDim S2x4096x4x8 ![0, 1, 2, 3] bcast_S2x4096x1x8_S2x4096x4x8_0_1_2_3 c))
    (mulf (extractStridedSlice S2x4096x4x8 ![0, 0, 0, 8] t slices_S2x4096x4x64_S2x4096x4x8_0_0_0_8)
      (broadcastInDim S2x4096x4x8 ![0, 1, 2, 3] bcast_S2x4096x1x8_S2x4096x4x8_0_1_2_3 s))

def kSecond (t : FVec Ideal S2x4096x4x64 .f32) (c s : FVec Ideal S2x4096x1x8 .f32) : FVec Ideal S2x4096x4x8 .f32 :=
  addf (mulf (extractStridedSlice S2x4096x4x8 ![0, 0, 0, 8] t slices_S2x4096x4x64_S2x4096x4x8_0_0_0_8)
      (broadcastInDim S2x4096x4x8 ![0, 1, 2, 3] bcast_S2x4096x1x8_S2x4096x4x8_0_1_2_3 c))
    (mulf (extractStridedSlice S2x4096x4x8 ![0, 0, 0, 0] t slices_S2x4096x4x64_S2x4096x4x8_0_0_0_0)
      (broadcastInDim S2x4096x4x8 ![0, 1, 2, 3] bcast_S2x4096x1x8_S2x4096x4x8_0_1_2_3 s))

def kRest (t : FVec Ideal S2x4096x4x64 .f32) : FVec Ideal S2x4096x4x48 .f32 :=
  extractStridedSlice S2x4096x4x48 ![0, 0, 0, 16] t slices_S2x4096x4x64_S2x4096x4x48_0_0_0_16

theorem kFirst_at (t : FVec Ideal S2x4096x4x64 .f32) (c s : FVec Ideal S2x4096x1x8 .f32) (i : Fin 2) (j : Fin 4096) (a : Fin 4)
    (e : Fin 8) : kFirst t c s (ix4 i j a e)
      = t (ix4 i j a ⟨(e : ℕ), by omega⟩) * c (ix4 i j 0 e) - t (ix4 i j a ⟨8 + (e : ℕ), by omega⟩) * s (ix4 i j 0 e) := by
  pointwise [kFirst]

theorem kSecond_at (t : FVec Ideal S2x4096x4x64 .f32) (c s : FVec Ideal S2x4096x1x8 .f32) (i : Fin 2) (j : Fin 4096) (a : Fin 4)
    (e : Fin 8) : kSecond t c s (ix4 i j a e)
      = t (ix4 i j a ⟨8 + (e : ℕ), by omega⟩) * c (ix4 i j 0 e) + t (ix4 i j a ⟨(e : ℕ), by omega⟩) * s (ix4 i j 0 e) := by
  pointwise [kSecond]

theorem kRest_at (t : FVec Ideal S2x4096x4x64 .f32) (i : Fin 2) (j : Fin 4096) (a : Fin 4) (e : Fin 48) :
    kRest t (ix4 i j a e) = t (ix4 i j a ⟨16 + (e : ℕ), by omega⟩) := by
  pointwise [kRest]

theorem kJoin_at (u v : FVec Ideal S2x4096x4x8 .f32) (r : FVec Ideal S2x4096x4x48 .f32) (i : Fin 2) (j : Fin 4096) (a : Fin 4)
    (d : Fin 64) : Value.fn_main_v78 (F := Ideal) u v r (ix4 i j a d)
      = if h : (d : ℕ) < 8 then u (ix4 i j a ⟨d, h⟩) else if h' : (d : ℕ) - 8 < 8 then v (ix4 i j a ⟨(d : ℕ) - 8, h'⟩)
        else r (ix4 i j a ⟨(d : ℕ) - 8 - 8, by omega⟩) := by
  pointwise [Value.fn_main_v78]

/-- The keys' heads, turned. -/
def kTurned (h : FVec Ideal S2x4096x2560 .f32) (p : IVec S2x4096 32) : FVec Ideal S2x4096x4x64 .f32 :=
  Value.fn_main_v78 (F := Ideal) (kFirst (kHeads h) (cosines p) (sines p)) (kSecond (kHeads h) (cosines p) (sines p)) (kRest (kHeads h))

theorem kTurned_at (h : FVec Ideal S2x4096x2560 .f32) (p : IVec S2x4096 32) (i : Fin 2) (j : Fin 4096) (a : Fin 4) (d : Fin 64) :
    kTurned h p (ix4 i j a d)
      = rope (fun n => h (ix3 i j n)) (fun e => FloatOps.sitofp (F := Ideal) .f32 (p (ix2 i j)) * freq e)
          ⟨1536 + ((a : ℕ) * 64 + d), by omega⟩ := by
  have m : (1536 + ((a : ℕ) * 64 + d)) % 64 = d := by omega
  refine (kJoin_at _ _ _ i j a d).trans ?_
  split_ifs with h0 h1
  · refine Eq.trans ?_ (rope_first _ _ _ ⟨d, h0⟩ m).symm
    rw [kFirst_at, cosines_at, sines_at, kHeads_at, kHeads_at]
    have k : 1536 + ((a : ℕ) * 64 + (8 + d)) = 1536 + ((a : ℕ) * 64 + d) + 8 := by omega
    simp only [k]
  · refine Eq.trans ?_ (rope_second _ _ _ ⟨(d : ℕ) - 8, h1⟩ (by simp only; omega)).symm
    rw [kSecond_at, cosines_at, sines_at, kHeads_at, kHeads_at]
    have k : 8 + ((d : ℕ) - 8) = d := by omega
    have k' : 1536 + ((a : ℕ) * 64 + ((d : ℕ) - 8)) = 1536 + ((a : ℕ) * 64 + d) - 8 := by omega
    simp only [k, k']
  · refine Eq.trans ?_ (rope_rest _ _ _ (by simp only; omega)).symm
    rw [kRest_at, kHeads_at]
    have k : 16 + ((d : ℕ) - 8 - 8) = d := by omega
    simp only [k]

/-! ## The whole row -/

def qFlat (t : FVec Ideal S2x4096x16x64 .f32) : FVec Ideal S2x4096x1024 .f32 :=
  shapeCast S2x4096x1024 (mulf t (broadcastInDim S2x4096x16x64 ![] bcast_S_S2x4096x16x64 (constant S_ .f32 0x3E000000#32)))
    shapeCasts_S2x4096x16x64_S2x4096x1024

def kFlat (t : FVec Ideal S2x4096x4x64 .f32) : FVec Ideal S2x4096x256 .f32 :=
  shapeCast S2x4096x256 t shapeCasts_S2x4096x4x64_S2x4096x256

def joined (h : FVec Ideal S2x4096x2560 .f32) (p : IVec S2x4096 32) : FVec Ideal S2x4096x2560 .f32 :=
  Value.fn_main_v81 (F := Ideal) (extractStridedSlice S2x4096x512 ![0, 0, 0] h slices_S2x4096x2560_S2x4096x512_0_0_0)
    (qFlat (qTurned h p)) (kFlat (kTurned h p))
    (extractStridedSlice S2x4096x256 ![0, 0, 1792] h slices_S2x4096x2560_S2x4096x256_0_0_1792)
    (extractStridedSlice S2x4096x512 ![0, 0, 2048] h slices_S2x4096x2560_S2x4096x512_0_0_2048)

/-- The reference's result. -/
def projected (x : FVec Ideal S2x4096x2048 .f32) (w : FVec Ideal S1x2048x2560 .f32) (p : IVec S2x4096 32) : FVec Ideal S8192x2560 .bf16 :=
  truncf .bf16 (shapeCast S8192x2560 (joined (hidden x w) p) shapeCasts_S2x4096x2560_S8192x2560) bitsLt_bf16_f32

theorem qFlat_at (t : FVec Ideal S2x4096x16x64 .f32) (i : Fin 2) (j : Fin 4096) (n : Fin 1024) :
    qFlat t (ix3 i j n) = t (ix4 i j ⟨(n : ℕ) / 64, by omega⟩ ⟨(n : ℕ) % 64, by omega⟩) * FloatOps.ofBits (F := Ideal) .f32 0x3E000000#32 := by
  pointwise [qFlat]

theorem kFlat_at (t : FVec Ideal S2x4096x4x64 .f32) (i : Fin 2) (j : Fin 4096) (n : Fin 256) :
    kFlat t (ix3 i j n) = t (ix4 i j ⟨(n : ℕ) / 64, by omega⟩ ⟨(n : ℕ) % 64, by omega⟩) := by
  pointwise [kFlat]

theorem parts_at (u : FVec Ideal S2x4096x512 .f32) (q : FVec Ideal S2x4096x1024 .f32) (k v : FVec Ideal S2x4096x256 .f32)
    (r : FVec Ideal S2x4096x512 .f32) (i : Fin 2) (j : Fin 4096) (n : Fin 2560) :
    Value.fn_main_v81 (F := Ideal) u q k v r (ix3 i j n)
      = if h0 : (n : ℕ) < 512 then u (ix3 i j ⟨n, h0⟩)
        else if h1 : (n : ℕ) - 512 < 1024 then q (ix3 i j ⟨(n : ℕ) - 512, h1⟩)
        else if h2 : (n : ℕ) - 512 - 1024 < 256 then k (ix3 i j ⟨(n : ℕ) - 512 - 1024, h2⟩)
        else if h3 : (n : ℕ) - 512 - 1024 - 256 < 256 then v (ix3 i j ⟨(n : ℕ) - 512 - 1024 - 256, h3⟩)
        else r (ix3 i j ⟨(n : ℕ) - 512 - 1024 - 256 - 256, by omega⟩) := by
  pointwise [Value.fn_main_v81]

theorem first_at (h : FVec Ideal S2x4096x2560 .f32) (i : Fin 2) (j : Fin 4096) (n : Fin 512) :
    extractStridedSlice S2x4096x512 ![0, 0, 0] h slices_S2x4096x2560_S2x4096x512_0_0_0 (ix3 i j n) = h (ix3 i j ⟨(n : ℕ), by omega⟩) := by
  pointwise []

theorem fourth_at (h : FVec Ideal S2x4096x2560 .f32) (i : Fin 2) (j : Fin 4096) (n : Fin 256) :
    extractStridedSlice S2x4096x256 ![0, 0, 1792] h slices_S2x4096x2560_S2x4096x256_0_0_1792 (ix3 i j n)
      = h (ix3 i j ⟨1792 + (n : ℕ), by omega⟩) := by
  pointwise []

theorem last_at (h : FVec Ideal S2x4096x2560 .f32) (i : Fin 2) (j : Fin 4096) (n : Fin 512) :
    extractStridedSlice S2x4096x512 ![0, 0, 2048] h slices_S2x4096x2560_S2x4096x512_0_0_2048 (ix3 i j n)
      = h (ix3 i j ⟨2048 + (n : ℕ), by omega⟩) := by
  pointwise []

theorem joined_at (h : FVec Ideal S2x4096x2560 .f32) (p : IVec S2x4096 32) (i : Fin 2) (j : Fin 4096) (n : Fin 2560) :
    joined h p (ix3 i j n)
      = rowEntry (fun n => h (ix3 i j n)) (fun e => FloatOps.sitofp (F := Ideal) .f32 (p (ix2 i j)) * freq e) n := by
  unfold joined rowEntry
  refine (parts_at _ _ _ _ _ i j n).trans ?_
  by_cases h0 : (n : ℕ) < 512
  · rw [dif_pos h0, if_pos h0, first_at]
  rw [dif_neg h0, if_neg h0]
  by_cases h1 : (n : ℕ) < 1536
  · rw [dif_pos (by omega), if_pos h1, qFlat_at, qTurned_at]
    have k : 512 + (((n : ℕ) - 512) / 64 * 64 + ((n : ℕ) - 512) % 64) = n := by omega
    simp only [k]
  rw [dif_neg (by omega), if_neg h1]
  by_cases h2 : (n : ℕ) < 1792
  · rw [dif_pos (by omega), if_pos h2, kFlat_at, kTurned_at]
    have k : 1536 + (((n : ℕ) - 512 - 1024) / 64 * 64 + ((n : ℕ) - 512 - 1024) % 64) = n := by omega
    simp only [k]
  rw [dif_neg (by omega), if_neg h2]
  by_cases h3 : (n : ℕ) < 2048
  · rw [dif_pos (by omega), fourth_at]
    have k : 1792 + ((n : ℕ) - 512 - 1024 - 256) = n := by omega
    simp only [k]
  · rw [dif_neg (by omega), last_at]
    have k : 2048 + ((n : ℕ) - 512 - 1024 - 256 - 256) = n := by omega
    simp only [k]

/-- An entry of the reference's result. -/
theorem projected_at (x : FVec Ideal S2x4096x2048 .f32) (w : FVec Ideal S1x2048x2560 .f32) (p : IVec S2x4096 32) (r : Fin 8192) (n : Fin 2560) :
    projected x w p (ix2 r n)
      = rowEntry (fun n => ∑ k : Fin 2048, x (ix3 ⟨(r : ℕ) / 4096, by omega⟩ ⟨(r : ℕ) % 4096, by omega⟩ k) * w (ix3 0 k n))
          (fun e => FloatOps.sitofp (F := Ideal) .f32 (p (ix2 ⟨(r : ℕ) / 4096, by omega⟩ ⟨(r : ℕ) % 4096, by omega⟩)) * freq e) n := by
  pointwise [projected]
  refine (joined_at _ _ _ _ _).trans ?_
  refine congrArg (rowEntry · _ n) (funext fun l => ?_)
  exact hidden_at _ _ _ _ _

open Value in
/-- The reference's run ends with that result. -/
theorem reference_eq (m : (ℓ : Loc nD τ sig) → Buf (Elt Ideal) ℓ) (c : Dev nD) : res_main_v83 m c
    = projected (m ((c.tc : Thread nD τ).loc main_arg0)) (m ((c.tc : Thread nD τ).loc main_arg1)) (m ((c.tc : Thread nD τ).loc main_arg2)) := rfl

end Cert.Inproj

end
-- ==== Proof.Inproj.lean ====
/- The value of the input projection: the blocks the grid leaves are the reference's rows. -/
module

public import proofs.«01_k».proof.Proof.InprojBlock
public import proofs.«01_k».proof.Proof.InprojRef

@[expose] public section

set_option maxRecDepth 16384

noncomputable section

open Idealize.ShloMosaic Idealize.ShloMosaic.TcCoe Idealize.SL.Sem
open Idealize.ShloMosaic.Pipeline (Dat)

namespace Cert.Inproj

open Cert.Kernel3Ideal Cert.Kernel3Ideal.Gen

/-! ## The tables -/

theorem power_bits : ∀ l : Fin 128, lit0 l = (![0x80000000#32, 0xBE000000#32, 0xBE800000#32, 0xBEC00000#32, 0xBF000000#32,
    0xBF200000#32, 0xBF400000#32, 0xBF600000#32] : Fin 8 → BitVec 32) ⟨(l : ℕ) % 8, by omega⟩ := by decide +kernel

theorem chosen_bits : ∀ l : Fin 128, lit1 l = if (l : ℕ) % 64 < 16 then 1#1 else 0#1 := by decide +kernel

theorem down_bits : ∀ l : Fin 128, lit2 l = if (l : ℕ) % 64 < 8 then 0xBF800000#32 else 0x00000000#32 := by decide +kernel

theorem up_bits : ∀ l : Fin 128, lit3 l = if 8 ≤ (l : ℕ) % 64 ∧ (l : ℕ) % 64 < 16 then 0x3F800000#32 else 0x00000000#32 := by
  decide +kernel

theorem power_of_bits (l : Fin 128) : Ideal.ofBits .f32 (lit0 l) = power ⟨(l : ℕ) % 8, by omega⟩ := by
  rw [power_bits]
  generalize (⟨(l : ℕ) % 8, by omega⟩ : Fin 8) = e
  unfold power
  fin_cases e
  all_goals
    simp [Ideal.ofBits, Ideal.ieee, -EReal.coe_mul]
  all_goals
    rw [← EReal.coe_neg]
    refine congrArg _ ?_
    norm_num

theorem minus_one : Ideal.ofBits .f32 0xBF800000#32 = -1 := by
  show Ideal.ofBits .f32 0xBF800000#32 = _
  simp [Ideal.ofBits, Ideal.ieee, -EReal.coe_mul]
  norm_num

theorem one : Ideal.ofBits .f32 0x3F800000#32 = 1 := by
  show Ideal.ofBits .f32 0x3F800000#32 = _
  simp [Ideal.ofBits, Ideal.ieee, -EReal.coe_mul]
  norm_num

theorem zero : Ideal.ofBits .f32 0x00000000#32 = 0 := by
  show Ideal.ofBits .f32 0x00000000#32 = _
  simp [Ideal.ofBits, Ideal.ieee, -EReal.coe_mul]

/-! ## A row of a block -/

section

variable (x : FVec Ideal S512x2048 .f32) (w : FVec Ideal S2048x2560 .bf16) (p : IVec S512x1 32) (f a b : FVec Ideal S1x128 .f32)
  (hf : ∀ l : Fin 128, f (ix2 0 l) = if (l : ℕ) % 64 < 16 then freq ⟨(l : ℕ) % 8, by omega⟩ else 0)
  (ha : ∀ l : Fin 128, a (ix2 0 l) = if (l : ℕ) % 64 < 8 then -1 else 0)
  (hb : ∀ l : Fin 128, b (ix2 0 l) = if 8 ≤ (l : ℕ) % 64 ∧ (l : ℕ) % 64 < 16 then 1 else 0)
  (i : Fin 512) (v : EReal) (hv : FloatOps.sitofp (F := Ideal) .f32 (p (ix2 i 0)) = v)
  (y : Fin 2560 → EReal) (hy : ∀ n, prod x w i n = y n)

include hf ha hb hv hy

theorem turned_eq (n : Fin 2560) : turned x w p f a b i n = rope y (fun e => v * freq e) n := by
  unfold turned angle
  rw [hy, hy, hy, hv, hf, ha, hb]
  have d : (n : ℕ) % 128 % 64 = (n : ℕ) % 64 := by omega
  simp only [d]
  by_cases h0 : (n : ℕ) % 64 < 8
  · have e : (⟨(n : ℕ) % 128 % 8, by omega⟩ : Fin 8) = ⟨(n : ℕ) % 64, h0⟩ := Fin.ext (by simp only; omega)
    have k : (n : ℕ) / 128 * 128 + ((n : ℕ) % 128 + 8) % 128 = (n : ℕ) + 8 := by omega
    rw [rope_first y _ n ⟨(n : ℕ) % 64, h0⟩ rfl, if_pos (by omega), if_pos h0, if_neg (by omega), e, mul_zero, mul_zero, add_zero,
      mul_neg, mul_one, mul_neg, ← sub_eq_add_neg]
    simp only [k]
  by_cases h1 : (n : ℕ) % 64 < 16
  · have e : (⟨(n : ℕ) % 128 % 8, by omega⟩ : Fin 8) = ⟨(n : ℕ) % 64 - 8, by omega⟩ := Fin.ext (by simp only; omega)
    have k : (n : ℕ) / 128 * 128 + ((n : ℕ) % 128 + 120) % 128 = (n : ℕ) - 8 := by omega
    rw [rope_second y _ n ⟨(n : ℕ) % 64 - 8, by omega⟩ (by simp only; omega), if_pos h1, if_neg h0, if_pos (by omega), e, mul_zero, mul_zero,
      add_zero, mul_one]
    simp only [k]
  · rw [rope_rest y _ n (by omega), if_neg h1, if_neg h0, if_neg (by omega), mul_zero, mul_zero, mul_zero, mul_zero, add_zero, add_zero]
    have u : FloatOps.cos (F := Ideal) (φ := .f32) (0 : EReal) = (1 : EReal) := by
      show Ideal.cos (((0 : ℝ) : EReal)) = _
      rw [Ideal.cos_coe, Real.cos_zero]
      rfl
    rw [u, mul_one]

theorem entry_eq (n : Fin 2560) : entry x w p f a b i n = rowEntry y (fun e => v * freq e) n := by
  unfold entry rowEntry
  rw [turned_eq x w p f a b hf ha hb i v hv y hy, hy]

end

variable (m : (ℓ : Loc nD τ sig) → Buf (Elt Ideal) ℓ)

theorem input_eq (c : Dev nD) : V m c main_v0 = shapeCast S8192x2048 (m ((c : Thread nD τ).loc main_arg0)) shapeCasts_S2x4096x2048_S8192x2048 := by
  unfold V
  rfl

theorem weight_eq (c : Dev nD) : V m c main_v2 = truncf (F := Ideal) (φ := .f32) .bf16 (shapeCast S2048x2560 (m ((c : Thread nD τ).loc main_arg1)) shapeCasts_S1x2048x2560_S2048x2560) bitsLt_bf16_f32 := by
  unfold V
  rfl

theorem position_eq (c : Dev nD) : V m c main_v7 = shapeCast S8192x1 (m ((c : Thread nD τ).loc main_arg2)) shapeCasts_S2x4096_S8192x1 := by
  unfold V
  rfl

theorem down_eq (c : Dev nD) : V m c main_cst_0 = fun i => FloatOps.ofBits (F := Ideal) .f32 (lit2 (S1x128.rowMajor i)) := by
  unfold V
  rfl

theorem up_eq (c : Dev nD) : V m c main_cst_1 = fun i => FloatOps.ofBits (F := Ideal) .f32 (lit3 (S1x128.rowMajor i)) := by
  unfold V
  rfl

/-- The frequencies, lane by lane. -/
def table (b : IVec S128 1) (e : FVec Ideal S128 .f32) : FVec Ideal S128 .f32 :=
  select b (Host.powf (broadcastInDim S128 ![] bcast_S_S128 (constant S_ .f32 0x48F42400#32)) e)
    (broadcastInDim S128 ![] bcast_S_S128 (constant S_ .f32 0x00000000#32))

theorem freq_eq (c : Dev nD) : V m c main_v6 = shapeCast S1x128 (table (fun i => lit1 (S128.rowMajor i))
    (fun i => FloatOps.ofBits (F := Ideal) .f32 (lit0 (S128.rowMajor i)))) shapeCasts_S128_S1x128 := by
  unfold V
  rfl

theorem table_at (b : IVec S128 1) (e : FVec Ideal S128 .f32) (l : Fin 128) : shapeCast S1x128 (table b e) shapeCasts_S128_S1x128 (ix2 0 l)
    = if b (ix1 l) = 1 then FloatOps.powf (F := Ideal) (φ := .f32) (FloatOps.ofBits (F := Ideal) .f32 0x48F42400#32) (e (ix1 l)) else 0 := by
  pointwise [table]
  rfl

theorem place_one_val : ∀ l : Fin 128, (S128.rowMajor (ix1 l)).val = l.val := by decide +kernel

theorem place_one (l : Fin 128) : @Eq (Fin 128) (S128.rowMajor (ix1 l)) l := Fin.ext (place_one_val l)

theorem place_two_val : ∀ l : Fin 128, (S1x128.rowMajor (ix2 0 l)).val = l.val := by decide +kernel

theorem place_two (l : Fin 128) : @Eq (Fin 128) (S1x128.rowMajor (ix2 0 l)) l := Fin.ext (place_two_val l)

theorem block_at : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![t.val, 0] :=
  (by decide +kernel : ∀ t : Fin grid0.N, _)

theorem row_lt (t : Fin cfg0.N) (i : Fin 512) : (t : ℕ) * 512 + (i : ℕ) < 8192 := by
  have : (t : ℕ) < 16 := t.isLt
  omega

theorem flat_input (x : FVec Ideal S2x4096x2048 .f32) (r : Fin 8192) (k : Fin 2048) :
    shapeCast S8192x2048 x shapeCasts_S2x4096x2048_S8192x2048 (ix2 r k)
      = x (ix3 ⟨(r : ℕ) / 4096, by omega⟩ ⟨(r : ℕ) % 4096, by omega⟩ k) := by
  pointwise []

theorem flat_weight (w : FVec Ideal S1x2048x2560 .f32) (k : Fin 2048) (n : Fin 2560) :
    truncf (F := Ideal) (φ := .f32) .bf16 (shapeCast S2048x2560 w shapeCasts_S1x2048x2560_S2048x2560) bitsLt_bf16_f32 (ix2 k n)
      = w (ix3 0 k n) := by
  pointwise []

theorem flat_position (p : IVec S2x4096 32) (r : Fin 8192) : shapeCast S8192x1 p shapeCasts_S2x4096_S8192x1 (ix2 r 0)
    = p (ix2 ⟨(r : ℕ) / 4096, by omega⟩ ⟨(r : ℕ) % 4096, by omega⟩) := by
  pointwise []

theorem input_read (c : Dev nD) (t : Fin cfg0.N) (i : Fin 512) (k : Fin 2048) :
    iblk m c 0 t (ix2 i k) = V m c main_v0 (ix2 ⟨(t : ℕ) * 512 + i, row_lt t i⟩ k) := by
  blk_point [iblk, block_at t]

theorem weight_read (c : Dev nD) (t : Fin cfg0.N) (k : Fin 2048) (n : Fin 2560) :
    iblk m c 1 t (ix2 k n) = V m c main_v2 (ix2 k n) := by
  blk_point [iblk, block_at t]

theorem position_read (c : Dev nD) (t : Fin cfg0.N) (i : Fin 512) :
    iblk m c 2 t (ix2 i 0) = V m c main_v7 (ix2 ⟨(t : ℕ) * 512 + i, row_lt t i⟩ 0) := by
  blk_point [iblk, block_at t]

theorem freq_read (c : Dev nD) (t : Fin cfg0.N) (l : Fin 128) : iblk m c 3 t (ix2 0 l) = V m c main_v6 (ix2 0 l) := by
  blk_point [iblk, block_at t]

theorem down_read (c : Dev nD) (t : Fin cfg0.N) (l : Fin 128) : iblk m c 4 t (ix2 0 l) = V m c main_cst_0 (ix2 0 l) := by
  blk_point [iblk, block_at t]

theorem up_read (c : Dev nD) (t : Fin cfg0.N) (l : Fin 128) : iblk m c 5 t (ix2 0 l) = V m c main_cst_1 (ix2 0 l) := by
  blk_point [iblk, block_at t]

theorem freq_at (c : Dev nD) (t : Fin cfg0.N) (l : Fin 128) :
    iblk m c 3 t (ix2 0 l) = if (l : ℕ) % 64 < 16 then freq ⟨(l : ℕ) % 8, by omega⟩ else 0 := by
  refine (freq_read m c t l).trans ((congrFun (freq_eq m c) _).trans ((table_at _ _ l).trans ?_))
  have e : FloatOps.ofBits (F := Ideal) .f32 (lit0 (S128.rowMajor (ix1 l))) = power ⟨(l : ℕ) % 8, by omega⟩ :=
    (congrArg (fun n => Ideal.ofBits .f32 (lit0 n)) (place_one l)).trans (power_of_bits l)
  have q : lit1 (S128.rowMajor (ix1 l)) = if (l : ℕ) % 64 < 16 then 1#1 else 0#1 := (congrArg lit1 (place_one l)).trans (chosen_bits l)
  simp only [e, q]
  split_ifs with h
  · rfl
  · simp at *
  · simp at *
  · rfl

theorem down_at (c : Dev nD) (t : Fin cfg0.N) (l : Fin 128) :
    iblk m c 4 t (ix2 0 l) = if (l : ℕ) % 64 < 8 then (-1 : EReal) else 0 := by
  refine (down_read m c t l).trans ((congrFun (down_eq m c) _).trans ?_)
  refine (congrArg (fun n => Ideal.ofBits .f32 (lit2 n)) (place_two l)).trans ?_
  simp only [down_bits]
  split_ifs
  · exact minus_one
  · exact zero

theorem up_at (c : Dev nD) (t : Fin cfg0.N) (l : Fin 128) :
    iblk m c 5 t (ix2 0 l) = if 8 ≤ (l : ℕ) % 64 ∧ (l : ℕ) % 64 < 16 then (1 : EReal) else 0 := by
  refine (up_read m c t l).trans ((congrFun (up_eq m c) _).trans ?_)
  refine (congrArg (fun n => Ideal.ofBits .f32 (lit3 n)) (place_two l)).trans ?_
  simp only [up_bits]
  split_ifs
  · exact one
  · exact zero

/-- A grid step stores the reference's rows. -/
theorem stored (c : Dev nD) (t : Fin cfg0.N) (i : Fin 512) (n : Fin 2560) :
    entry (iblk m c 0 t) (iblk m c 1 t) (iblk m c 2 t) (iblk m c 3 t) (iblk m c 4 t) (iblk m c 5 t) i n
      = projected (m ((c : Thread nD τ).loc main_arg0)) (m ((c : Thread nD τ).loc main_arg1)) (m ((c : Thread nD τ).loc main_arg2))
          (ix2 ⟨(t : ℕ) * 512 + i, row_lt t i⟩ n) := by
  refine Eq.trans ?_ (projected_at _ _ _ _ n).symm
  refine entry_eq _ _ _ _ _ _ (freq_at m c t) (down_at m c t) (up_at m c t) i _ ?_ _ (fun n => ?_) n
  · refine congrArg (FloatOps.sitofp (F := Ideal) .f32) ?_
    exact (position_read m c t i).trans ((congrFun (position_eq m c) _).trans (flat_position _ _))
  · refine Finset.sum_congr rfl fun k _ => ?_
    refine congrArg₂ (· * ·) ?_ ?_
    · exact (input_read m c t i k).trans ((congrFun (input_eq m c) _).trans (flat_input _ _ _))
    · exact (weight_read m c t k n).trans ((congrFun (weight_eq m c) _).trans (flat_weight _ _ _))

theorem place (t : Fin cfg0.N) (y) : ((cfg0.win 6).blk t).view.emb y = ix2 ⟨(t : ℕ) * 512 + (y 0 : Fin 512), row_lt t (y 0)⟩ (y 1 : Fin 2560) := by
  blk_ext [block_at t]

theorem result (c : Dev nD) : (dats m 0 c).arrAt 6 (cfgs 0).N
    = projected (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6, place]
  exact (out_at _ _ _ _ _ _ y).trans (stored m c t (y 0) (y 1))

end Cert.Inproj

end
-- ==== Proof.MemKv.lean ====
/- The value of the memory's keys and values: the product of the memory's rows and one weight matrix. -/
module

public import proofs.«01_k».proof.Proof.Gen.Kernel6Ideal.Frame
public import proofs.«01_k».proof.Proof.Gen.Reference6Ideal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MemKv

/-- The reference's result. -/
def product (a : FVec Ideal Cert.Reference6Ideal.S2x256x2048 .f32) (w : FVec Ideal Cert.Reference6Ideal.S1x2048x1024 .f32) :
    FVec Ideal Cert.Reference6Ideal.S512x1024 .bf16 :=
  truncf .bf16 (shapeCast Cert.Reference6Ideal.S512x1024
    (Host.dotGeneral Cert.Reference6Ideal.dot_S2x256x2048_S2048x1024_S2x256x1024_2_0_01_1_n_n none a
      (shapeCast Cert.Reference6Ideal.S2048x1024 w Cert.Reference6Ideal.Gen.shapeCasts_S1x2048x1024_S2048x1024))
    Cert.Reference6Ideal.Gen.shapeCasts_S2x256x1024_S512x1024) Cert.Reference6Ideal.Gen.bitsLt_bf16_f32

open Cert.Kernel6Ideal Cert.Kernel6Ideal.Gen

variable (m : (ℓ : Loc nD τ sig) → Buf (Elt Ideal) ℓ)

theorem block_at : ∀ t : Fin cfg0.N, win0_0.index t = ![0, 0] ∧ win0_1.index t = ![0, t.val] ∧ win0_2.index t = ![0, t.val] :=
  (by decide +kernel : ∀ t : Fin grid0.N, _)

/-- A grid step stores the product's columns. -/
theorem stored (c : Dev nD) (t : Fin cfg0.N) (y) :
    k0_pay1 (iblk m c 0 t) (iblk m c 1 t) y
      = product (m ((c : Thread nD τ).loc main_arg0)) (m ((c : Thread nD τ).loc main_arg1)) (((cfg0.win 2).blk t).view.emb y) := by
  pointwise [k0_pay1, product]
  blk_point [iblk, V, block_at t]

theorem result (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]
  frame_out
  exact stored m c t y

end Cert.MemKv

end
-- ==== Proof.Residual.lean ====
/- The value of the second layer norm: the residual's sum is normalised along the model's width, row by row. -/
module

public import proofs.«01_k».proof.Proof.Gen.Kernel7Ideal.Frame
public import proofs.«01_k».proof.Proof.Rows

@[expose] public section

set_option maxRecDepth 16384

noncomputable section

open Idealize.ShloMosaic Idealize.ShloMosaic.TcCoe Idealize.SL.Sem
open Idealize.ShloMosaic.Pipeline (Dat)

namespace Cert.Residual

open Cert.Reference7Ideal Cert.Reference7Ideal.Gen

/-- What is normalised: the input scaled by the residual's constant, plus the feed-forward's output. -/
def total (x f : FVec Ideal S2x4096x2048 .f32) : FVec Ideal S2x4096x2048 .f32 :=
  addf (mulf (broadcastInDim S2x4096x2048 ![] bcast_S_S2x4096x2048 (constant S_ .f32 0x3F9837F0#32)) x) f

/-- The reference's result. -/
def normed (x f : FVec Ideal S2x4096x2048 .f32) (g b : FVec Ideal S1x2048 .f32) : FVec Ideal S8192x2048 .f32 :=
  shapeCast S8192x2048 (Rows.normed (total x f) g b) shapeCasts_S2x4096x2048_S8192x2048

end Cert.Residual

namespace Cert.Residual

open Cert.Kernel7Ideal Cert.Kernel7Ideal.Gen

/-- What a grid step normalises: its two blocks come with the tokens along their second axis. -/
def blockTotal (x f : FVec Ideal S2048x512 .f32) : FVec Ideal S512x2048 .f32 :=
  transpose S512x2048 [1, 0] (addf (mulf (broadcast S2048x512 (Scalar.ofBits .f32 0x3F9837F0#32))
      (shapeCast S2048x512 x shapeCasts_S2048x512_S2048x512)) (shapeCast S2048x512 f shapeCasts_S2048x512_S2048x512))
    transposes_S2048x512_p1_0_S512x2048

theorem blockTotal_at (x f : FVec Ideal S2048x512 .f32) (i : Fin 512) (k : Fin 2048) :
    blockTotal x f (ix2 i k) = FloatOps.ofBits (F := Ideal) .f32 0x3F9837F0#32 * x (ix2 k i) + f (ix2 k i) := by
  pointwise [blockTotal]

theorem total_at (x f : FVec Ideal Cert.Reference7Ideal.S2x4096x2048 .f32) (j : Cert.Reference7Ideal.S2x4096x2048.Idx) :
    total x f j = FloatOps.ofBits (F := Ideal) .f32 0x3F9837F0#32 * x j + f j := by
  pointwise [total]

theorem pay_eq (x f : FVec Ideal S2048x512 .f32) (g b : FVec Ideal S1x2048 .f32) :
    k0_pay1 x f g b = Rows.blockNormed (blockTotal x f) g b := rfl

variable (m : (ℓ : Loc nD τ sig) → Buf (Elt Ideal) ℓ)

theorem block_at : ∀ t : Fin cfg0.N, win0_0.index t = ![0, t.val] ∧ win0_1.index t = ![0, t.val] ∧ win0_2.index t = ![0, 0]
    ∧ win0_3.index t = ![0, 0] ∧ win0_4.index t = ![t.val, 0] :=
  (by decide +kernel : ∀ t : Fin grid0.N, _)

theorem row_lt (t : Fin cfg0.N) (i : Fin 512) : (t : ℕ) * 512 + (i : ℕ) < 8192 := by
  have : (t : ℕ) < 16 := t.isLt
  omega

theorem input_at (c : Dev nD) (t : Fin cfg0.N) (k : Fin 2048) (i : Fin 512) :
    iblk m c 0 t (ix2 k i) = m ((c : Thread nD τ).loc main_arg0)
      (ix3 ⟨((t : ℕ) * 512 + i) / 4096, by have := row_lt t i; omega⟩ ⟨((t : ℕ) * 512 + i) % 4096, by omega⟩ k) := by
  blk_point [iblk, V, block_at t]

theorem output_at (c : Dev nD) (t : Fin cfg0.N) (k : Fin 2048) (i : Fin 512) :
    iblk m c 1 t (ix2 k i) = m ((c : Thread nD τ).loc main_arg1)
      (ix3 ⟨((t : ℕ) * 512 + i) / 4096, by have := row_lt t i; omega⟩ ⟨((t : ℕ) * 512 + i) % 4096, by omega⟩ k) := by
  blk_point [iblk, V, block_at t]

theorem gain_at (c : Dev nD) (t : Fin cfg0.N) (k : Fin 2048) :
    iblk m c 2 t (ix2 0 k) = m ((c : Thread nD τ).loc main_arg2) (ix2 0 k) := by
  blk_point [iblk, V, block_at t]

theorem shift_at (c : Dev nD) (t : Fin cfg0.N) (k : Fin 2048) :
    iblk m c 3 t (ix2 0 k) = m ((c : Thread nD τ).loc main_arg3) (ix2 0 k) := by
  blk_point [iblk, V, block_at t]

theorem normed_at (x f : FVec Ideal Cert.Reference7Ideal.S2x4096x2048 .f32) (g b : FVec Ideal Cert.Reference7Ideal.S1x2048 .f32)
    (r : Fin 8192) (l : Fin 2048) :
    normed x f g b (ix2 r l) = Rows.rowNormed (fun k => total x f (ix3 ⟨(r : ℕ) / 4096, by omega⟩ ⟨(r : ℕ) % 4096, by omega⟩ k))
      (fun k => g (ix2 0 k)) (fun k => b (ix2 0 k)) l := by
  pointwise [normed]
  exact Rows.normed_at _ _ _ _

/-- A grid step stores the reference's rows. -/
theorem stored (c : Dev nD) (t : Fin cfg0.N) (i : Fin 512) (l : Fin 2048) :
    k0_pay1 (iblk m c 0 t) (iblk m c 1 t) (iblk m c 2 t) (iblk m c 3 t) (ix2 i l)
      = normed (m ((c : Thread nD τ).loc main_arg0)) (m ((c : Thread nD τ).loc main_arg1)) (m ((c : Thread nD τ).loc main_arg2))
          (m ((c : Thread nD τ).loc main_arg3)) (ix2 ⟨(t : ℕ) * 512 + i, row_lt t i⟩ l) := by
  rw [pay_eq, Rows.blockNormed_at, normed_at]
  refine congr (congr (congr (congrArg Rows.rowNormed (funext fun k => ?_)) (funext fun k => ?_)) (funext fun k => ?_)) rfl
  · rw [total_at, ← input_at m c t k i, ← output_at m c t k i]
    exact blockTotal_at _ _ _ _
  · exact gain_at m c t k
  · exact shift_at m c t k

theorem place (t : Fin cfg0.N) (y) : ((cfg0.win 4).blk t).view.emb y = ix2 ⟨(t : ℕ) * 512 + (y 0 : Fin 512), row_lt t (y 0)⟩ (y 1 : Fin 2048) := by
  blk_ext [block_at t]

theorem result (c : Dev nD) : (dats m 0 c).arrAt 4 (cfgs 0).N
    = normed (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  frame_out
  rw [place]
  exact (congrArg _ (eq_ix2 y)).trans (stored m c t (y 0) (y 1))

end Cert.Residual

end
-- ==== Proof.Values.lean ====
/- The value claims: each kernel's run and its reference's run end with equal results. -/
module

public import proofs.«01_k».proof.Proof.Frames
public import proofs.«01_k».proof.Proof.Outproj
public import proofs.«01_k».proof.Proof.Inproj
public import proofs.«01_k».proof.Proof.MemKv
public import proofs.«01_k».proof.Proof.Residual
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Values

theorem outproj : Cert.algebraic_Kernel2Ideal_Reference2Ideal := by
  pair_intro
  · run_from Cert.Kernel2Ideal.Gen.run_main m g
  · run_from Cert.Reference2Ideal.Value.run m' g'
    all_goals obtain ⟨h0, h1, h2, h3, h4, h5, h6⟩ := hagree c
    · refine Eq.trans ?_ (Cert.Outproj.result9 m c).symm
      rw [← h0, ← h1, ← h2, ← h3, ← h4, ← h5, ← h6]
      rfl
    · refine Eq.trans ?_ (Cert.Outproj.result10 m c).symm
      rw [← h0, ← h1, ← h2, ← h3, ← h4, ← h5, ← h6]
      rfl

theorem inproj : Cert.algebraic_Kernel3Ideal_Reference3Ideal := by
  pair_intro
  · run_from Cert.Kernel3Ideal.Gen.run_main m g
    · exact Cert.Kernel3Ideal.Gen.V_main_arg0 m c
    · exact Cert.Kernel3Ideal.Gen.V_main_arg1 m c
    · exact Cert.Kernel3Ideal.Gen.V_main_arg2 m c
  · run_from Cert.Reference3Ideal.Value.run m' g'
    obtain ⟨h0, h1, h2⟩ := hagree c
    refine Eq.trans ?_ (Cert.Inproj.result m c).symm
    rw [← h0, ← h1, ← h2]
    exact Cert.Inproj.reference_eq m' c

theorem memKv : Cert.algebraic_Kernel6Ideal_Reference6Ideal := by
  pair_intro
  · run_from Cert.Kernel6Ideal.Gen.run_main m g
  · run_from Cert.Reference6Ideal.Value.run m' g'
    exact (Cert.MemKv.result m c).symm

theorem residual : Cert.algebraic_Kernel7Ideal_Reference7Ideal := by
  pair_intro
  · run_from Cert.Kernel7Ideal.Gen.run_main m g
  · run_from Cert.Reference7Ideal.Value.run m' g'
    exact (Cert.Residual.result m c).symm

end Cert.Values

end
-- ==== Proof.SwaRow.lean ====
/- One row of one head of the windowed attention over the extended reals: dividing the weighted sum of the values by the softmax's
   denominator, as the kernel does, gives what weighting the values by the quotients gives, as the reference does. -/
module

public import Idealize.ShloMosaic.Lib.Pointwise

@[expose] public section

noncomputable section

open Idealize.ShloMosaic

namespace Cert.SwaRow

/-- An extended real that is a real number. -/
def Real' (x : EReal) : Prop := ∃ r : ℝ, x = (r : EReal)

theorem Real'.add {x y : EReal} (hx : Real' x) (hy : Real' y) : Real' (x + y) := by
  obtain ⟨a, rfl⟩ := hx
  obtain ⟨b, rfl⟩ := hy
  exact ⟨a + b, (EReal.coe_add a b).symm⟩

theorem Real'.mul {x y : EReal} (hx : Real' x) (hy : Real' y) : Real' (x * y) := by
  obtain ⟨a, rfl⟩ := hx
  obtain ⟨b, rfl⟩ := hy
  exact ⟨a * b, (EReal.coe_mul a b).symm⟩

theorem Real'.sum {n : ℕ} {f : Fin n → EReal} (h : ∀ k, Real' (f k)) : Real' (∑ k, f k) :=
  Finset.sum_induction f Real' (fun _ _ => Real'.add) ⟨0, rfl⟩ fun k _ => h k

/-- A nonnegative real factor moves into a sum. -/
theorem mul_sum {n : ℕ} (r : ℝ) (hr : 0 ≤ r) (f : Fin n → EReal) : (r : EReal) * ∑ k, f k = ∑ k, (r : EReal) * f k := by
  classical
  have key : ∀ s : Finset (Fin n), (r : EReal) * ∑ k ∈ s, f k = ∑ k ∈ s, (r : EReal) * f k := by
    intro s
    induction s using Finset.induction with
    | empty => simp
    | insert a s ha ih =>
      rw [Finset.sum_insert ha, Finset.sum_insert ha,
        EReal.left_distrib_of_nonneg_of_ne_top (EReal.coe_nonneg.2 hr) (EReal.coe_ne_top r), ih]
  exact key _

/-- The start of a maximum. -/
def low : EReal := FloatOps.ofBits (F := Ideal) .f32 0xFF800000#32

theorem low_eq : low = ⊥ := by
  show Ideal.ofBits .f32 0xFF800000#32 = ⊥
  simp [Ideal.ofBits, Ideal.ieee]

/-- The scale of the scores. -/
def eighth : EReal := FloatOps.ofBits (F := Ideal) .f32 0x3E000000#32

theorem eighth_eq : eighth = ((1 / 8 : ℝ) : EReal) := by
  show Ideal.ofBits .f32 0x3E000000#32 = _
  simp [Ideal.ofBits, Ideal.ieee, -EReal.coe_mul]
  norm_num

/-- The largest of a row's scores and the sink. -/
def top (s : Fin 256 → EReal) (sink : EReal) : EReal := max (Finset.univ.fold max low s) sink

/-- The softmax's denominator, with the sink's term. -/
def den (s : Fin 256 → EReal) (sink : EReal) : EReal := (∑ j, Ideal.exp (s j - top s sink)) + Ideal.exp (sink - top s sink)

/-- The row as the kernel computes it. -/
def row (s : Fin 256 → EReal) (sink : EReal) (v : Fin 256 → EReal) : EReal :=
  Ideal.div (∑ j, Ideal.exp (s j - top s sink) * v j) (den s sink)

/-- The row as the reference computes it. -/
def whole (s : Fin 256 → EReal) (sink : EReal) (v : Fin 256 → EReal) : EReal :=
  ∑ j, v j * Ideal.div (Ideal.exp (s j - top s sink)) (den s sink)

theorem fold_ne_top (s : Fin 256 → EReal) (hs : ∀ j, s j ≠ ⊤) : Finset.univ.fold max low s ≠ ⊤ := by
  classical
  have key : ∀ t : Finset (Fin 256), t.fold max low s ≠ ⊤ := by
    intro t
    induction t using Finset.induction with
    | empty => simp [low_eq]
    | insert a t ha ih =>
      rw [Finset.fold_insert ha]
      rcases max_choice (s a) (t.fold max low s) with h | h <;> rw [h]
      · exact hs a
      · exact ih
  exact key _

theorem top_real (s : Fin 256 → EReal) (sink : EReal) (hs : ∀ j, s j ≠ ⊤) (hk : Real' sink) : Real' (top s sink) := by
  obtain ⟨k, rfl⟩ := hk
  have h1 : top s (k : EReal) ≠ ⊤ := by
    unfold top
    rcases max_choice (Finset.univ.fold max low s) (k : EReal) with h | h <;> rw [h]
    · exact fold_ne_top s hs
    · exact EReal.coe_ne_top k
  have h2 : top s (k : EReal) ≠ ⊥ := by
    intro h
    have : (k : EReal) ≤ ⊥ := h ▸ le_max_right _ _
    exact EReal.coe_ne_bot k (le_bot_iff.1 this)
  exact ⟨(top s (k : EReal)).toReal, (EReal.coe_toReal h1 h2).symm⟩

/-- The exponential of a difference from a real number is a nonnegative real, and it is zero at a score that is not counted. -/
theorem exp_sub (x : EReal) (hx : x ≠ ⊤) (m : ℝ) : ∃ p : ℝ, 0 ≤ p ∧ Ideal.exp (x - (m : EReal)) = (p : EReal) := by
  induction x using EReal.rec with
  | bot => exact ⟨0, le_refl _, by rw [EReal.bot_sub]; rfl⟩
  | coe x => exact ⟨Real.exp (x - m), (Real.exp_pos _).le, by rw [← EReal.coe_sub]; rfl⟩
  | top => exact absurd rfl hx

theorem exp_bot_sub (m : ℝ) : Ideal.exp (⊥ - (m : EReal)) = 0 := by rw [EReal.bot_sub]; rfl

theorem den_real (s : Fin 256 → EReal) (sink : EReal) (hs : ∀ j, s j ≠ ⊤) (hk : Real' sink) :
    ∃ d : ℝ, 0 < d ∧ den s sink = (d : EReal) := by
  obtain ⟨m, hm⟩ := top_real s sink hs hk
  obtain ⟨k, rfl⟩ := hk
  unfold den
  rw [hm]
  have hsum : ∃ a : ℝ, 0 ≤ a ∧ ∑ j, Ideal.exp (s j - (m : EReal)) = (a : EReal) := by
    refine Finset.sum_induction (fun j => Ideal.exp (s j - (m : EReal))) (fun x => ∃ a : ℝ, 0 ≤ a ∧ x = (a : EReal)) ?_ ?_ ?_
    · rintro _ _ ⟨a, ha, rfl⟩ ⟨b, hb, rfl⟩
      exact ⟨a + b, by positivity, (EReal.coe_add a b).symm⟩
    · exact ⟨0, le_refl _, rfl⟩
    · exact fun j _ => exp_sub (s j) (hs j) m
  obtain ⟨a, ha, h⟩ := hsum
  refine ⟨a + Real.exp (k - m), by positivity, ?_⟩
  rw [h, ← EReal.coe_sub, EReal.coe_add]
  rfl

/-- The two rows agree where no score is `+∞`, the sink is a real number, and the values agree wherever a score is counted. -/
theorem whole_eq_row (s : Fin 256 → EReal) (sink : EReal) (v w : Fin 256 → EReal) (hs : ∀ j, s j ≠ ⊤) (hk : Real' sink)
    (hv : ∀ j, s j ≠ ⊥ → w j = v j) : whole s sink w = row s sink v := by
  obtain ⟨d, hd, hden⟩ := den_real s sink hs hk
  obtain ⟨m, hm⟩ := top_real s sink hs hk
  unfold whole row
  rw [hden, hm]
  simp only [Ideal.div_coe hd.ne']
  rw [mul_comm (∑ j, _) _, mul_sum (1 / d) (by positivity)]
  refine Finset.sum_congr rfl fun j _ => ?_
  by_cases h : s j = ⊥
  · rw [h, exp_bot_sub, zero_mul, zero_mul, mul_zero, mul_zero]
  · rw [hv j h, mul_comm (v j), mul_right_comm, mul_comm]

/-! ### Words that stand for small integers -/

/-- The word of an integer. -/
def word (z : ℤ) : BitVec 32 := BitVec.ofInt 32 z

theorem ofNat_word (n : ℕ) : BitVec.ofNat 32 n = word n := (BitVec.ofInt_natCast 32 n).symm

theorem add_word (a b : ℤ) : IntOp.addi (word a) (word b) = word (a + b) := (BitVec.ofInt_add a b).symm

theorem mul_word (a b : ℤ) : IntOp.muli (word a) (word b) = word (a * b) := (BitVec.ofInt_mul a b).symm

theorem sub_word (a b : ℤ) : IntOp.subi (word a) (word b) = word (a - b) := by
  have h : word (a - b) + word b = word a := by
    rw [show word (a - b) + word b = word (a - b + b) from (BitVec.ofInt_add _ _).symm, sub_add_cancel]
  show word a - word b = word (a - b)
  rw [← h, BitVec.add_sub_cancel]

theorem toInt_word (a : ℤ) (h0 : -100000 ≤ a) (h1 : a ≤ 100000) : (word a).toInt = a :=
  BitVec.toInt_ofInt_eq_self (by decide) (by norm_num; omega) (by norm_num; omega)

theorem ge_word (a b : ℤ) (h0 : -100000 ≤ a) (h1 : a ≤ 100000) (h2 : -100000 ≤ b) (h3 : b ≤ 100000) :
    IntOp.cmpi .sge (word a) (word b) = BitVec.ofBool (decide (b ≤ a)) := by
  show BitVec.ofBool (BitVec.sle (word b) (word a)) = _
  rw [BitVec.sle, toInt_word a h0 h1, toInt_word b h2 h3]

theorem lt_word (a b : ℤ) (h0 : -100000 ≤ a) (h1 : a ≤ 100000) (h2 : -100000 ≤ b) (h3 : b ≤ 100000) :
    IntOp.cmpi .slt (word a) (word b) = BitVec.ofBool (decide (a < b)) := by
  show BitVec.ofBool (BitVec.slt (word a) (word b)) = _
  rw [BitVec.slt, toInt_word a h0 h1, toInt_word b h2 h3]

theorem gt_word (a b : ℤ) (h0 : -100000 ≤ a) (h1 : a ≤ 100000) (h2 : -100000 ≤ b) (h3 : b ≤ 100000) :
    IntOp.cmpi .sgt (word a) (word b) = BitVec.ofBool (decide (b < a)) := by
  show BitVec.ofBool (BitVec.slt (word b) (word a)) = _
  rw [BitVec.slt, toInt_word a h0 h1, toInt_word b h2 h3]

theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

theorem or_bit (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

theorem bit_congr {p q : Prop} [Decidable p] [Decidable q] (h : p ↔ q) : BitVec.ofBool (decide p) = BitVec.ofBool (decide q) :=
  congrArg _ (decide_eq_decide.2 h)

theorem select_bit (p : Prop) [Decidable p] (x y : EReal) : Scalar.select (BitVec.ofBool (decide p)) x y = if p then x else y := by
  by_cases h : p <;> simp [h, Scalar.select]

/-- Which keys of block step `n`, counted from the start of the block before it, a row sees: not after it, less than a window
    before it, and not before the sequence. -/
def Seen (n r j : ℕ) : Prop := j ≤ r + 128 ∧ r < j ∧ (128 ≤ j ∨ 0 < n)

instance (n r j : ℕ) : Decidable (Seen n r j) := by unfold Seen; infer_instance

end Cert.SwaRow

end
-- ==== Proof.SwaHead.lean ====
/- One head of the windowed attention in a grid step, read at a row and a column. -/
module

public import proofs.«01_k».proof.Proof.Gen.KernelIdeal.Value
public import proofs.«01_k».proof.Proof.SwaRow

@[expose] public section

set_option maxRecDepth 16384

noncomputable section

open Idealize.ShloMosaic Idealize.ShloMosaic.TcCoe Idealize.SL.Sem
open Idealize.ShloMosaic.Pipeline (Dat)

namespace Cert.SwaHead

open Cert.KernelIdeal Cert.KernelIdeal.Gen

/-- A head's masked scores in a grid step. -/
def scores (b : IVec S128x256 1) (q : FVec Ideal S128x64 .bf16) (k : FVec Ideal S256x64 .bf16) : FVec Ideal S128x256 .f32 :=
  select b (matmul dot_S128x64_S256x64_S128x256_1_1_0_0_n_n none q k (constant S128x256 .f32 0x00000000#32))
    (broadcast S128x256 (Named.named κ "mask" 0xF149F2CA#32))

theorem scores_at (b : IVec S128x256 1) (q : FVec Ideal S128x64 .bf16) (k : FVec Ideal S256x64 .bf16) (r : Fin 128) (j : Fin 256) :
    scores b q k (ix2 r j) = Scalar.select (b (ix2 r j)) (∑ d : Fin 64, q (ix2 r d) * k (ix2 j d)) ⊥ := by
  pointwise [scores]
  rfl

/-- From the scores to the head's output. -/
def attend (s : FVec Ideal S128x256 .f32) (v : FVec Ideal S256x64 .bf16) (sink : Elt Ideal .f32) : FVec Ideal S128x64 .f32 :=
  have m := maximumf (shapeCast S128x1 (multiReduction .maximumf [1] S128 s 0xFF800000#32 reduces_S128x256_S128 (.inl rfl) rfl)
    shapeCasts_S128_S128x1) (broadcast S128x1 sink)
  have p := exp (subf s (broadcastTo S128x256 m broadcasts_S128x1_S128x256))
  have l := addf (shapeCast S128x1 (multiReduction .add [1] S128 p 0x00000000#32 reduces_S128x256_S128 (.inl rfl) rfl)
    shapeCasts_S128_S128x1) (exp (subf (broadcast S128x1 sink) m))
  divf (matmul dot_S128x256_S256x64_S128x64_1_0_0_1_n_n none (truncf .bf16 p bitsLt_bf16_f32) v (constant S128x64 .f32 0x00000000#32))
    (broadcastTo S128x64 l broadcasts_S128x1_S128x64)

theorem attend_at (s : FVec Ideal S128x256 .f32) (v : FVec Ideal S256x64 .bf16) (sink : Elt Ideal .f32) (r : Fin 128) (d : Fin 64) :
    attend s v sink (ix2 r d) = SwaRow.row (fun j => s (ix2 r j)) sink (fun j => v (ix2 j d)) := by
  pointwise [attend]
  rfl

/-- A head from its slices of the queries, the keys and the values. -/
def head (b : IVec S128x256 1) (q : FVec Ideal S128x64 .bf16) (k v : FVec Ideal S256x64 .bf16) (sink : Elt Ideal .f32) :
    FVec Ideal S128x64 .f32 := attend (scores b q k) v sink

theorem pay9_eq (b : IVec S128x256 1) (q : FVec Ideal S128x64 .bf16) (k v : FVec Ideal S256x64 .bf16) (sink : Elt Ideal .f32) :
    k0_pay9 (F := Ideal) b q k v (constant S128x256 .f32 0x00000000#32) sink = head b q k v sink := rfl

theorem head_at (b : IVec S128x256 1) (q : FVec Ideal S128x64 .bf16) (k v : FVec Ideal S256x64 .bf16) (sink : Elt Ideal .f32)
    (r : Fin 128) (d : Fin 64) :
    head b q k v sink (ix2 r d) = SwaRow.row (fun j => Scalar.select (b (ix2 r j)) (∑ e : Fin 64, q (ix2 r e) * k (ix2 j e)) ⊥) sink
      (fun j => v (ix2 j d)) :=
  (attend_at _ _ _ r d).trans (congrArg (fun s => SwaRow.row s sink (fun j => v (ix2 j d))) (funext fun j => scores_at b q k r j))

/-- Sixteen heads side by side. -/
def join (x : Fin 16 → FVec Ideal S128x64 .f32) : FVec Ideal S128x1024 .f32 :=
  concatenate S128x1024 1 [⟨S128x64, x 0⟩, ⟨S128x64, x 1⟩, ⟨S128x64, x 2⟩, ⟨S128x64, x 3⟩, ⟨S128x64, x 4⟩, ⟨S128x64, x 5⟩, ⟨S128x64, x 6⟩, ⟨S128x64, x 7⟩, ⟨S128x64, x 8⟩, ⟨S128x64, x 9⟩, ⟨S128x64, x 10⟩, ⟨S128x64, x 11⟩, ⟨S128x64, x 12⟩, ⟨S128x64, x 13⟩, ⟨S128x64, x 14⟩, ⟨S128x64, x 15⟩]
    concatenates_S128x64_S128x64_S128x64_S128x64_S128x64_S128x64_S128x64_S128x64_S128x64_S128x64_S128x64_S128x64_S128x64_S128x64_S128x64_S128x64_S128x1024_d1

theorem join_at (x : Fin 16 → FVec Ideal S128x64 .f32) (r : Fin 128) (h : Fin 16) (d : Fin 64) :
    join x (ix2 r ⟨64 * (h : ℕ) + d, by omega⟩) = x h (ix2 r d) := by
  refine Idealize.ShloMosaic.concatenate_ofFn_apply (t := S128x1024) (s₁ := S128x64) (1 : Fin 2) x _ rfl 64 rfl _ h ?_ (ix2 r d) ?_ ?_
  · show (64 * (h : ℕ) + (d : ℕ)) / 64 = h
    omega
  · show (d : ℕ) = (64 * (h : ℕ) + (d : ℕ)) % 64
    omega
  · intro b hb
    fin_cases b
    · rfl
    · exact absurd rfl hb

/-- A head from the block's queries, keys and values. -/
def part (b : IVec S128x256 1) (q : FVec Ideal S128x1024 .bf16) (k v : FVec Ideal S256x256 .bf16) (s : Fin 16 → Elt Ideal .f32)
    (h : Fin 16) : FVec Ideal S128x64 .f32 :=
  (![head b (extractStridedSlice S128x64 ![0, 0] q slices_S128x1024_o0_0_S128x64)
      (extractStridedSlice S256x64 ![0, 0] k slices_S256x256_o0_0_S256x64)
      (extractStridedSlice S256x64 ![0, 0] v slices_S256x256_o0_0_S256x64) (s 0),
    head b (extractStridedSlice S128x64 ![0, 64] q slices_S128x1024_o0_64_S128x64)
      (extractStridedSlice S256x64 ![0, 0] k slices_S256x256_o0_0_S256x64)
      (extractStridedSlice S256x64 ![0, 0] v slices_S256x256_o0_0_S256x64) (s 1),
    head b (extractStridedSlice S128x64 ![0, 128] q slices_S128x1024_o0_128_S128x64)
      (extractStridedSlice S256x64 ![0, 0] k slices_S256x256_o0_0_S256x64)
      (extractStridedSlice S256x64 ![0, 0] v slices_S256x256_o0_0_S256x64) (s 2),
    head b (extractStridedSlice S128x64 ![0, 192] q slices_S128x1024_o0_192_S128x64)
      (extractStridedSlice S256x64 ![0, 0] k slices_S256x256_o0_0_S256x64)
      (extractStridedSlice S256x64 ![0, 0] v slices_S256x256_o0_0_S256x64) (s 3),
    head b (extractStridedSlice S128x64 ![0, 256] q slices_S128x1024_o0_256_S128x64)
      (extractStridedSlice S256x64 ![0, 64] k slices_S256x256_o0_64_S256x64)
      (extractStridedSlice S256x64 ![0, 64] v slices_S256x256_o0_64_S256x64) (s 4),
    head b (extractStridedSlice S128x64 ![0, 320] q slices_S128x1024_o0_320_S128x64)
      (extractStridedSlice S256x64 ![0, 64] k slices_S256x256_o0_64_S256x64)
      (extractStridedSlice S256x64 ![0, 64] v slices_S256x256_o0_64_S256x64) (s 5),
    head b (extractStridedSlice S128x64 ![0, 384] q slices_S128x1024_o0_384_S128x64)
      (extractStridedSlice S256x64 ![0, 64] k slices_S256x256_o0_64_S256x64)
      (extractStridedSlice S256x64 ![0, 64] v slices_S256x256_o0_64_S256x64) (s 6),
    head b (extractStridedSlice S128x64 ![0, 448] q slices_S128x1024_o0_448_S128x64)
      (extractStridedSlice S256x64 ![0, 64] k slices_S256x256_o0_64_S256x64)
      (extractStridedSlice S256x64 ![0, 64] v slices_S256x256_o0_64_S256x64) (s 7),
    head b (extractStridedSlice S128x64 ![0, 512] q slices_S128x1024_o0_512_S128x64)
      (extractStridedSlice S256x64 ![0, 128] k slices_S256x256_o0_128_S256x64)
      (extractStridedSlice S256x64 ![0, 128] v slices_S256x256_o0_128_S256x64) (s 8),
    head b (extractStridedSlice S128x64 ![0, 576] q slices_S128x1024_o0_576_S128x64)
      (extractStridedSlice S256x64 ![0, 128] k slices_S256x256_o0_128_S256x64)
      (extractStridedSlice S256x64 ![0, 128] v slices_S256x256_o0_128_S256x64) (s 9),
    head b (extractStridedSlice S128x64 ![0, 640] q slices_S128x1024_o0_640_S128x64)
      (extractStridedSlice S256x64 ![0, 128] k slices_S256x256_o0_128_S256x64)
      (extractStridedSlice S256x64 ![0, 128] v slices_S256x256_o0_128_S256x64) (s 10),
    head b (extractStridedSlice S128x64 ![0, 704] q slices_S128x1024_o0_704_S128x64)
      (extractStridedSlice S256x64 ![0, 128] k slices_S256x256_o0_128_S256x64)
      (extractStridedSlice S256x64 ![0, 128] v slices_S256x256_o0_128_S256x64) (s 11),
    head b (extractStridedSlice S128x64 ![0, 768] q slices_S128x1024_o0_768_S128x64)
      (extractStridedSlice S256x64 ![0, 192] k slices_S256x256_o0_192_S256x64)
      (extractStridedSlice S256x64 ![0, 192] v slices_S256x256_o0_192_S256x64) (s 12),
    head b (extractStridedSlice S128x64 ![0, 832] q slices_S128x1024_o0_832_S128x64)
      (extractStridedSlice S256x64 ![0, 192] k slices_S256x256_o0_192_S256x64)
      (extractStridedSlice S256x64 ![0, 192] v slices_S256x256_o0_192_S256x64) (s 13),
    head b (extractStridedSlice S128x64 ![0, 896] q slices_S128x1024_o0_896_S128x64)
      (extractStridedSlice S256x64 ![0, 192] k slices_S256x256_o0_192_S256x64)
      (extractStridedSlice S256x64 ![0, 192] v slices_S256x256_o0_192_S256x64) (s 14),
    head b (extractStridedSlice S128x64 ![0, 960] q slices_S128x1024_o0_960_S128x64)
      (extractStridedSlice S256x64 ![0, 192] k slices_S256x256_o0_192_S256x64)
      (extractStridedSlice S256x64 ![0, 192] v slices_S256x256_o0_192_S256x64) (s 15)] : Fin 16 → FVec Ideal S128x64 .f32) h

theorem part_at (b : IVec S128x256 1) (q : FVec Ideal S128x1024 .bf16) (k v : FVec Ideal S256x256 .bf16) (s : Fin 16 → Elt Ideal .f32)
    (r : Fin 128) (h : Fin 16) (d : Fin 64) :
    part b q k v s h (ix2 r d)
      = SwaRow.row (fun j => Scalar.select (b (ix2 r j)) (∑ e : Fin 64, q (ix2 r ⟨64 * (h : ℕ) + e, by omega⟩)
          * k (ix2 j ⟨64 * ((h : ℕ) / 4) + e, by omega⟩)) ⊥) (s h) (fun j => v (ix2 j ⟨64 * ((h : ℕ) / 4) + d, by omega⟩)) := by
  fin_cases h
  all_goals
    refine (head_at _ _ _ _ _ r d).trans ?_
    pointwise []

/-- A grid step's store is its sixteen heads side by side. -/
theorem step_eq (b : IVec S128x256 1) (q0 q1 : Vec Ideal S1x128x512 .bf16) (k0 k1 v0 v1 : Vec Ideal S1x128x256 .bf16)
    (s : Fin 16 → Elt Ideal .f32) :
    k0_pay1 (F := Ideal) (k0_pay44 (k0_pay2 q0 q1) (k0_pay3 k0 k1) (k0_pay4 v0 v1) b
      (k0_pay9 b (k0_pay6 q0 q1) (k0_pay7 k0 k1) (k0_pay8 v0 v1) (constant S128x256 .f32 0x00000000#32) (s 0))
      (k0_pay10 (k0_pay2 q0 q1) (k0_pay3 k0 k1) (k0_pay4 v0 v1) b (s 1))
      (k0_pay14 b (k0_pay11 (k0_pay2 q0 q1)) (k0_pay12 (k0_pay3 k0 k1)) (k0_pay13 (k0_pay4 v0 v1)) (constant S128x256 .f32 0x00000000#32) (s 2))
      (k0_pay15 (k0_pay2 q0 q1) (k0_pay3 k0 k1) (k0_pay4 v0 v1) b (s 3))
      (k0_pay19 b (k0_pay16 (k0_pay2 q0 q1)) (k0_pay17 (k0_pay3 k0 k1)) (k0_pay18 (k0_pay4 v0 v1)) (constant S128x256 .f32 0x00000000#32) (s 4))
      (k0_pay20 (k0_pay2 q0 q1) (k0_pay3 k0 k1) (k0_pay4 v0 v1) b (s 5))
      (k0_pay24 b (k0_pay21 (k0_pay2 q0 q1)) (k0_pay22 (k0_pay3 k0 k1)) (k0_pay23 (k0_pay4 v0 v1)) (constant S128x256 .f32 0x00000000#32) (s 6))
      (k0_pay25 (k0_pay2 q0 q1) (k0_pay3 k0 k1) (k0_pay4 v0 v1) b (s 7))
      (k0_pay29 b (k0_pay26 (k0_pay2 q0 q1)) (k0_pay27 (k0_pay3 k0 k1)) (k0_pay28 (k0_pay4 v0 v1)) (constant S128x256 .f32 0x00000000#32) (s 8))
      (k0_pay30 (k0_pay2 q0 q1) (k0_pay3 k0 k1) (k0_pay4 v0 v1) b (s 9))
      (k0_pay34 b (k0_pay31 (k0_pay2 q0 q1)) (k0_pay32 (k0_pay3 k0 k1)) (k0_pay33 (k0_pay4 v0 v1)) (constant S128x256 .f32 0x00000000#32) (s 10))
      (k0_pay35 (k0_pay2 q0 q1) (k0_pay3 k0 k1) (k0_pay4 v0 v1) b (s 11))
      (k0_pay39 b (k0_pay36 (k0_pay2 q0 q1)) (k0_pay37 (k0_pay3 k0 k1)) (k0_pay38 (k0_pay4 v0 v1)) (constant S128x256 .f32 0x00000000#32) (s 12))
      (k0_pay40 (k0_pay2 q0 q1) (k0_pay3 k0 k1) (k0_pay4 v0 v1) b (s 13))
      (k0_pay41 (k0_pay2 q0 q1)) (k0_pay42 (k0_pay3 k0 k1)) (k0_pay43 (k0_pay4 v0 v1)) (constant S128x256 .f32 0x00000000#32) (s 14) (s 15))
      = shapeCast S1x128x1024 (truncf .bf16 (join (part b (k0_pay2 q0 q1) (k0_pay3 k0 k1) (k0_pay4 v0 v1) s)) bitsLt_bf16_f32)
          shapeCasts_S128x1024_S1x128x1024 := rfl

theorem step_of (b : IVec S128x256 1) (q0 q1 : Vec Ideal S1x128x512 .bf16) (k0 k1 v0 v1 : Vec Ideal S1x128x256 .bf16)
    (s : Fin 16 → Elt Ideal .f32) (s0 s1 s2 s3 s4 s5 s6 s7 s8 s9 s10 s11 s12 s13 s14 s15 : Elt Ideal .f32)
    (h0 : s0 = s 0) (h1 : s1 = s 1) (h2 : s2 = s 2) (h3 : s3 = s 3) (h4 : s4 = s 4) (h5 : s5 = s 5) (h6 : s6 = s 6) (h7 : s7 = s 7)
    (h8 : s8 = s 8) (h9 : s9 = s 9) (h10 : s10 = s 10) (h11 : s11 = s 11) (h12 : s12 = s 12) (h13 : s13 = s 13) (h14 : s14 = s 14) (h15 : s15 = s 15) :
    k0_pay1 (F := Ideal) (k0_pay44 (k0_pay2 q0 q1) (k0_pay3 k0 k1) (k0_pay4 v0 v1) b
      (k0_pay9 b (k0_pay6 q0 q1) (k0_pay7 k0 k1) (k0_pay8 v0 v1) (constant S128x256 .f32 0x00000000#32) s0)
      (k0_pay10 (k0_pay2 q0 q1) (k0_pay3 k0 k1) (k0_pay4 v0 v1) b s1)
      (k0_pay14 b (k0_pay11 (k0_pay2 q0 q1)) (k0_pay12 (k0_pay3 k0 k1)) (k0_pay13 (k0_pay4 v0 v1)) (constant S128x256 .f32 0x00000000#32) s2)
      (k0_pay15 (k0_pay2 q0 q1) (k0_pay3 k0 k1) (k0_pay4 v0 v1) b s3)
      (k0_pay19 b (k0_pay16 (k0_pay2 q0 q1)) (k0_pay17 (k0_pay3 k0 k1)) (k0_pay18 (k0_pay4 v0 v1)) (constant S128x256 .f32 0x00000000#32) s4)
      (k0_pay20 (k0_pay2 q0 q1) (k0_pay3 k0 k1) (k0_pay4 v0 v1) b s5)
      (k0_pay24 b (k0_pay21 (k0_pay2 q0 q1)) (k0_pay22 (k0_pay3 k0 k1)) (k0_pay23 (k0_pay4 v0 v1)) (constant S128x256 .f32 0x00000000#32) s6)
      (k0_pay25 (k0_pay2 q0 q1) (k0_pay3 k0 k1) (k0_pay4 v0 v1) b s7)
      (k0_pay29 b (k0_pay26 (k0_pay2 q0 q1)) (k0_pay27 (k0_pay3 k0 k1)) (k0_pay28 (k0_pay4 v0 v1)) (constant S128x256 .f32 0x00000000#32) s8)
      (k0_pay30 (k0_pay2 q0 q1) (k0_pay3 k0 k1) (k0_pay4 v0 v1) b s9)
      (k0_pay34 b (k0_pay31 (k0_pay2 q0 q1)) (k0_pay32 (k0_pay3 k0 k1)) (k0_pay33 (k0_pay4 v0 v1)) (constant S128x256 .f32 0x00000000#32) s10)
      (k0_pay35 (k0_pay2 q0 q1) (k0_pay3 k0 k1) (k0_pay4 v0 v1) b s11)
      (k0_pay39 b (k0_pay36 (k0_pay2 q0 q1)) (k0_pay37 (k0_pay3 k0 k1)) (k0_pay38 (k0_pay4 v0 v1)) (constant S128x256 .f32 0x00000000#32) s12)
      (k0_pay40 (k0_pay2 q0 q1) (k0_pay3 k0 k1) (k0_pay4 v0 v1) b s13)
      (k0_pay41 (k0_pay2 q0 q1)) (k0_pay42 (k0_pay3 k0 k1)) (k0_pay43 (k0_pay4 v0 v1)) (constant S128x256 .f32 0x00000000#32) s14 s15)
      = shapeCast S1x128x1024 (truncf .bf16 (join (part b (k0_pay2 q0 q1) (k0_pay3 k0 k1) (k0_pay4 v0 v1) s)) bitsLt_bf16_f32)
          shapeCasts_S128x1024_S1x128x1024 := by
  subst h0 h1 h2 h3 h4 h5 h6 h7 h8 h9 h10 h11 h12 h13 h14 h15
  exact step_eq b q0 q1 k0 k1 v0 v1 s

theorem step_at (b : IVec S128x256 1) (q : FVec Ideal S128x1024 .bf16) (k v : FVec Ideal S256x256 .bf16)
    (s : Fin 16 → Elt Ideal .f32) (r : Fin 128) (h : Fin 16) (d : Fin 64) :
    shapeCast S1x128x1024 (truncf .bf16 (join (part b q k v s)) bitsLt_bf16_f32) shapeCasts_S128x1024_S1x128x1024
        (ix3 0 r ⟨64 * (h : ℕ) + d, by omega⟩)
      = SwaRow.row (fun j => Scalar.select (b (ix2 r j)) (∑ e : Fin 64, q (ix2 r ⟨64 * (h : ℕ) + e, by omega⟩)
          * k (ix2 j ⟨64 * ((h : ℕ) / 4) + e, by omega⟩)) ⊥) (s h) (fun j => v (ix2 j ⟨64 * ((h : ℕ) / 4) + d, by omega⟩)) := by
  pointwise []
  exact (join_at _ r h d).trans (part_at b q k v s r h d)

theorem queries_at (q0 q1 : Vec Ideal S1x128x512 .bf16) (r : Fin 128) (l : Fin 1024) :
    k0_pay2 (F := Ideal) q0 q1 (ix2 r l) = if hl : (l : ℕ) < 512 then q0 (ix3 0 r ⟨l, hl⟩) else q1 (ix3 0 r ⟨(l : ℕ) - 512, by omega⟩) := by
  pointwise [k0_pay2]

theorem keys_at (k0 k1 : Vec Ideal S1x128x256 .bf16) (j : Fin 256) (l : Fin 256) :
    k0_pay3 (F := Ideal) k0 k1 (ix2 j l) = if hj : (j : ℕ) < 128 then k0 (ix3 0 ⟨j, hj⟩ l) else k1 (ix3 0 ⟨(j : ℕ) - 128, by omega⟩ l) := by
  pointwise [k0_pay3]

theorem values_at (v0 v1 : Vec Ideal S1x128x256 .bf16) (j : Fin 256) (l : Fin 256) :
    k0_pay4 (F := Ideal) v0 v1 (ix2 j l) = if hj : (j : ℕ) < 128 then v0 (ix3 0 ⟨j, hj⟩ l) else v1 (ix3 0 ⟨(j : ℕ) - 128, by omega⟩ l) := by
  pointwise [k0_pay4]

theorem mask_at (i : grid0.Coords) (r : Fin 128) (j : Fin 256) :
    k0_pay5 i (ix2 r j) = BitVec.ofBool (decide (SwaRow.Seen (i 1).val r j)) := by
  have hn : (i 1).val < 32 := (i 1).isLt
  pointwise [k0_pay5]
  rw [show Scalar.cmpi CmpIPredicate.sgt (BitVec.ofNat 32 (i 1).val) 0#32 = IntOp.cmpi .sgt (BitVec.ofNat 32 (i 1).val) 0#32 from rfl,
    show (0#32 : BitVec 32) = SwaRow.word 0 from rfl, show (128#32 : BitVec 32) = SwaRow.word 128 from rfl]
  simp only [SwaRow.ofNat_word, SwaRow.add_word, SwaRow.sub_word]
  rw [SwaRow.ge_word _ _ (by omega) (by omega) (by omega) (by omega), SwaRow.lt_word _ _ (by omega) (by omega) (by omega) (by omega),
    SwaRow.ge_word _ _ (by omega) (by omega) (by omega) (by omega), SwaRow.gt_word _ _ (by omega) (by omega) (by omega) (by omega)]
  simp only [SwaRow.and_bit, SwaRow.or_bit]
  refine SwaRow.bit_congr ?_
  unfold SwaRow.Seen
  omega

end Cert.SwaHead

end
-- ==== Proof.SwaReads.lean ====
/- What each window of the windowed attention holds, read from the packed array and from the arguments. -/
module

public import Idealize.ShloMosaic.Lib.Pipeline.ValueKit
public import Idealize.ShloMosaic.Lib.Pointwise
public import proofs.«01_k».proof.Proof.Gen.KernelIdeal.Frame
public import proofs.«01_k».proof.Proof.SwaRow

@[expose] public section

set_option maxRecDepth 16384

noncomputable section

open Idealize.ShloMosaic Idealize.ShloMosaic.TcCoe Idealize.SL.Sem
open Idealize.ShloMosaic.Pipeline (Dat)

namespace Cert.Swa

open Cert.KernelIdeal Cert.KernelIdeal.Gen

/-- The packed array: zeros, the scaled queries, the keys, the values, zeros. -/
def packed (q : FVec Ideal S2x4096x16x64 .f32) (k v : FVec Ideal S2x4096x4x64 .f32) : FVec Ideal S2x4096x2560 .bf16 :=
  concatenate S2x4096x2560 2 [⟨S2x4096x512, broadcastInDim S2x4096x512 ![] bcast_S_S2x4096x512 (constant (F := Ideal) S_ .bf16 0x0000#16)⟩,
    ⟨S2x4096x1024, truncf .bf16 (mulf (shapeCast S2x4096x1024 q shapeCasts_S2x4096x16x64_S2x4096x1024)
      (broadcastInDim S2x4096x1024 ![] bcast_S_S2x4096x1024 (constant S_ .f32 0x3E000000#32))) bitsLt_bf16_f32⟩,
    ⟨S2x4096x256, truncf .bf16 (shapeCast S2x4096x256 k shapeCasts_S2x4096x4x64_S2x4096x256) bitsLt_bf16_f32⟩,
    ⟨S2x4096x256, truncf .bf16 (shapeCast S2x4096x256 v shapeCasts_S2x4096x4x64_S2x4096x256) bitsLt_bf16_f32⟩,
    ⟨S2x4096x512, broadcastInDim S2x4096x512 ![] bcast_S_S2x4096x512 (constant (F := Ideal) S_ .bf16 0x0000#16)⟩]
    concatenates_S2x4096x512_S2x4096x1024_S2x4096x256_S2x4096x256_S2x4096x512_S2x4096x2560_d2

theorem packed_query (q : FVec Ideal S2x4096x16x64 .f32) (k v : FVec Ideal S2x4096x4x64 .f32) (b : Fin 2) (s : Fin 4096) (l : Fin 1024) :
    packed q k v (ix3 b s ⟨512 + (l : ℕ), by omega⟩) = q (ix4 b s ⟨(l : ℕ) / 64, by omega⟩ ⟨(l : ℕ) % 64, by omega⟩) * SwaRow.eighth := by
  pointwise [packed]
  rfl

theorem packed_key (q : FVec Ideal S2x4096x16x64 .f32) (k v : FVec Ideal S2x4096x4x64 .f32) (b : Fin 2) (s : Fin 4096) (l : Fin 256) :
    packed q k v (ix3 b s ⟨1536 + (l : ℕ), by omega⟩) = k (ix4 b s ⟨(l : ℕ) / 64, by omega⟩ ⟨(l : ℕ) % 64, by omega⟩) := by
  pointwise [packed]
  have h0 : ¬ 1536 + (l : ℕ) < 512 := by omega
  have h1 : ¬ 1536 + (l : ℕ) - 512 < 1024 := by omega
  have h2 : 1536 + (l : ℕ) - 512 - 1024 < 256 := by omega
  have h3 : 1536 + (l : ℕ) - 512 - 1024 = l := by omega
  rw [dif_neg h0, dif_neg h1, dif_pos h2]
  simp only [h3]

theorem packed_value (q : FVec Ideal S2x4096x16x64 .f32) (k v : FVec Ideal S2x4096x4x64 .f32) (b : Fin 2) (s : Fin 4096) (l : Fin 256) :
    packed q k v (ix3 b s ⟨1792 + (l : ℕ), by omega⟩) = v (ix4 b s ⟨(l : ℕ) / 64, by omega⟩ ⟨(l : ℕ) % 64, by omega⟩) := by
  pointwise [packed]
  have h0 : ¬ 1792 + (l : ℕ) < 512 := by omega
  have h1 : ¬ 1792 + (l : ℕ) - 512 < 1024 := by omega
  have h2 : ¬ 1792 + (l : ℕ) - 512 - 1024 < 256 := by omega
  have h3 : 1792 + (l : ℕ) - 512 - 1024 - 256 < 256 := by omega
  have h4 : 1792 + (l : ℕ) - 512 - 1024 - 256 = l := by omega
  rw [dif_neg h0, dif_neg h1, dif_neg h2, dif_pos h3]
  simp only [h4]

variable (m : (ℓ : Loc nD τ sig) → Buf (Elt Ideal) ℓ)

theorem packed_eq (c : Dev nD) : V m c main_v9 = packed (m ((c : Thread nD τ).loc main_arg0)) (m ((c : Thread nD τ).loc main_arg1))
    (m ((c : Thread nD τ).loc main_arg2)) := by
  unfold V
  rfl

theorem block_at : ∀ t : Fin cfg0.N, win0_0.index t = ![0] ∧ win0_1.index t = ![t.val / 32, t.val % 32, 1]
    ∧ win0_2.index t = ![t.val / 32, t.val % 32, 2] ∧ win0_3.index t = ![t.val / 32, t.val % 32, 3]
    ∧ win0_4.index t = ![t.val / 32, t.val % 32 - 1, 3] ∧ win0_5.index t = ![t.val / 32, t.val % 32, 0]
    ∧ (grid0.coords t 1).val = t.val % 32 :=
  (by decide +kernel : ∀ t : Fin grid0.N, _)

theorem step_lt (t : Fin cfg0.N) : (t : ℕ) < 64 := t.isLt

theorem sink_at (c : Dev nD) (t : Fin cfg0.N) (h : Fin 16) : iblk m c 0 t (ix1 h) = m ((c : Thread nD τ).loc main_arg3) (ix1 h) := by
  blk_point [iblk, block_at t]

theorem low_at (c : Dev nD) (t : Fin cfg0.N) (r : Fin 128) (l : Fin 512) :
    iblk m c 1 t (ix3 0 r l) = V m c main_v9 (ix3 ⟨(t : ℕ) / 32, by have := step_lt t; omega⟩
      ⟨(t : ℕ) % 32 * 128 + r, by omega⟩ ⟨512 + (l : ℕ), by omega⟩) := by
  blk_point [iblk, block_at t]

theorem high_at (c : Dev nD) (t : Fin cfg0.N) (r : Fin 128) (l : Fin 512) :
    iblk m c 2 t (ix3 0 r l) = V m c main_v9 (ix3 ⟨(t : ℕ) / 32, by have := step_lt t; omega⟩
      ⟨(t : ℕ) % 32 * 128 + r, by omega⟩ ⟨1024 + (l : ℕ), by omega⟩) := by
  blk_point [iblk, block_at t]

theorem own_at (c : Dev nD) (t : Fin cfg0.N) (r : Fin 128) (l : Fin 512) :
    iblk m c 3 t (ix3 0 r l) = V m c main_v9 (ix3 ⟨(t : ℕ) / 32, by have := step_lt t; omega⟩
      ⟨(t : ℕ) % 32 * 128 + r, by omega⟩ ⟨1536 + (l : ℕ), by omega⟩) := by
  blk_point [iblk, block_at t]

theorem before_at (c : Dev nD) (t : Fin cfg0.N) (r : Fin 128) (l : Fin 512) :
    iblk m c 4 t (ix3 0 r l) = V m c main_v9 (ix3 ⟨(t : ℕ) / 32, by have := step_lt t; omega⟩
      ⟨((t : ℕ) % 32 - 1) * 128 + r, by omega⟩ ⟨1536 + (l : ℕ), by omega⟩) := by
  blk_point [iblk, block_at t]

theorem place (t : Fin cfg0.N) (r : Fin 128) (l : Fin 1024) : ((cfg0.win 5).blk t).view.emb (ix3 0 r l)
    = ix3 ⟨(t : ℕ) / 32, by have := step_lt t; omega⟩ ⟨(t : ℕ) % 32 * 128 + r, by omega⟩ l := by
  blk_ext [block_at t]

end Cert.Swa

end
-- ==== Proof.SwaCell.lean ====
/- What a grid step of the windowed attention stores, in the arguments. -/
module

public import proofs.«01_k».proof.Proof.SwaHead
public import proofs.«01_k».proof.Proof.SwaReads

@[expose] public section

set_option maxRecDepth 16384

noncomputable section

open Idealize.ShloMosaic Idealize.ShloMosaic.TcCoe Idealize.SL.Sem
open Idealize.ShloMosaic.Pipeline (Dat)

namespace Cert.Swa

open Cert.KernelIdeal Cert.KernelIdeal.Gen

variable (m : (ℓ : Loc nD τ sig) → Buf (Elt Ideal) ℓ)

/-- The position of a key in the sequence; before the sequence's start it is not counted. -/
def back (n : ℕ) (j : Fin 256) : ℕ := n * 128 + j - 128

theorem back_lt (n : Fin 32) (j : Fin 256) : back n j < 4096 := by unfold back; omega

/-- A score. -/
def score (q : FVec Ideal S2x4096x16x64 .f32) (k : FVec Ideal S2x4096x4x64 .f32) (b : Fin 2) (n : Fin 32) (h : Fin 16) (r : Fin 128)
    (j : Fin 256) : EReal :=
  if SwaRow.Seen n r j then (∑ e : Fin 64, k (ix4 b ⟨back n j, back_lt n j⟩ ⟨(h : ℕ) / 4, by omega⟩ e)
    * q (ix4 b ⟨(n : ℕ) * 128 + r, by omega⟩ h e)) * SwaRow.eighth else ⊥

/-- The arguments. -/
def queryArg (c : Dev nD) : FVec Ideal S2x4096x16x64 .f32 := m ((c : Thread nD τ).loc main_arg0)
def keyArg (c : Dev nD) : FVec Ideal S2x4096x4x64 .f32 := m ((c : Thread nD τ).loc main_arg1)
def valueArg (c : Dev nD) : FVec Ideal S2x4096x4x64 .f32 := m ((c : Thread nD τ).loc main_arg2)
def sinkArg (c : Dev nD) : FVec Ideal S16 .f32 := m ((c : Thread nD τ).loc main_arg3)

/-- The batch and the block of a grid step. -/
def batch (t : Fin cfg0.N) : Fin 2 := ⟨(t : ℕ) / 32, by have := step_lt t; omega⟩
def block (t : Fin cfg0.N) : Fin 32 := ⟨(t : ℕ) % 32, by omega⟩

theorem query_at (c : Dev nD) (t : Fin cfg0.N) (r : Fin 128) (h : Fin 16) (e : Fin 64) :
    k0_pay2 (F := Ideal) (iblk m c 1 t) (iblk m c 2 t) (ix2 r ⟨64 * (h : ℕ) + e, by omega⟩)
      = queryArg m c (ix4 (batch t) ⟨(block t : ℕ) * 128 + r, by omega⟩ h e) * SwaRow.eighth := by
  have e1 : (64 * (h : ℕ) + e) / 64 = h := by omega
  have e2 : (64 * (h : ℕ) + e) % 64 = e := by omega
  refine (SwaHead.queries_at _ _ r _).trans ?_
  by_cases hl : 64 * (h : ℕ) + (e : ℕ) < 512
  · refine (dif_pos hl).trans ((low_at m c t r _).trans ?_)
    rw [packed_eq]
    refine (packed_query _ _ _ _ _ ⟨64 * (h : ℕ) + e, by omega⟩).trans ?_
    simp only [e1, e2]
    rfl
  · refine (dif_neg hl).trans ((high_at m c t r _).trans ?_)
    rw [packed_eq]
    have e3 : 1024 + (64 * (h : ℕ) + (e : ℕ) - 512) = 512 + (64 * (h : ℕ) + e) := by omega
    simp only [e3]
    refine (packed_query _ _ _ _ _ ⟨64 * (h : ℕ) + e, by omega⟩).trans ?_
    simp only [e1, e2]
    rfl

/-- The keys of a block, -/
def keysOf (x : FVec Ideal S1x128x512 .bf16) (hr : ∀ a, (![0, 0, 0] : Fin 3 → ℕ) a + (![1, 128, 256] : Fin 3 → ℕ) a ≤ S1x128x512.size a) :
    FVec Ideal S1x128x256 .bf16 := View.ld (Val := Elt Ideal) (e' := .bf16) x (Rect.unit (s := S1x128x512) ![0, 0, 0] ![1, 128, 256] hr)

/-- and its values. -/
def valuesOf (x : FVec Ideal S1x128x512 .bf16) (hr : ∀ a, (![0, 0, 256] : Fin 3 → ℕ) a + (![1, 128, 256] : Fin 3 → ℕ) a ≤ S1x128x512.size a) :
    FVec Ideal S1x128x256 .bf16 := View.ld (Val := Elt Ideal) (e' := .bf16) x (Rect.unit (s := S1x128x512) ![0, 0, 256] ![1, 128, 256] hr)

theorem keysOf_at (x : FVec Ideal S1x128x512 .bf16) (hr) (j : Fin 128) (l : Fin 256) :
    keysOf x hr (ix3 0 j l) = x (ix3 0 j ⟨(l : ℕ), by omega⟩) := by
  pointwise [keysOf]

theorem valuesOf_at (x : FVec Ideal S1x128x512 .bf16) (hr) (j : Fin 128) (l : Fin 256) :
    valuesOf x hr (ix3 0 j l) = x (ix3 0 j ⟨256 + (l : ℕ), by omega⟩) := by
  pointwise [valuesOf]

theorem key_at (c : Dev nD) (t : Fin cfg0.N) (h1 h2) (j : Fin 256) (hj : 128 ≤ (j : ℕ) ∨ 0 < (block t : ℕ)) (g : Fin 4) (e : Fin 64) :
    k0_pay3 (F := Ideal) (keysOf (iblk m c 4 t) h1)
      (keysOf (iblk m c 3 t) h2) (ix2 j ⟨64 * (g : ℕ) + e, by omega⟩)
      = keyArg m c (ix4 (batch t) ⟨back (block t) j, back_lt (block t) j⟩ g e) := by
  have e1 : (64 * (g : ℕ) + e) / 64 = g := by omega
  have e2 : (64 * (g : ℕ) + e) % 64 = e := by omega
  refine (SwaHead.keys_at _ _ j _).trans ?_
  by_cases hl : (j : ℕ) < 128
  · refine (dif_pos hl).trans ((keysOf_at _ _ _ _).trans ((before_at m c t _ _).trans ?_))
    rw [packed_eq]
    refine (packed_key _ _ _ _ _ ⟨64 * (g : ℕ) + e, by omega⟩).trans ?_
    have e3 : ((t : ℕ) % 32 - 1) * 128 + (j : ℕ) = back (block t) j := by
      have : (block t : ℕ) = (t : ℕ) % 32 := rfl
      unfold back
      omega
    simp only [e1, e2, e3]
    rfl
  · refine (dif_neg hl).trans ((keysOf_at _ _ _ _).trans ((own_at m c t _ _).trans ?_))
    rw [packed_eq]
    refine (packed_key _ _ _ _ _ ⟨64 * (g : ℕ) + e, by omega⟩).trans ?_
    have e3 : (t : ℕ) % 32 * 128 + ((j : ℕ) - 128) = back (block t) j := by
      have : (block t : ℕ) = (t : ℕ) % 32 := rfl
      unfold back
      omega
    simp only [e1, e2, e3]
    rfl

theorem value_at (c : Dev nD) (t : Fin cfg0.N) (h1 h2) (j : Fin 256) (hj : 128 ≤ (j : ℕ) ∨ 0 < (block t : ℕ)) (g : Fin 4) (e : Fin 64) :
    k0_pay4 (F := Ideal) (valuesOf (iblk m c 4 t) h1)
      (valuesOf (iblk m c 3 t) h2) (ix2 j ⟨64 * (g : ℕ) + e, by omega⟩)
      = valueArg m c (ix4 (batch t) ⟨back (block t) j, back_lt (block t) j⟩ g e) := by
  have e1 : (64 * (g : ℕ) + e) / 64 = g := by omega
  have e2 : (64 * (g : ℕ) + e) % 64 = e := by omega
  have e4 : 1536 + (256 + (64 * (g : ℕ) + (e : ℕ))) = 1792 + (64 * (g : ℕ) + e) := by omega
  refine (SwaHead.values_at _ _ j _).trans ?_
  by_cases hl : (j : ℕ) < 128
  · refine (dif_pos hl).trans ((valuesOf_at _ _ _ _).trans ((before_at m c t _ _).trans ?_))
    rw [packed_eq]
    simp only [e4]
    refine (packed_value _ _ _ _ _ ⟨64 * (g : ℕ) + e, by omega⟩).trans ?_
    have e3 : ((t : ℕ) % 32 - 1) * 128 + (j : ℕ) = back (block t) j := by
      have : (block t : ℕ) = (t : ℕ) % 32 := rfl
      unfold back
      omega
    simp only [e1, e2, e3]
    rfl
  · refine (dif_neg hl).trans ((valuesOf_at _ _ _ _).trans ((own_at m c t _ _).trans ?_))
    rw [packed_eq]
    simp only [e4]
    refine (packed_value _ _ _ _ _ ⟨64 * (g : ℕ) + e, by omega⟩).trans ?_
    have e3 : (t : ℕ) % 32 * 128 + ((j : ℕ) - 128) = back (block t) j := by
      have : (block t : ℕ) = (t : ℕ) % 32 := rfl
      unfold back
      omega
    simp only [e1, e2, e3]
    rfl

/-- The kernel's score is the score. -/
theorem score_at (c : Dev nD) (t : Fin cfg0.N) (h1 h2) (h : Fin 16) (r : Fin 128) (j : Fin 256) :
    Scalar.select (k0_pay5 (grid0.coords t) (ix2 r j))
      (∑ e : Fin 64, k0_pay2 (F := Ideal) (iblk m c 1 t) (iblk m c 2 t) (ix2 r ⟨64 * (h : ℕ) + e, by omega⟩)
        * k0_pay3 (F := Ideal) (keysOf (iblk m c 4 t) h1)
          (keysOf (iblk m c 3 t) h2) (ix2 j ⟨64 * ((h : ℕ) / 4) + e, by omega⟩)) (⊥ : EReal)
      = score (queryArg m c) (keyArg m c) (batch t) (block t) h r j := by
  rw [SwaHead.mask_at, SwaRow.select_bit, show (grid0.coords t 1).val = (block t : ℕ) from (block_at t).2.2.2.2.2.2]
  unfold score
  by_cases hs : SwaRow.Seen (block t) r j
  · refine (if_pos hs).trans (Eq.trans ?_ (if_pos hs).symm)
    refine Eq.trans ?_ (mul_comm SwaRow.eighth _)
    rw [SwaRow.eighth_eq]
    refine Eq.trans ?_ (SwaRow.mul_sum (1 / 8) (by norm_num) _).symm
    refine Finset.sum_congr rfl fun e _ => ?_
    have hk := key_at m c t h1 h2 j hs.2.2 ⟨(h : ℕ) / 4, by omega⟩ e
    refine (congrArg₂ (· * ·) (query_at m c t r h e) hk).trans ?_
    rw [SwaRow.eighth_eq]
    show (_ * _) * _ = _
    rw [mul_comm _ (((1 / 8 : ℝ) : EReal)), mul_assoc, mul_comm (queryArg m c _) (keyArg m c _)]
  · exact (if_neg hs).trans (if_neg hs).symm

end Cert.Swa

end
-- ==== Proof.SwaTop.lean ====
/- A sum and a maximum along the last of six axes, and the reference's row maxima read by them. -/
module

public import proofs.«01_k».proof.Proof.Gen.ReferenceIdeal.Run
public import proofs.«01_k».proof.Proof.SwaRow

@[expose] public section

set_option maxRecDepth 16384

noncomputable section

open Idealize.ShloMosaic Idealize.ShloMosaic.TcCoe Idealize.SL.Sem

namespace Cert.SwaRef

open Cert.ReferenceIdeal Cert.ReferenceIdeal.Gen

section Last

variable {n0 n1 n2 n3 n4 n5 : ℕ}

/-- The entries that drop to one of the first five axes' indices. -/
theorem fiber (h : (⟨6, ![n0, n1, n2, n3, n4, n5]⟩ : Shape).ReducesTo [5] ⟨5, ![n0, n1, n2, n3, n4]⟩) (a : Fin n0) (b : Fin n1) (c : Fin n2)
    (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, funext fun x => Fin.ext ?_⟩
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    refine funext fun x => Fin.ext ?_
    match x with
    | ⟨0, _⟩ => rfl
    | ⟨1, _⟩ => rfl
    | ⟨2, _⟩ => rfl
    | ⟨3, _⟩ => rfl
    | ⟨4, _⟩ => rfl

/-- A sum along the last of six axes. -/
theorem sum_last (h : (⟨6, ![n0, n1, n2, n3, n4, n5]⟩ : Shape).ReducesTo [5] ⟨5, ![n0, n1, n2, n3, n4]⟩) (a : Fin n0) (b : Fin n1)
    (c : Fin n2) (d : Fin n3) (e : Fin n4) (v : (⟨6, ![n0, n1, n2, n3, n4, n5]⟩ : Shape).Idx → EReal) (init : EReal) :
    Ideal.hostReduceAdd h v init (ix5 a b c d e) = init + ∑ k : Fin n5, v (ix6 a b c d e k) :=
  congrArg (init + ·) (Finset.sum_filter_eq_sum_of_fiber _ (fun k : Fin n5 => ix6 a b c d e k) (fun _ _ q => congrFun q 5)
    (fiber h a b c d e) v)

/-- A maximum along the last of six axes. -/
theorem fold_last (h : (⟨6, ![n0, n1, n2, n3, n4, n5]⟩ : Shape).ReducesTo [5] ⟨5, ![n0, n1, n2, n3, n4]⟩) (a : Fin n0) (b : Fin n1)
    (c : Fin n2) (d : Fin n3) (e : Fin n4) (v : FVec Ideal ⟨6, ![n0, n1, n2, n3, n4, n5]⟩ .f32)
    (init : FVec Ideal ⟨0, ![]⟩ .f32) (hu : 0 < (⟨0, ![]⟩ : Shape).numel) :
    Host.reduce (FloatOps.maximumf (F := Ideal) (φ := .f32)) v init h hu (ix5 a b c d e)
      = (Finset.univ : Finset (Fin n5)).fold max (init (Shape.Idx.first hu)) fun k => v (ix6 a b c d e k) := by
  rw [Host.reduce_eq_fold]
  exact Finset.fold_filter_eq_fold_of_fiber max _ (fun k : Fin n5 => ix6 a b c d e k) (fun _ _ q => congrFun q 5)
    (fiber h a b c d e) _ v

end Last

/-- The largest score of each row, -/
def most (x : FVec Ideal S2x32x4x4x128x256 .f32) : FVec Ideal S2x32x4x4x128 .f32 :=
  Host.reduce FloatOps.maximumf x (constant S_ .f32 0xFF800000#32) reducesTo_S2x32x4x4x128x256_S2x32x4x4x128_d5 h_S_

theorem most_at (x : FVec Ideal S2x32x4x4x128x256 .f32) (b : Fin 2) (n : Fin 32) (g u : Fin 4) (r : Fin 128) :
    most x (ix5 b n g u r) = Finset.univ.fold (max : EReal → EReal → EReal) SwaRow.low fun j => x (ix6 b n g u r j) :=
  fold_last reducesTo_S2x32x4x4x128x256_S2x32x4x4x128_d5 b n g u r x _ h_S_

/-- and with the sink. -/
def sunk (y : FVec Ideal S2x32x4x4x128 .f32) (s : FVec Ideal S2x32x4x4x128x1 .f32) : FVec Ideal S2x32x4x4x128x1 .f32 :=
  maximumf (broadcastInDim S2x32x4x4x128x1 ![0, 1, 2, 3, 4] bcast_S2x32x4x4x128_S2x32x4x4x128x1_0_1_2_3_4 y) s

theorem sunk_at (y : FVec Ideal S2x32x4x4x128 .f32) (s : FVec Ideal S2x32x4x4x128x1 .f32) (b : Fin 2) (n : Fin 32) (g u : Fin 4)
    (r : Fin 128) : sunk y s (ix6 b n g u r 0) = max (α := EReal) (y (ix5 b n g u r)) (s (ix6 b n g u r 0)) := by
  pointwise [sunk]

/-- The two together. -/
def tops (x : FVec Ideal S2x32x4x4x128x256 .f32) (s : FVec Ideal S2x32x4x4x128x1 .f32) : FVec Ideal S2x32x4x4x128x1 .f32 :=
  sunk (most x) s

theorem tops_at (x : FVec Ideal S2x32x4x4x128x256 .f32) (s : FVec Ideal S2x32x4x4x128x1 .f32) (b : Fin 2) (n : Fin 32) (g u : Fin 4)
    (r : Fin 128) :
    tops x s (ix6 b n g u r 0) = SwaRow.top (fun j => x (ix6 b n g u r j)) (s (ix6 b n g u r 0)) := by
  unfold tops SwaRow.top
  rw [sunk_at, most_at]

end Cert.SwaRef

end
-- ==== Proof.SwaRef.lean ====
/- The reference of the windowed attention, read at a batch, a block, a row, a head and a column. -/
module

public import proofs.«01_k».proof.Proof.Gen.ReferenceIdeal.Run
public import proofs.«01_k».proof.Proof.SwaTop

@[expose] public section

set_option maxRecDepth 16384

noncomputable section

open Idealize.ShloMosaic Idealize.ShloMosaic.TcCoe Idealize.SL.Sem

namespace Cert.SwaRef

open Cert.ReferenceIdeal Cert.ReferenceIdeal.Gen

/-- The keys or the values, a block of zeros before them, -/
def longer (x : FVec Ideal S2x4096x4x64 .f32) : FVec Ideal S2x4224x4x64 .f32 :=
  concatenate S2x4224x4x64 1 [⟨S2x128x4x64, broadcastInDim S2x128x4x64 ![] bcast_S_S2x128x4x64
    (constant (F := Ideal) S_ .f32 0x00000000#32)⟩, ⟨S2x4096x4x64, x⟩] concatenates_S2x128x4x64_S2x4096x4x64_S2x4224x4x64_d1

theorem longer_at (x : FVec Ideal S2x4096x4x64 .f32) (b : Fin 2) (p : Fin 4224) (g : Fin 4) (e : Fin 64) :
    longer x (ix4 b p g e) = if h : (p : ℕ) < 128 then 0 else x (ix4 b ⟨(p : ℕ) - 128, by omega⟩ g e) := by
  pointwise [longer]

/-- and the same by blocks. -/
def blocks (x : FVec Ideal S2x4224x4x64 .f32) : FVec Ideal S2x33x128x4x64 .f32 :=
  shapeCast S2x33x128x4x64 x shapeCasts_S2x4224x4x64_S2x33x128x4x64

theorem blocks_at (x : FVec Ideal S2x4224x4x64 .f32) (b : Fin 2) (n : Fin 33) (r : Fin 128) (g : Fin 4) (e : Fin 64) :
    blocks x (ix5 b n r g e) = x (ix4 b ⟨(n : ℕ) * 128 + r, by omega⟩ g e) := by
  pointwise [blocks]

def padded (x : FVec Ideal S2x4096x4x64 .f32) : FVec Ideal S2x33x128x4x64 .f32 := blocks (longer x)

theorem padded_at (x : FVec Ideal S2x4096x4x64 .f32) (b : Fin 2) (n : Fin 33) (r : Fin 128) (g : Fin 4) (e : Fin 64) :
    padded x (ix5 b n r g e) = if h : (n : ℕ) * 128 + r < 128 then 0 else x (ix4 b ⟨(n : ℕ) * 128 + r - 128, by omega⟩ g e) :=
  (blocks_at _ b n r g e).trans (longer_at x b _ g e)

/-- Each block with the one after it. -/
def halves (x : FVec Ideal S2x33x128x4x64 .f32) : FVec Ideal S2x32x256x4x64 .f32 :=
  concatenate S2x32x256x4x64 2 [⟨S2x32x128x4x64, extractStridedSlice S2x32x128x4x64 ![0, 0, 0, 0, 0] x
      slices_S2x33x128x4x64_S2x32x128x4x64_0_0_0_0_0⟩, ⟨S2x32x128x4x64, extractStridedSlice S2x32x128x4x64 ![0, 1, 0, 0, 0] x
      slices_S2x33x128x4x64_S2x32x128x4x64_0_1_0_0_0⟩] concatenates_S2x32x128x4x64_S2x32x128x4x64_S2x32x256x4x64_d2

theorem halves_at (x : FVec Ideal S2x33x128x4x64 .f32) (b : Fin 2) (n : Fin 32) (j : Fin 256) (g : Fin 4) (e : Fin 64) :
    halves x (ix5 b n j g e) = if h : (j : ℕ) < 128 then x (ix5 b ⟨n, by omega⟩ ⟨j, h⟩ g e)
      else x (ix5 b ⟨1 + (n : ℕ), by omega⟩ ⟨(j : ℕ) - 128, by omega⟩ g e) := by
  pointwise [halves]

/-- A block's keys or values and those of the block before it. -/
def pair (x : FVec Ideal S2x4096x4x64 .f32) : FVec Ideal S2x32x256x4x64 .f32 := halves (padded x)

theorem pair_at (x : FVec Ideal S2x4096x4x64 .f32) (b : Fin 2) (n : Fin 32) (j : Fin 256) (g : Fin 4) (e : Fin 64) :
    pair x (ix5 b n j g e) = if h : (n : ℕ) * 128 + j < 128 then 0 else x (ix4 b ⟨(n : ℕ) * 128 + j - 128, by omega⟩ g e) := by
  refine (halves_at _ b n j g e).trans ?_
  by_cases h1 : (j : ℕ) < 128
  · exact (dif_pos h1).trans (padded_at x b _ _ g e)
  · refine (dif_neg h1).trans ((padded_at x b _ _ g e).trans ?_)
    have q : (1 + (n : ℕ)) * 128 + ((j : ℕ) - 128) = (n : ℕ) * 128 + j := by omega
    simp only [q]

/-- The scores, a key's product with a query scaled. -/
def products (q : FVec Ideal S2x4096x16x64 .f32) (k : FVec Ideal S2x32x256x4x64 .f32) : FVec Ideal S2x32x4x4x128x256 .f32 :=
  mulf (transpose S2x32x4x4x128x256 [0, 1, 2, 5, 4, 3]
      (Host.dotGeneral (φ₁ := .f32) (φ₂ := .f32) dot_S2x32x256x4x64_S2x32x128x4x4x64_S2x32x4x256x128x4_4_5_2_24_013_013 none k
        (shapeCast S2x32x128x4x4x64 q shapeCasts_S2x4096x16x64_S2x32x128x4x4x64)) transposes_S2x32x4x256x128x4_S2x32x4x4x128x256_0_1_2_5_4_3)
    (broadcastInDim S2x32x4x4x128x256 ![] bcast_S_S2x32x4x4x128x256 (constant S_ .f32 0x3E000000#32))

theorem products_at (q : FVec Ideal S2x4096x16x64 .f32) (k : FVec Ideal S2x32x256x4x64 .f32) (b : Fin 2) (n : Fin 32) (g u : Fin 4)
    (r : Fin 128) (j : Fin 256) :
    products q k (ix6 b n g u r j) = (∑ e : Fin 64, k (ix5 b n j g e)
      * q (ix4 b ⟨(n : ℕ) * 128 + r, by omega⟩ ⟨(g : ℕ) * 4 + u, by omega⟩ e)) * SwaRow.eighth := by
  pointwise [products]
  rfl

/-- The positions of the queries, -/
def queryPos : IVec S32x128 32 :=
  addi (broadcastInDim S32x128 ![0, 1] bcast_S32x1_S32x128_0_1 (muli (broadcastInDim S32x1 ![0] bcast_S32_S32x1_0 (iotaInDim S32 32 0))
      (broadcastInDim S32x1 ![] bcast_S_S32x1 (constantI S_ 32 128#32))))
    (broadcastInDim S32x128 ![0, 1] bcast_S1x128_S32x128_0_1 (broadcastInDim S1x128 ![1] bcast_S128_S1x128_1 (iotaInDim S128 32 0)))

/-- and of the keys. -/
def keyPos : IVec S32x256 32 :=
  addi (broadcastInDim S32x256 ![0, 1] bcast_S32x1_S32x256_0_1 (subi (muli (broadcastInDim S32x1 ![0] bcast_S32_S32x1_0 (iotaInDim S32 32 0))
      (broadcastInDim S32x1 ![] bcast_S_S32x1 (constantI S_ 32 128#32))) (broadcastInDim S32x1 ![] bcast_S_S32x1 (constantI S_ 32 128#32))))
    (broadcastInDim S32x256 ![0, 1] bcast_S1x256_S32x256_0_1 (broadcastInDim S1x256 ![1] bcast_S256_S1x256_1 (iotaInDim S256 32 0)))

/-- The mask. -/
def mask : IVec S32x128x256 1 :=
  have rel := subi (broadcastInDim S32x128x256 ![0, 1, 2] bcast_S32x128x1_S32x128x256_0_1_2
      (broadcastInDim S32x128x1 ![0, 1] bcast_S32x128_S32x128x1_0_1 queryPos))
    (broadcastInDim S32x128x256 ![0, 1, 2] bcast_S32x1x256_S32x128x256_0_1_2 (broadcastInDim S32x1x256 ![0, 2] bcast_S32x256_S32x1x256_0_2 keyPos))
  andi (andi (cmpi .sge rel (broadcastInDim S32x128x256 ![] bcast_S_S32x128x256 (constantI S_ 32 0#32)))
      (cmpi .slt rel (broadcastInDim S32x128x256 ![] bcast_S_S32x128x256 (constantI S_ 32 128#32))))
    (broadcastInDim S32x128x256 ![0, 1, 2] bcast_S32x1x256_S32x128x256_0_1_2 (cmpi .sge
      (broadcastInDim S32x1x256 ![0, 2] bcast_S32x256_S32x1x256_0_2 keyPos) (broadcastInDim S32x1x256 ![] bcast_S_S32x1x256 (constantI S_ 32 0#32))))

theorem mask_at (n : Fin 32) (r : Fin 128) (j : Fin 256) :
    mask (ix3 n r j) = BitVec.ofBool (decide (SwaRow.Seen n r j)) := by
  pointwise [mask, queryPos, keyPos]
  rw [show (0#32 : BitVec 32) = SwaRow.word 0 from rfl, show (128#32 : BitVec 32) = SwaRow.word 128 from rfl]
  simp only [SwaRow.ofNat_word, SwaRow.add_word, SwaRow.sub_word, SwaRow.mul_word]
  rw [SwaRow.ge_word _ _ (by omega) (by omega) (by omega) (by omega), SwaRow.lt_word _ _ (by omega) (by omega) (by omega) (by omega),
    SwaRow.ge_word _ _ (by omega) (by omega) (by omega) (by omega)]
  simp only [SwaRow.and_bit]
  refine SwaRow.bit_congr ?_
  unfold SwaRow.Seen
  omega

/-- The masked scores. -/
def scores (p : FVec Ideal S2x32x4x4x128x256 .f32) : FVec Ideal S2x32x4x4x128x256 .f32 :=
  select (broadcastInDim S2x32x4x4x128x256 ![0, 1, 2, 3, 4, 5] bcast_S1x32x1x1x128x256_S2x32x4x4x128x256_0_1_2_3_4_5
      (broadcastInDim S1x32x1x1x128x256 ![1, 4, 5] bcast_S32x128x256_S1x32x1x1x128x256_1_4_5 mask)) p
    (broadcastInDim S2x32x4x4x128x256 ![] bcast_S_S2x32x4x4x128x256 (id (constant S_ .f32 0xFF800000#32)))

theorem scores_at (p : FVec Ideal S2x32x4x4x128x256 .f32) (b : Fin 2) (n : Fin 32) (g u : Fin 4) (r : Fin 128) (j : Fin 256) :
    scores p (ix6 b n g u r j) = if SwaRow.Seen n r j then p (ix6 b n g u r j) else ⊥ := by
  pointwise [scores, id, mask_at]
  exact if_congr Iff.rfl rfl SwaRow.low_eq

/-- The sinks, a key head a row. -/
def sinkCol (s : FVec Ideal S16 .f32) : FVec Ideal S2x32x4x4x128x1 .f32 :=
  broadcastInDim S2x32x4x4x128x1 ![0, 1, 2, 3, 4, 5] bcast_S1x1x4x4x1x1_S2x32x4x4x128x1_0_1_2_3_4_5
    (broadcastInDim S1x1x4x4x1x1 ![2, 3] bcast_S4x4_S1x1x4x4x1x1_2_3 (shapeCast S4x4 s shapeCasts_S16_S4x4))

theorem sinkCol_at (s : FVec Ideal S16 .f32) (b : Fin 2) (n : Fin 32) (g u : Fin 4) (r : Fin 128) :
    sinkCol s (ix6 b n g u r 0) = s (ix1 ⟨(g : ℕ) * 4 + u, by omega⟩) := by
  pointwise [sinkCol]

/-- The exponentials. -/
def exps (x : FVec Ideal S2x32x4x4x128x256 .f32) (t : FVec Ideal S2x32x4x4x128x1 .f32) : FVec Ideal S2x32x4x4x128x256 .f32 :=
  Host.exp (subf x (broadcastInDim S2x32x4x4x128x256 ![0, 1, 2, 3, 4, 5] bcast_S2x32x4x4x128x1_S2x32x4x4x128x256_0_1_2_3_4_5 t))

theorem exps_at (x : FVec Ideal S2x32x4x4x128x256 .f32) (t : FVec Ideal S2x32x4x4x128x1 .f32) (b : Fin 2) (n : Fin 32) (g u : Fin 4)
    (r : Fin 128) (j : Fin 256) :
    exps x t (ix6 b n g u r j) = Ideal.exp (x (ix6 b n g u r j) - t (ix6 b n g u r 0)) := by
  pointwise [exps]

/-- The weights. -/
def weights (e : FVec Ideal S2x32x4x4x128x256 .f32) (t s : FVec Ideal S2x32x4x4x128x1 .f32) : FVec Ideal S2x32x4x4x128x256 .f32 :=
  Host.divf e (broadcastInDim S2x32x4x4x128x256 ![0, 1, 2, 3, 4, 5] bcast_S2x32x4x4x128x1_S2x32x4x4x128x256_0_1_2_3_4_5
    (addf (broadcastInDim S2x32x4x4x128x1 ![0, 1, 2, 3, 4] bcast_S2x32x4x4x128_S2x32x4x4x128x1_0_1_2_3_4
      (Host.reduceAdd e (constant S_ .f32 0x00000000#32) reducesTo_S2x32x4x4x128x256_S2x32x4x4x128_d5 h_S_)) (Host.exp (subf s t))))

theorem weights_at (e : FVec Ideal S2x32x4x4x128x256 .f32) (t s : FVec Ideal S2x32x4x4x128x1 .f32) (b : Fin 2) (n : Fin 32) (g u : Fin 4)
    (r : Fin 128) (j : Fin 256) :
    weights e t s (ix6 b n g u r j) = Ideal.div (e (ix6 b n g u r j))
      ((∑ i : Fin 256, e (ix6 b n g u r i)) + Ideal.exp (s (ix6 b n g u r 0) - t (ix6 b n g u r 0))) := by
  pointwise [weights]
  rw [sum_last, zero_add]

/-- The weighted values, heads side by side. -/
def mixed (v : FVec Ideal S2x32x256x4x64 .f32) (w : FVec Ideal S2x32x4x4x128x256 .f32) : FVec Ideal S2x4096x1024 .bf16 :=
  truncf .bf16 (shapeCast S2x4096x1024 (transpose S2x32x128x4x4x64 [0, 1, 5, 2, 4, 3]
    (Host.dotGeneral (φ₁ := .f32) (φ₂ := .f32) dot_S2x32x256x4x64_S2x32x4x4x128x256_S2x32x4x64x4x128_2_5_4_34_013_012 none v w)
    transposes_S2x32x4x64x4x128_S2x32x128x4x4x64_0_1_5_2_4_3) shapeCasts_S2x32x128x4x4x64_S2x4096x1024) bitsLt_bf16_f32

theorem mixed_at (v : FVec Ideal S2x32x256x4x64 .f32) (w : FVec Ideal S2x32x4x4x128x256 .f32) (b : Fin 2) (n : Fin 32) (r : Fin 128)
    (h : Fin 16) (d : Fin 64) :
    mixed v w (ix3 b ⟨(n : ℕ) * 128 + r, by omega⟩ ⟨64 * (h : ℕ) + d, by omega⟩)
      = ∑ j : Fin 256, v (ix5 b n j ⟨(h : ℕ) / 4, by omega⟩ d)
        * w (ix6 b n ⟨(h : ℕ) / 4, by omega⟩ ⟨(h : ℕ) % 4, by omega⟩ r j) := by
  pointwise [mixed]
  have e1 : (64 * (h : ℕ) + d) / 256 = h / 4 := by omega
  have e2 : (64 * (h : ℕ) + d) / 64 % 4 = h % 4 := by omega
  simp only [e1, e2]

/-- The attention. -/
def attention (q : FVec Ideal S2x4096x16x64 .f32) (k v : FVec Ideal S2x4096x4x64 .f32) (s : FVec Ideal S16 .f32) :
    FVec Ideal S2x4096x1024 .bf16 :=
  have x := scores (products q (pair k))
  have t := tops x (sinkCol s)
  mixed (pair v) (weights (exps x t) t (sinkCol s))

theorem attention_eq (m : (ℓ : Loc nD τ sig) → Buf (Elt Ideal) ℓ) (c : Dev nD) :
    Value.res_main_v69 (F := Ideal) m c = attention (m ((c.tc : Thread nD τ).loc main_arg0)) (m ((c.tc : Thread nD τ).loc main_arg1))
      (m ((c.tc : Thread nD τ).loc main_arg2)) (m ((c.tc : Thread nD τ).loc main_arg3)) := rfl

end Cert.SwaRef

end
-- ==== Proof.Swa.lean ====
/- The value of the windowed attention. -/
module

public import Idealize.ShloMosaic.Lib.Pipeline.ValueKit
public import proofs.«01_k».proof.Proof.SwaCell
public import proofs.«01_k».proof.Proof.SwaRef
public import proofs.«01_k».proof.Proof.Gen.ReferenceIdeal.Run

@[expose] public section

set_option maxRecDepth 16384

noncomputable section

open Idealize.ShloMosaic Idealize.ShloMosaic.TcCoe Idealize.SL.Sem
open Idealize.ShloMosaic.Pipeline (Dat)

namespace Cert.Swa

open Cert.KernelIdeal Cert.KernelIdeal.Gen

variable (m : (ℓ : Loc nD τ sig) → Buf (Elt Ideal) ℓ)

/-- The reference's row: the scores are the scores, and the values are zero before the sequence's start. -/
theorem reference_at (q : FVec Ideal S2x4096x16x64 .f32) (k v : FVec Ideal S2x4096x4x64 .f32) (s : FVec Ideal S16 .f32) (b : Fin 2)
    (n : Fin 32) (r : Fin 128) (h : Fin 16) (d : Fin 64) :
    SwaRef.attention q k v s (ix3 b ⟨(n : ℕ) * 128 + r, by omega⟩ ⟨64 * (h : ℕ) + d, by omega⟩)
      = SwaRow.whole (score q k b n h r) (s (ix1 h)) fun j => SwaRef.pair v (ix5 b n j ⟨(h : ℕ) / 4, by omega⟩ d) := by
  have hscore : ∀ j, SwaRef.scores (SwaRef.products q (SwaRef.pair k)) (ix6 b n ⟨(h : ℕ) / 4, by omega⟩ ⟨(h : ℕ) % 4, by omega⟩ r j)
      = score q k b n h r j := by
    intro j
    refine (SwaRef.scores_at _ b n _ _ r j).trans ?_
    unfold score
    by_cases hs : SwaRow.Seen n r j
    · refine (if_pos hs).trans (Eq.trans ?_ (if_pos hs).symm)
      refine (SwaRef.products_at q _ b n _ _ r j).trans (congrArg (· * SwaRow.eighth) (Finset.sum_congr rfl fun e _ => ?_))
      have hj : ¬ (n : ℕ) * 128 + (j : ℕ) < 128 := by
        have := hs.2.2
        omega
      have e1 : (h : ℕ) / 4 * 4 + (h : ℕ) % 4 = h := by omega
      refine congrArg₂ (· * ·) ((SwaRef.pair_at k b n j _ e).trans (dif_neg hj)) ?_
      simp only [e1]
    · exact (if_neg hs).trans (if_neg hs).symm
  have hsink : SwaRef.sinkCol s (ix6 b n ⟨(h : ℕ) / 4, by omega⟩ ⟨(h : ℕ) % 4, by omega⟩ r 0) = s (ix1 h) := by
    have e1 : (h : ℕ) / 4 * 4 + (h : ℕ) % 4 = h := by omega
    refine (SwaRef.sinkCol_at s b n _ _ r).trans ?_
    simp only [e1]
  have htop : SwaRef.tops (SwaRef.scores (SwaRef.products q (SwaRef.pair k))) (SwaRef.sinkCol s)
      (ix6 b n ⟨(h : ℕ) / 4, by omega⟩ ⟨(h : ℕ) % 4, by omega⟩ r 0) = SwaRow.top (score q k b n h r) (s (ix1 h)) := by
    refine (SwaRef.tops_at _ _ b n _ _ r).trans ?_
    rw [hsink, funext hscore]
  unfold SwaRef.attention
  refine (SwaRef.mixed_at _ _ b n r h d).trans ?_
  unfold SwaRow.whole SwaRow.den
  refine Finset.sum_congr rfl fun j _ => congrArg (_ * ·) ?_
  refine (SwaRef.weights_at _ _ _ b n _ _ r j).trans ?_
  simp only [SwaRef.exps_at, hscore, hsink, htop]

theorem stored (c : Dev nD) (t : Fin cfg0.N) (h1 h2 h3 h4) (hq : ∀ i, SwaRow.Real' (queryArg m c i)) (hk : ∀ i, SwaRow.Real' (keyArg m c i))
    (hs : ∀ i, SwaRow.Real' (sinkArg m c i)) (r : Fin 128) (h : Fin 16) (d : Fin 64) :
    shapeCast S1x128x1024 (truncf .bf16 (SwaHead.join (SwaHead.part (k0_pay5 (grid0.coords t))
        (k0_pay2 (F := Ideal) (iblk m c 1 t) (iblk m c 2 t)) (k0_pay3 (F := Ideal) (keysOf (iblk m c 4 t) h1) (keysOf (iblk m c 3 t) h2))
        (k0_pay4 (F := Ideal) (valuesOf (iblk m c 4 t) h3) (valuesOf (iblk m c 3 t) h4)) fun h => iblk m c 0 t (ix1 h))) bitsLt_bf16_f32)
        shapeCasts_S128x1024_S1x128x1024 (ix3 0 r ⟨64 * (h : ℕ) + d, by omega⟩)
      = SwaRef.attention (queryArg m c) (keyArg m c) (valueArg m c) (sinkArg m c)
          (ix3 (batch t) ⟨(block t : ℕ) * 128 + r, by omega⟩ ⟨64 * (h : ℕ) + d, by omega⟩) := by
  have real : ∀ j, SwaRow.Real' (score (queryArg m c) (keyArg m c) (batch t) (block t) h r j) ∨
      score (queryArg m c) (keyArg m c) (batch t) (block t) h r j = ⊥ := by
    intro j
    unfold score
    by_cases hs : SwaRow.Seen (block t) r j
    · refine Or.inl ?_
      rw [if_pos hs]
      exact (SwaRow.Real'.sum fun e => (hk _).mul (hq _)).mul ⟨_, SwaRow.eighth_eq⟩
    · exact Or.inr (if_neg hs)
  refine (SwaHead.step_at _ _ _ _ _ r h d).trans (Eq.trans ?_ (reference_at _ _ _ _ _ _ r h d).symm)
  refine Eq.trans ?_ (SwaRow.whole_eq_row _ _ (fun j => k0_pay4 (F := Ideal) (valuesOf (iblk m c 4 t) h3) (valuesOf (iblk m c 3 t) h4)
    (ix2 j ⟨64 * ((h : ℕ) / 4) + d, by omega⟩)) _ (fun j => ?_) (hs _) fun j hj => ?_).symm
  · exact congrArg₂ (fun a b => SwaRow.row a b fun j => k0_pay4 (F := Ideal) (valuesOf (iblk m c 4 t) h3) (valuesOf (iblk m c 3 t) h4)
      (ix2 j ⟨64 * ((h : ℕ) / 4) + d, by omega⟩)) (funext fun j => score_at m c t h1 h2 h r j) (sink_at m c t h)
  · rcases real j with ⟨x, hx⟩ | hx <;> rw [hx]
    · exact EReal.coe_ne_top x
    · exact bot_ne_top
  · have seen : SwaRow.Seen (block t) r j := by
      by_contra hn
      exact hj (if_neg hn)
    have hj : ¬ (block t : ℕ) * 128 + (j : ℕ) < 128 := by
      have := seen.2.2
      omega
    refine ((SwaRef.pair_at _ _ _ j _ d).trans (dif_neg hj)).trans ?_
    exact (value_at m c t h3 h4 j seen.2.2 ⟨(h : ℕ) / 4, by omega⟩ d).symm

theorem sink_ld (x : FVec Ideal S16 .f32) (n : ℕ) (hn : n < 16) (hr hf) :
    View.ld (Val := Elt Ideal) (e' := .f32) x (Rect.unit (s := S16) ![n] ![1] hr) (Shape.Idx.first hf) = x (ix1 ⟨n, hn⟩) := by
  refine congrArg x (funext fun a => Fin.ext ?_)
  match a with
  | ⟨0, _⟩ => rfl

theorem index_form (y : S1x128x1024.Idx) : ∃ (r : Fin 128) (l : Fin 1024), y = ix3 0 r l :=
  ⟨y 1, y 2, (eq_ix3 y).trans (congrArg (fun a => ix3 a (y 1) (y 2)) (show (y 0 : Fin 1) = (0 : Fin 1) from Fin.ext (Nat.lt_one_iff.mp (y 0).isLt)))⟩

theorem result (c : Dev nD) (hq : ∀ i, SwaRow.Real' (queryArg m c i)) (hk : ∀ i, SwaRow.Real' (keyArg m c i))
    (hs : ∀ i, SwaRow.Real' (sinkArg m c i)) : (dats m 0 c).arrAt 5 (cfgs 0).N
      = SwaRef.attention (queryArg m c) (keyArg m c) (valueArg m c) (sinkArg m c) := by
  refine (dats m 0 c).arrAt_eq_of_covers 5 _ (by decide +kernel) fun t _ y => ?_
  blk_simp
  rw [after0_5]
  unfold outsAt0
  frame_out
  obtain ⟨r, l, rfl⟩ := index_form y
  have e : l = ⟨64 * ((⟨(l : ℕ) / 64, by omega⟩ : Fin 16) : ℕ) + (⟨(l : ℕ) % 64, by omega⟩ : Fin 64), by
    show 64 * ((l : ℕ) / 64) + (l : ℕ) % 64 < 1024; omega⟩ := Fin.ext (by show (l : ℕ) = 64 * ((l : ℕ) / 64) + (l : ℕ) % 64; omega)
  have key := stored m c t inb_S1x128x512_S1x128x256_0_0_0 inb_S1x128x512_S1x128x256_0_0_0 inb_S1x128x512_S1x128x256_0_0_256
    inb_S1x128x512_S1x128x256_0_0_256 hq hk hs r ⟨(l : ℕ) / 64, by omega⟩ ⟨(l : ℕ) % 64, by omega⟩
  rw [← e] at key
  refine Eq.trans ?_ (key.trans (congrArg (SwaRef.attention (queryArg m c) (keyArg m c) (valueArg m c) (sinkArg m c)) (place t r l).symm))
  exact congrFun (SwaHead.step_of _ _ _ _ _ _ _ (fun h => iblk m c 0 t (ix1 h)) _ _ _ _ _ _ _ _ _ _ _ _ _ _ _ _
    (sink_ld _ 0 (by decide) _ _) (sink_ld _ 1 (by decide) _ _) (sink_ld _ 2 (by decide) _ _) (sink_ld _ 3 (by decide) _ _)
    (sink_ld _ 4 (by decide) _ _) (sink_ld _ 5 (by decide) _ _) (sink_ld _ 6 (by decide) _ _) (sink_ld _ 7 (by decide) _ _)
    (sink_ld _ 8 (by decide) _ _) (sink_ld _ 9 (by decide) _ _) (sink_ld _ 10 (by decide) _ _) (sink_ld _ 11 (by decide) _ _)
    (sink_ld _ 12 (by decide) _ _) (sink_ld _ 13 (by decide) _ _) (sink_ld _ 14 (by decide) _ _) (sink_ld _ 15 (by decide) _ _)) _

end Cert.Swa

end
-- ==== Proof.SwaValue.lean ====
/- The value claim of the windowed attention, where the queries, the keys and the sinks are finite. -/
module

public import proofs.«01_k».proof.Defs
public import proofs.«01_k».proof.Proof.Gen.KernelIdeal.Value
public import proofs.«01_k».proof.Proof.Swa
public import proofs.«01_k».proof.Proof.Gen.Pre_finite_scores

@[expose] public section

set_option maxRecDepth 16384

noncomputable section

open Idealize.ShloMosaic Idealize.ShloMosaic.TcCoe Idealize.SL.Sem

namespace Cert.Swa

/-- An extended real whose absolute value is below `+∞` is a real number. -/
theorem finite (x : Ideal .f32) (h : FloatOps.cmpf .olt (FloatOps.hostAbsf x) (FloatOps.ofBits (F := Ideal) .f32 0x7F800000#32) = 1#1) :
    SwaRow.Real' x := by
  have htop : FloatOps.ofBits (F := Ideal) .f32 0x7F800000#32 = (⊤ : EReal) := by
    show Ideal.ofBits .f32 0x7F800000#32 = ⊤
    simp [Ideal.ofBits, Ideal.ieee]
  rw [htop] at h
  have hx : max (x : EReal) (-x) < ⊤ := by
    by_contra hn
    rw [show FloatOps.cmpf (F := Ideal) .olt (FloatOps.hostAbsf x) (⊤ : EReal) = BitVec.ofBool (decide (max (x : EReal) (-x) < ⊤)) from rfl,
      decide_eq_false hn] at h
    exact absurd h (by decide)
  have h1 : (x : EReal) ≠ ⊤ := fun e => absurd (e ▸ lt_of_le_of_lt (le_max_left _ _) hx) (lt_irrefl _)
  have h2 : (x : EReal) ≠ ⊥ := fun e => by
    have : -(x : EReal) < ⊤ := lt_of_le_of_lt (le_max_right _ _) hx
    rw [e, EReal.neg_bot] at this
    exact lt_irrefl _ this
  exact ⟨EReal.toReal x, (EReal.coe_toReal h1 h2).symm⟩

theorem value : Cert.algebraic_KernelIdeal_ReferenceIdeal_pre_finite_scores := by
  pair_intro
  · run_from Cert.KernelIdeal.Gen.run_main m g
  · run_from Cert.ReferenceIdeal.Value.run m' g'
    obtain ⟨h0, h1, h2, h3⟩ := hagree c
    refine Eq.trans ?_ (result m c (fun i => finite _ (congrFun (hpre c).1 i)) (fun i => finite _ (congrFun (hpre c).2.1 i))
      fun i => finite _ (congrFun (hpre c).2.2 i)).symm
    refine (SwaRef.attention_eq m' c).trans ?_
    rw [h0, h1, h2, h3]
    rfl

end Cert.Swa

end
-- ==== Proof.PoolReads.lean ====
/- What each window of the pooling and the memory attention holds, read from the arguments. -/
module

public import Idealize.ShloMosaic.Lib.Pipeline.ValueKit
public import Idealize.ShloMosaic.Lib.Pointwise
public import proofs.«01_k».proof.Proof.Gen.Kernel4Ideal.Frame

@[expose] public section

set_option maxRecDepth 16384

noncomputable section

open Idealize.ShloMosaic Idealize.ShloMosaic.TcCoe Idealize.SL.Sem
open Idealize.ShloMosaic.Pipeline (Dat)

namespace Cert.Pool

open Cert.Kernel4Ideal Cert.Kernel4Ideal.Gen

/-- The packed array: the pooled columns, zeros, the queries. -/
def packed (x q : FVec Ideal S2x4096x512 .f32) : FVec Ideal S2x4096x2560 .bf16 :=
  concatenate S2x4096x2560 2 [⟨S2x4096x512, truncf .bf16 x bitsLt_bf16_f32⟩,
    ⟨S2x4096x1536, broadcastInDim S2x4096x1536 ![] bcast_S_S2x4096x1536 (constant (F := Ideal) S_ .bf16 0x0000#16)⟩,
    ⟨S2x4096x512, truncf .bf16 q bitsLt_bf16_f32⟩] concatenates_S2x4096x512_S2x4096x1536_S2x4096x512_S2x4096x2560_d2

theorem packed_col (x q : FVec Ideal S2x4096x512 .f32) (b : Fin 2) (p : Fin 4096) (l : Fin 512) :
    packed x q (ix3 b p ⟨(l : ℕ), by omega⟩) = x (ix3 b p l) := by
  pointwise [packed]

theorem packed_query (x q : FVec Ideal S2x4096x512 .f32) (b : Fin 2) (p : Fin 4096) (l : Fin 512) :
    packed x q (ix3 b p ⟨2048 + (l : ℕ), by omega⟩) = q (ix3 b p l) := by
  pointwise [packed]
  have h0 : ¬ 2048 + (l : ℕ) < 512 := by omega
  have h1 : ¬ 2048 + (l : ℕ) - 512 < 1536 := by omega
  have h2 : 2048 + (l : ℕ) - 512 - 1536 = l := by omega
  rw [dif_neg h0, dif_neg h1]
  simp only [h2]

variable (m : (ℓ : Loc nD τ sig) → Buf (Elt Ideal) ℓ)

/-- The arguments. -/
def colArg (c : Dev nD) : FVec Ideal S2x4096x512 .f32 := m ((c : Thread nD τ).loc main_arg0)
def queryArg (c : Dev nD) : FVec Ideal S2x4096x512 .f32 := m ((c : Thread nD τ).loc main_arg1)
def weightArg (c : Dev nD) : FVec Ideal S1x4x128x128 .f32 := m ((c : Thread nD τ).loc main_arg2)
def scaleArg (c : Dev nD) : FVec Ideal S1x512 .f32 := m ((c : Thread nD τ).loc main_arg3)
def memArg (c : Dev nD) : FVec Ideal S2x256x1024 .f32 := m ((c : Thread nD τ).loc main_arg4)

theorem packed_eq (c : Dev nD) : V m c main_v3 = packed (colArg m c) (queryArg m c) := by
  unfold V
  rfl

theorem weight_eq (c : Dev nD) : V m c main_v5 = truncf (F := Ideal) .bf16 (shapeCast S4x128x128 (weightArg m c) shapeCasts_S1x4x128x128_S4x128x128)
    bitsLt_bf16_f32 := by
  unfold V
  rfl

theorem scale_eq (c : Dev nD) : V m c main_v7 = shapeCast S1x512 (shapeCast S512 (scaleArg m c) shapeCasts_S1x512_S512) shapeCasts_S512_S1x512 := by
  unfold V
  rfl

theorem mem_eq (c : Dev nD) : V m c main_v8 = truncf (F := Ideal) .bf16 (memArg m c) bitsLt_bf16_f32 := by
  unfold V
  rfl

theorem block_at : ∀ t : Fin cfg0.N, win0_0.index t = ![t.val / 8, t.val % 8, 0] ∧ win0_1.index t = ![0, 0, 0]
    ∧ win0_2.index t = ![0, 0] ∧ win0_3.index t = ![t.val / 8, t.val % 8, 4]
    ∧ win0_4.index t = ![t.val / 8, 0, 0] ∧ win0_5.index t = ![t.val / 8, t.val % 8, 0]
    ∧ win0_6.index t = ![t.val / 8, t.val % 8, 0] ∧ (grid0.coords t 1).val = t.val % 8 :=
  (by decide +kernel : ∀ t : Fin grid0.N, _)

theorem step_lt (t : Fin cfg0.N) : (t : ℕ) < 16 := t.isLt

/-- The batch of a grid step, and a row of its tile in the sequence. -/
def batch (t : Fin cfg0.N) : Fin 2 := ⟨(t : ℕ) / 8, by have := step_lt t; omega⟩
def row (t : Fin cfg0.N) (r : Fin 512) : Fin 4096 := ⟨(t : ℕ) % 8 * 512 + r, by omega⟩

theorem col_at (c : Dev nD) (t : Fin cfg0.N) (r l : Fin 512) :
    iblk m c 0 t (ix3 0 r l) = colArg m c (ix3 (batch t) (row t r) l) := by
  refine Eq.trans ?_ (packed_col (colArg m c) (queryArg m c) (batch t) (row t r) l)
  rw [← packed_eq]
  unfold batch row
  blk_point [iblk, block_at t]

theorem query_at (c : Dev nD) (t : Fin cfg0.N) (r l : Fin 512) :
    iblk m c 3 t (ix3 0 r l) = queryArg m c (ix3 (batch t) (row t r) l) := by
  refine Eq.trans ?_ (packed_query (colArg m c) (queryArg m c) (batch t) (row t r) l)
  rw [← packed_eq]
  unfold batch row
  blk_point [iblk, block_at t]

theorem weight_at (c : Dev nD) (t : Fin cfg0.N) (g : Fin 4) (e d : Fin 128) :
    iblk m c 1 t (ix3 g e d) = weightArg m c (ix4 0 g e d) := by
  refine Eq.trans (b := V m c main_v5 (ix3 g e d)) ?_ ?_
  · blk_point [iblk, block_at t]
  · rw [weight_eq]
    pointwise []

theorem scale_at (c : Dev nD) (t : Fin cfg0.N) (l : Fin 512) :
    iblk m c 2 t (ix2 0 l) = scaleArg m c (ix2 0 l) := by
  refine Eq.trans (b := V m c main_v7 (ix2 0 l)) ?_ ?_
  · blk_point [iblk, block_at t]
  · rw [scale_eq]
    pointwise []

theorem mem_at (c : Dev nD) (t : Fin cfg0.N) (j : Fin 256) (l : Fin 1024) :
    iblk m c 4 t (ix3 0 j l) = memArg m c (ix3 (batch t) j l) := by
  refine Eq.trans (b := V m c main_v8 (ix3 (batch t) j l)) ?_ ?_
  · unfold batch
    blk_point [iblk, block_at t]
  · rw [mem_eq]
    rfl

theorem place5 (t : Fin cfg0.N) (r l : Fin 512) : ((cfg0.win 5).blk t).view.emb (ix3 0 r l) = ix3 (batch t) (row t r) l := by
  unfold batch row
  blk_ext [block_at t]

theorem place6 (t : Fin cfg0.N) (r l : Fin 512) : ((cfg0.win 6).blk t).view.emb (ix3 0 r l) = ix3 (batch t) (row t r) l := by
  unfold batch row
  blk_ext [block_at t]

end Cert.Pool

end
-- ==== Proof.PoolSum.lean ====
/- Running sums of real numbers over the extended reals: the difference of two is the sum of the window between them. -/
module

public import proofs.«01_k».proof.Proof.SwaRow

@[expose] public section

set_option maxRecDepth 16384

noncomputable section

open Idealize.ShloMosaic

namespace Cert.PoolSum

/-- A sum by folding. -/
theorem foldl_add {α : Type} (g : α → EReal) (L : List α) (a : EReal) : L.foldl (fun r n => r + g n) a = a + (L.map g).sum := by
  induction L generalizing a with
  | nil => simp
  | cons x L ih => rw [List.foldl_cons, ih, List.map_cons, List.sum_cons, add_assoc]

/-- A window as long as the sequence, padded before it, leaves the running sum. -/
theorem window (f : ℕ → EReal) (p : ℕ) (hp : p < 4096) :
    ∑ i ∈ Finset.range 4096, (if 4095 ≤ p + i then f (p + i - 4095) else 0) = ∑ i ∈ Finset.range (p + 1), f i := by
  rw [show (4096 : ℕ) = (4095 - p) + (p + 1) by omega, Finset.sum_range_add, Finset.sum_eq_zero, zero_add]
  · refine Finset.sum_congr rfl fun i hi => ?_
    have := Finset.mem_range.1 hi
    rw [if_pos (by omega)]
    exact congrArg f (by omega)
  · intro i hi
    have := Finset.mem_range.1 hi
    exact if_neg (by omega)

/-- A sum of real numbers is the sum of reals. -/
theorem coe_sum (f : ℕ → EReal) (u : ℕ → ℝ) (h : ∀ i, f i = (u i : EReal)) (n : ℕ) :
    ∑ i ∈ Finset.range n, f i = ((∑ i ∈ Finset.range n, u i : ℝ) : EReal) := by
  induction n with
  | zero => simp
  | succ n ih => rw [Finset.sum_range_succ, Finset.sum_range_succ, ih, h, ← EReal.coe_add]

/-- The sequence with sixteen zeros before it. -/
def late (f : ℕ → EReal) (i : ℕ) : EReal := if i < 16 then 0 else f (i - 16)

theorem late_sum (f : ℕ → EReal) (n : ℕ) : ∑ i ∈ Finset.range (16 + n), late f i = ∑ i ∈ Finset.range n, f i := by
  rw [Finset.sum_range_add, Finset.sum_eq_zero, zero_add]
  · refine Finset.sum_congr rfl fun i _ => ?_
    unfold late
    rw [if_neg (by omega)]
    exact congrArg f (by omega)
  · intro i hi
    exact if_pos (Finset.mem_range.1 hi)

/-- The difference of the running sums at `p` and `w` before it. -/
theorem difference (f : ℕ → EReal) (hf : ∀ i, SwaRow.Real' (f i)) (p w : ℕ) (hw : w ≤ 16) :
    (∑ i ∈ Finset.range (p + 1), f i) - (if p < w then 0 else ∑ i ∈ Finset.range (p - w + 1), f i)
      = ∑ k ∈ Finset.range w, late f (p + 16 - k) := by
  have hu : ∀ i, ∃ r : ℝ, late f i = (r : EReal) := by
    intro i
    unfold late
    by_cases h : i < 16
    · exact ⟨0, by rw [if_pos h]; rfl⟩
    · rw [if_neg h]; exact hf _
  choose u hu using hu
  have e1 : (∑ i ∈ Finset.range (p + 1), f i) = ∑ i ∈ Finset.range (p + 17 - w + w), late f i := by
    rw [← late_sum]
    congr 2
    omega
  have e2 : (if p < w then 0 else ∑ i ∈ Finset.range (p - w + 1), f i) = ∑ i ∈ Finset.range (p + 17 - w), late f i := by
    by_cases h : p < w
    · rw [if_pos h]
      refine (Finset.sum_eq_zero fun i hi => ?_).symm
      have := Finset.mem_range.1 hi
      exact if_pos (by omega)
    · rw [if_neg h, ← late_sum]
      congr 2
      omega
  rw [e1, e2, coe_sum _ u hu, coe_sum _ u hu, coe_sum (fun k => late f (p + 16 - k)) (fun k => u (p + 16 - k)) (fun k => hu _),
    ← EReal.coe_sub, Finset.sum_range_add, add_sub_cancel_left]
  congr 1
  rw [← Finset.sum_range_reflect]
  refine Finset.sum_congr rfl fun i hi => ?_
  have := Finset.mem_range.1 hi
  exact congrArg u (by omega)

end Cert.PoolSum

end
-- ==== Proof.PoolCsum.lean ====
/- The reference's running sum of the pooled columns, read at a batch, a row and a column. -/
module

public import proofs.«01_k».proof.Proof.Gen.Reference4Ideal.Run
public import proofs.«01_k».proof.Proof.PoolSum
public import Idealize.ShloMosaic.Lib.ShapeFacts

@[expose] public section

set_option maxRecDepth 16384

noncomputable section

open Idealize.ShloMosaic Idealize.ShloMosaic.TcCoe Idealize.SL.Sem

namespace Cert.PoolRef

open Cert.Reference4Ideal Cert.Reference4Ideal.Gen

/-- A column of a batch as a sequence, zero past its end. -/
def seq (x : FVec Ideal S2x4096x512 .f32) (b : Fin 2) (l : Fin 512) (i : ℕ) : EReal :=
  if h : i < 4096 then x (ix3 b ⟨i, h⟩ l) else 0

/-- The running sum along the rows. -/
def csum (x : FVec Ideal S2x4096x512 .f32) : FVec Ideal S2x4096x512 .f32 :=
  Host.reduceWindowAdd ![1, 4096, 1] ![1, 1, 1] ![0, 4095, 0] ![0, 0, 0] x
    (broadcastInDim S_ ![] bcast_S_S_ (constant (F := Ideal) S_ .f32 0x00000000#32))
    reduceWindows_S2x4096x512_S2x4096x512_w1s1p0_0_w4096s1p4095_0_w1s1p0_0 h_S_

/-- A window is as many rows as it is long, -/
theorem numel_window : (⟨3, ![1, 4096, 1]⟩ : Shape).numel = 4096 :=
  (Shape.numel_rank3 _).trans (by rfl)

/-- and its place `n` is row `n`. -/
theorem symm_window (n : Fin (⟨3, ![1, 4096, 1]⟩ : Shape).numel) (a : Fin 3) :
    (((⟨3, ![1, 4096, 1]⟩ : Shape).rowMajor.symm n) a : ℕ) = if a = 1 then (n : ℕ) else 0 := by
  have h := Shape.rowMajor_val_three ((⟨3, ![1, 4096, 1]⟩ : Shape).rowMajor.symm n)
  rw [Equiv.apply_symm_apply] at h
  have hn : (n : ℕ) < 4096 := lt_of_lt_of_eq n.isLt numel_window
  have h0 : (((⟨3, ![1, 4096, 1]⟩ : Shape).rowMajor.symm n) 0 : ℕ) < 1 := (((⟨3, ![1, 4096, 1]⟩ : Shape).rowMajor.symm n) 0).isLt
  have h2 : (((⟨3, ![1, 4096, 1]⟩ : Shape).rowMajor.symm n) 2 : ℕ) < 1 := (((⟨3, ![1, 4096, 1]⟩ : Shape).rowMajor.symm n) 2).isLt
  change (n : ℕ) = ((((⟨3, ![1, 4096, 1]⟩ : Shape).rowMajor.symm n) 0 : ℕ) * 4096 + (((⟨3, ![1, 4096, 1]⟩ : Shape).rowMajor.symm n) 1 : ℕ)) * 1
    + (((⟨3, ![1, 4096, 1]⟩ : Shape).rowMajor.symm n) 2 : ℕ) at h
  match a with
  | ⟨0, _⟩ => exact Nat.lt_one_iff.1 h0
  | ⟨1, _⟩ =>
    show (((⟨3, ![1, 4096, 1]⟩ : Shape).rowMajor.symm n) 1 : ℕ) = n
    omega
  | ⟨2, _⟩ => exact Nat.lt_one_iff.1 h2

theorem csum_at (x : FVec Ideal S2x4096x512 .f32) (b : Fin 2) (p : Fin 4096) (l : Fin 512) :
    csum x (ix3 b p l) = ∑ i ∈ Finset.range ((p : ℕ) + 1), seq x b l i := by
  have hz : (broadcastInDim S_ ![] bcast_S_S_ (constant (F := Ideal) S_ .f32 0x00000000#32)) (Shape.Idx.first h_S_) = (0 : EReal) := by
    show Ideal.ofBits .f32 0x00000000#32 = 0
    simp [Ideal.ofBits, Ideal.ieee]
  unfold csum Host.reduceWindowAdd
  rw [Ideal.hostReduceWindowAdd_def, hz]
  unfold Ideal.hostReduceWindowAdd Host.reduceWindow
  refine (PoolSum.foldl_add _ _ _).trans ?_
  rw [zero_add, ← Fin.sum_univ_def]
  refine Eq.trans ?_ ((Fin.sum_univ_eq_sum_range (fun i : ℕ => if 4095 ≤ (p : ℕ) + i then seq x b l ((p : ℕ) + i - 4095) else 0)
      (⟨3, ![1, 4096, 1]⟩ : Shape).numel).trans
    ((congrArg (fun N => ∑ i ∈ Finset.range N, if 4095 ≤ (p : ℕ) + i then seq x b l ((p : ℕ) + i - 4095) else 0) numel_window).trans
      (PoolSum.window (seq x b l) p p.isLt)))
  refine Finset.sum_congr rfl fun n _ => ?_
  have hn : (n : ℕ) < 4096 := lt_of_lt_of_eq n.isLt numel_window
  have w0 := symm_window n 0
  have w1 := symm_window n 1
  have w2 := symm_window n 2
  simp only [Fin.isValue, one_ne_zero, zero_ne_one, if_true, if_false, show ¬((2 : Fin 3) = 1) by decide, show ¬((0 : Fin 3) = 1) by decide] at w0 w1 w2
  dsimp only
  split
  · next hin =>
    have h1 := hin 1
    change 4095 ≤ (p : ℕ) * 1 + (((⟨3, ![1, 4096, 1]⟩ : Shape).rowMajor.symm n) 1 : ℕ)
      ∧ (p : ℕ) * 1 + (((⟨3, ![1, 4096, 1]⟩ : Shape).rowMajor.symm n) 1 : ℕ) - 4095 < 4096 at h1
    rw [w1] at h1
    rw [if_pos (by omega)]
    unfold seq
    rw [dif_pos (by omega)]
    refine congrArg x (funext fun a => Fin.ext ?_)
    match a with
    | ⟨0, _⟩ =>
      show (b : ℕ) * 1 + (((⟨3, ![1, 4096, 1]⟩ : Shape).rowMajor.symm n) 0 : ℕ) - 0 = b
      rw [w0]; omega
    | ⟨1, _⟩ =>
      show (p : ℕ) * 1 + (((⟨3, ![1, 4096, 1]⟩ : Shape).rowMajor.symm n) 1 : ℕ) - 4095 = (p : ℕ) + n - 4095
      rw [w1]; omega
    | ⟨2, _⟩ =>
      show (l : ℕ) * 1 + (((⟨3, ![1, 4096, 1]⟩ : Shape).rowMajor.symm n) 2 : ℕ) - 0 = l
      rw [w2]; omega
  · next hin =>
    refine (if_neg fun hle => hin fun a => ?_).symm
    match a with
    | ⟨0, _⟩ =>
      show 0 ≤ (b : ℕ) * 1 + (((⟨3, ![1, 4096, 1]⟩ : Shape).rowMajor.symm n) 0 : ℕ)
        ∧ (b : ℕ) * 1 + (((⟨3, ![1, 4096, 1]⟩ : Shape).rowMajor.symm n) 0 : ℕ) - 0 < 2
      rw [w0]; omega
    | ⟨1, _⟩ =>
      show 4095 ≤ (p : ℕ) * 1 + (((⟨3, ![1, 4096, 1]⟩ : Shape).rowMajor.symm n) 1 : ℕ)
        ∧ (p : ℕ) * 1 + (((⟨3, ![1, 4096, 1]⟩ : Shape).rowMajor.symm n) 1 : ℕ) - 4095 < 4096
      rw [w1]; omega
    | ⟨2, _⟩ =>
      show 0 ≤ (l : ℕ) * 1 + (((⟨3, ![1, 4096, 1]⟩ : Shape).rowMajor.symm n) 2 : ℕ)
        ∧ (l : ℕ) * 1 + (((⟨3, ![1, 4096, 1]⟩ : Shape).rowMajor.symm n) 2 : ℕ) - 0 < 512
      rw [w2]; omega

end Cert.PoolRef

end
-- ==== Proof.PoolScratch.lean ====
/- What the scratch of the pooling holds at a grid step: the tile's rows, after the last sixteen rows before the tile. -/
module

public import Idealize.ShloMosaic.Lib.Pipeline.ReadBack
public import Idealize.ShloMosaic.Lib.WritesUnit
public import proofs.«01_k».proof.Proof.PoolReads
public import proofs.«01_k».proof.Proof.PoolCsum

@[expose] public section

set_option maxRecDepth 16384

noncomputable section

open Idealize.ShloMosaic Idealize.ShloMosaic.TcCoe Idealize.SL.Sem
open Idealize.ShloMosaic.Pipeline (Dat)

namespace Cert.Pool

open Cert.Kernel4Ideal Cert.Kernel4Ideal.Gen

variable (m : (ℓ : Loc nD τ sig) → Buf (Elt Ideal) ℓ)

/-- A row at or after the sixteenth reads the tile stored there, -/
theorem fresh (f : (View.whole cc0_scratch0).ty.Contents (Elt Ideal)) (P : FVec Ideal S512x512 .f32)
    (L : List (View.Piece (Elt Ideal) S528x512 .f32)) (y : Fin 528) (l : Fin 512) (h : 16 ≤ (y : ℕ)) :
    View.read (Elt Ideal) (View.whole cc0_scratch0) ((View.whole cc0_scratch0).writes (Elt Ideal) f
      (⟨Rect.unit (s := S528x512) ![16, 0] S512x512.size inb_S528x512_S512x512_16_0, P⟩ :: L)) (ix2 y l)
      = P (ix2 ⟨(y : ℕ) - 16, by omega⟩ l) :=
  View.read_writes_cons_rows_of_mem _ f _ P L (ix2 y l) (ix2 ⟨(y : ℕ) - 16, by omega⟩ l) rfl
    (by show (y : ℕ) = 16 + ((y : ℕ) - 16); omega) rfl

/-- a row before it what the scratch held, -/
theorem older (f : (View.whole cc0_scratch0).ty.Contents (Elt Ideal)) (P : FVec Ideal S512x512 .f32)
    (L : List (View.Piece (Elt Ideal) S528x512 .f32)) (y : Fin 528) (l : Fin 512) (h : (y : ℕ) < 16) :
    View.read (Elt Ideal) (View.whole cc0_scratch0) ((View.whole cc0_scratch0).writes (Elt Ideal) f
      (⟨Rect.unit (s := S528x512) ![16, 0] S512x512.size inb_S528x512_S512x512_16_0, P⟩ :: L)) (ix2 y l)
      = View.read (Elt Ideal) (View.whole cc0_scratch0) ((View.whole cc0_scratch0).writes (Elt Ideal) f L) (ix2 y l) :=
  View.read_writes_cons_rows_of_not_mem (W := 512) _ f _ P L (ix2 y l) rfl rfl (Or.inl h)

/-- and the first sixteen rows what was stored there. -/
theorem first (f : (View.whole cc0_scratch0).ty.Contents (Elt Ideal)) (Z : FVec Ideal S16x512 .f32)
    (L : List (View.Piece (Elt Ideal) S528x512 .f32)) (y : Fin 528) (l : Fin 512) (h : (y : ℕ) < 16) :
    View.read (Elt Ideal) (View.whole cc0_scratch0) ((View.whole cc0_scratch0).writes (Elt Ideal) f
      (⟨Rect.unit (s := S528x512) ![0, 0] S16x512.size inb_S528x512_S16x512_0_0, Z⟩ :: L)) (ix2 y l)
      = Z (ix2 ⟨(y : ℕ), h⟩ l) :=
  View.read_writes_cons_rows_of_mem _ f _ Z L (ix2 y l) (ix2 ⟨(y : ℕ), h⟩ l) rfl
    (by show (y : ℕ) = 0 + (y : ℕ); omega) rfl

/-- The tile at a row and a column. -/
theorem tile_at (c : Dev nD) (t : Fin cfg0.N) (r l : Fin 512) :
    k0_pay3 (F := Ideal) (iblk m c 0 t) (ix2 r l) = colArg m c (ix3 (batch t) (row t r) l) := by
  refine Eq.trans ?_ (col_at m c t r l)
  pointwise [k0_pay3]

/-- The padded column a scratch column holds a stretch of. -/
def line (c : Dev nD) (t : Fin cfg0.N) (l : Fin 512) (i : ℕ) : EReal := PoolSum.late (PoolRef.seq (colArg m c) (batch t) l) i

theorem line_row (c : Dev nD) (t : Fin cfg0.N) (r l : Fin 512) (i : ℕ) (h : i = (t : ℕ) % 8 * 512 + 16 + r) :
    line m c t l i = colArg m c (ix3 (batch t) (row t r) l) := by
  subst h
  unfold line PoolSum.late PoolRef.seq row
  rw [if_neg (by omega), dif_pos (by omega)]
  exact congrArg (fun i => colArg m c (ix3 (batch t) i l)) (Fin.ext (by show (t : ℕ) % 8 * 512 + 16 + r - 16 = (t : ℕ) % 8 * 512 + r; omega))

/-- The rows of a step's tile, whatever was in the scratch. -/
theorem now (c : Dev nD) (t : Fin cfg0.N) (f : (View.whole cc0_scratch0).ty.Contents (Elt Ideal))
    (L : List (View.Piece (Elt Ideal) S528x512 .f32)) (y : Fin 528) (l : Fin 512) (h : 16 ≤ (y : ℕ)) :
    View.read (Elt Ideal) (View.whole cc0_scratch0) ((View.whole cc0_scratch0).writes (Elt Ideal) f
      (⟨Rect.unit (s := S528x512) ![16, 0] S512x512.size inb_S528x512_S512x512_16_0, k0_pay3 (F := Ideal) (iblk m c 0 t)⟩ :: L)) (ix2 y l)
      = line m c t l ((t : ℕ) % 8 * 512 + y) := by
  refine (fresh f _ L y l h).trans ((tile_at m c t _ l).trans (line_row m c t _ l _ ?_).symm)
  show (t : ℕ) % 8 * 512 + (y : ℕ) = (t : ℕ) % 8 * 512 + 16 + ((y : ℕ) - 16)
  omega

/-- A load of a stretch of rows and a group's columns. -/
theorem stretch (c : Dev nD) (t : Fin cfg0.N) (X : S528x512.Idx → EReal) (lo : ℕ)
    (hX : ∀ (y : Fin 528) (l : Fin 512), lo ≤ (y : ℕ) → X (ix2 y l) = line m c t l ((t : ℕ) % 8 * 512 + y)) (o col k : ℕ)
    (hr : ∀ a, (![o, col] : Fin 2 → ℕ) a + S512x128.size a ≤ S528x512.size a) (ho : lo ≤ o) (hk : o + k = 16) (r : Fin 512) (e : Fin 128)
    (hl : col + (e : ℕ) < 512) :
    X ((Rect.unit (s := S528x512) ![o, col] S512x128.size hr).toLoadRect.idx (ix2 r e)) = line m c t ⟨col + (e : ℕ), hl⟩ ((row t r : ℕ) + 16 - k) := by
  have e0 : (Rect.unit (s := S528x512) ![o, col] S512x128.size hr).toLoadRect.idx (ix2 r e)
      = ix2 (⟨o + (r : ℕ), by omega⟩ : Fin 528) (⟨col + (e : ℕ), hl⟩ : Fin 512) := by
    funext a
    apply Fin.ext
    fin_cases a
    · show o + 1 * (r : ℕ) = o + r; omega
    · show col + 1 * (e : ℕ) = col + e; omega
  rw [e0, hX _ _ (by show lo ≤ o + (r : ℕ); omega)]
  refine congrArg (line m c t _) ?_
  show (t : ℕ) % 8 * 512 + (o + r) = (t : ℕ) % 8 * 512 + r + 16 - k
  omega

/-- The first step of a batch: zeros before the tile. -/
theorem load_first (c : Dev nD) (t : Fin cfg0.N) (h0 : (t : ℕ) % 8 = 0) (o col k : ℕ)
    (hr : ∀ a, (![o, col] : Fin 2 → ℕ) a + S512x128.size a ≤ S528x512.size a) (hk : o + k = 16) (r : Fin 512) (e : Fin 128)
    (hl : col + (e : ℕ) < 512) :
    (View.whole cc0_scratch0).readCov (Val := Elt Ideal)
      [⟨Rect.unit (s := S528x512) ![16, 0] S512x512.size inb_S528x512_S512x512_16_0, k0_pay3 (F := Ideal) (iblk m c 0 t)⟩,
        ⟨Rect.unit (s := S528x512) ![0, 0] S16x512.size inb_S528x512_S16x512_0_0, k0_pay2 (F := Ideal)⟩]
      (Rect.unit (s := S528x512) ![o, col] S512x128.size hr).toLoadRect (ix2 r e) = line m c t ⟨col + (e : ℕ), hl⟩ ((row t r : ℕ) + 16 - k) := by
  refine stretch m c t (fun y => View.read (Elt Ideal) (View.whole cc0_scratch0) ((View.whole cc0_scratch0).writes (Elt Ideal)
    (View.whole cc0_scratch0).junk [⟨Rect.unit (s := S528x512) ![16, 0] S512x512.size inb_S528x512_S512x512_16_0, k0_pay3 (F := Ideal) (iblk m c 0 t)⟩,
        ⟨Rect.unit (s := S528x512) ![0, 0] S16x512.size inb_S528x512_S16x512_0_0, k0_pay2 (F := Ideal)⟩]) y) 0 (fun y l _ => ?_) o col k hr
    (Nat.zero_le _) hk r e hl
  by_cases h : 16 ≤ (y : ℕ)
  · exact now m c t _ _ y l h
  · refine (older _ _ _ y l (by omega)).trans ((first _ _ _ y l (by omega)).trans (Eq.trans (b := (0 : EReal)) ?_ ?_))
    · pointwise [k0_pay2]
    · unfold line PoolSum.late
      rw [if_pos (by omega)]

/-- A later step: the tile's own rows, -/
theorem load_now (c : Dev nD) (t : Fin cfg0.N) (col : ℕ)
    (hr : ∀ a, (![16, col] : Fin 2 → ℕ) a + S512x128.size a ≤ S528x512.size a) (r : Fin 512) (e : Fin 128)
    (hl : col + (e : ℕ) < 512) :
    (View.whole cc0_scratch0).readCov (Val := Elt Ideal)
      [⟨Rect.unit (s := S528x512) ![16, 0] S512x512.size inb_S528x512_S512x512_16_0, k0_pay3 (F := Ideal) (iblk m c 0 t)⟩]
      (Rect.unit (s := S528x512) ![16, col] S512x128.size hr).toLoadRect (ix2 r e) = line m c t ⟨col + (e : ℕ), hl⟩ ((row t r : ℕ) + 16 - 0) :=
  stretch m c t (fun y => View.read (Elt Ideal) (View.whole cc0_scratch0) ((View.whole cc0_scratch0).writes (Elt Ideal)
    (View.whole cc0_scratch0).junk [⟨Rect.unit (s := S528x512) ![16, 0] S512x512.size inb_S528x512_S512x512_16_0, k0_pay3 (F := Ideal) (iblk m c 0 t)⟩])
      y) 16 (fun y l h => now m c t _ _ y l h) 16 col 0 hr (le_refl _) rfl r e hl

/-- and with the rows carried from the step before. -/
theorem load_later (c : Dev nD) (t : Fin cfg0.N) (w : (Memref.whole cc0_scratch0).IsWhole) (X : S528x512.Idx → EReal)
    (hX : ∀ (y : Fin 528) (l : Fin 512), (y : ℕ) < 16 → X (ix2 y l) = line m c t l ((t : ℕ) % 8 * 512 + y)) (o col k : ℕ)
    (hr : ∀ a, (![o, col] : Fin 2 → ℕ) a + S512x128.size a ≤ S528x512.size a) (hk : o + k = 16) (r : Fin 512) (e : Fin 128)
    (hl : col + (e : ℕ) < 512) :
    View.ld (Val := Elt Ideal) (View.read (Elt Ideal) (View.whole cc0_scratch0) ((View.whole cc0_scratch0).writes (Elt Ideal) (w.unread X)
      [⟨Rect.unit (s := S528x512) ![16, 0] S512x512.size inb_S528x512_S512x512_16_0, k0_pay3 (F := Ideal) (iblk m c 0 t)⟩]))
      (Rect.unit (s := S528x512) ![o, col] S512x128.size hr) (ix2 r e) = line m c t ⟨col + (e : ℕ), hl⟩ ((row t r : ℕ) + 16 - k) := by
  refine stretch m c t (fun y => View.read (Elt Ideal) (View.whole cc0_scratch0) ((View.whole cc0_scratch0).writes (Elt Ideal)
    (w.unread X) [⟨Rect.unit (s := S528x512) ![16, 0] S512x512.size inb_S528x512_S512x512_16_0, k0_pay3 (F := Ideal) (iblk m c 0 t)⟩])
      y) 0 (fun y l _ => ?_) o col k hr (Nat.zero_le _) hk r e hl
  by_cases h : 16 ≤ (y : ℕ)
  · exact now m c t _ _ y l h
  · refine (older _ _ _ y l (by omega)).trans (Eq.trans ?_ (hX y l (by omega)))
    exact congrFun (read_unread_whole (Val := Elt Ideal) cc0_scratch0 w X) (ix2 y l)

end Cert.Pool

end
-- ==== Proof.PoolCarry.lean ====
/- What the scratch of the pooling carries from one grid step to the next: the last sixteen rows of the tile. -/
module

public import proofs.«01_k».proof.Proof.PoolScratch

@[expose] public section

set_option maxRecDepth 16384

noncomputable section

open Idealize.ShloMosaic Idealize.ShloMosaic.TcCoe Idealize.SL.Sem
open Idealize.ShloMosaic.Pipeline (Dat)

namespace Cert.Pool

open Cert.Kernel4Ideal Cert.Kernel4Ideal.Gen

variable (m : (ℓ : Loc nD τ sig) → Buf (Elt Ideal) ℓ)

/-- The rows kept for the step after are stored as loaded. -/
theorem kept_at (v : FVec Ideal S16x512 .f32) (i : Fin 16) (l : Fin 512) : k0_pay12 (F := Ideal) v (ix2 i l) = v (ix2 i l) := by
  pointwise [k0_pay12]

/-- A load of the tile's last rows. -/
theorem tail_load (c : Dev nD) (t : Fin cfg0.N) (L : List (View.Piece (Elt Ideal) S528x512 .f32)) (i : Fin 16) (l : Fin 512) :
    (View.whole cc0_scratch0).readCov (Val := Elt Ideal)
      (⟨Rect.unit (s := S528x512) ![16, 0] S512x512.size inb_S528x512_S512x512_16_0, k0_pay3 (F := Ideal) (iblk m c 0 t)⟩ :: L)
      (Rect.unit (s := S528x512) ![512, 0] S16x512.size inb_S528x512_S16x512_512_0).toLoadRect (ix2 i l)
      = line m c t l ((t : ℕ) % 8 * 512 + 512 + i) := by
  have e0 : (Rect.unit (s := S528x512) ![512, 0] S16x512.size inb_S528x512_S16x512_512_0).toLoadRect.idx (ix2 i l)
      = ix2 (⟨512 + (i : ℕ), by omega⟩ : Fin 528) l := by
    funext a
    apply Fin.ext
    fin_cases a
    · show 512 + 1 * (i : ℕ) = 512 + i; omega
    · show 0 + 1 * (l : ℕ) = l; omega
  refine (congrArg (fun y => View.read (Elt Ideal) (View.whole cc0_scratch0) ((View.whole cc0_scratch0).writes (Elt Ideal)
    (View.whole cc0_scratch0).junk
      (⟨Rect.unit (s := S528x512) ![16, 0] S512x512.size inb_S528x512_S512x512_16_0, k0_pay3 (F := Ideal) (iblk m c 0 t)⟩ :: L)) y) e0).trans ?_
  refine (now m c t _ L _ l (by show 16 ≤ 512 + (i : ℕ); omega)).trans (congrArg (line m c t l) ?_)
  show (t : ℕ) % 8 * 512 + (512 + (i : ℕ)) = _
  omega

/-- The step before, in the same batch. -/
def before (t : Fin cfg0.N) : Fin cfg0.N := ⟨(t : ℕ) - 1, Nat.lt_of_le_of_lt (Nat.sub_le _ _) t.isLt⟩

theorem carried (c : Dev nD) (t : Fin cfg0.N) (y : Fin 528) (l : Fin 512) (h : (y : ℕ) < 16) :
    (outsAt0 m c t.val t.isLt).2.2 (ix2 y l) = line m c t l ((t : ℕ) % 8 * 512 + 512 + y) := by
  have e : (ix2 y l : S528x512.Idx) = (Rect.unit (s := S528x512) ![0, 0] S16x512.size inb_S528x512_S16x512_0_0).emb (ix2 ⟨(y : ℕ), h⟩ l) := by
    funext a
    apply Fin.ext
    fin_cases a
    · show (y : ℕ) = 0 + 1 * (y : ℕ); omega
    · show (l : ℕ) = 0 + 1 * (l : ℕ); omega
  by_cases h0 : t.val % 8 = 0
  · rw [outsAt0_A m c t h0]
    frame_out
    rw [e]
    refine (View.canon_cons_emb (Val := Elt Ideal) (Rect.unit (s := S528x512) ![0, 0] S16x512.size inb_S528x512_S16x512_0_0) _ _ _).trans ?_
    exact (kept_at _ _ l).trans (tail_load m c t _ ⟨(y : ℕ), h⟩ l)
  · rw [outsAt0_B m c t h0]
    frame_out
    rw [e]
    refine (View.canon_cons_emb (Val := Elt Ideal) (Rect.unit (s := S528x512) ![0, 0] S16x512.size inb_S528x512_S16x512_0_0) _ _ _).trans ?_
    exact (kept_at _ _ l).trans (tail_load m c t _ ⟨(y : ℕ), h⟩ l)

/-- The rows carried into a step. -/
theorem carry (c : Dev nD) (t : Fin cfg0.N) (h0 : ¬ t.val % 8 = 0) (y : Fin 528) (l : Fin 512) (h : (y : ℕ) < 16) :
    (outsAt0 m c (t.val - 1) (Nat.lt_of_le_of_lt (Nat.sub_le _ _) t.isLt)).2.2 (ix2 y l) = line m c t l ((t : ℕ) % 8 * 512 + y) := by
  refine (carried m c (before t) y l h).trans ?_
  have eb : batch (before t) = batch t := Fin.ext (by show ((t : ℕ) - 1) / 8 = (t : ℕ) / 8; omega)
  have ei : ((before t : Fin cfg0.N) : ℕ) % 8 * 512 + 512 + y = (t : ℕ) % 8 * 512 + y := by
    show ((t : ℕ) - 1) % 8 * 512 + 512 + (y : ℕ) = _
    omega
  rw [ei]
  unfold line
  rw [eb]

end Cert.Pool

end
-- ==== Proof.PoolRow.lean ====
/- One row of the memory attention over the extended reals, and the words of the counts: dividing the weighted sum by the softmax's
   denominator gives what weighting the values by the quotients gives. -/
module

public import proofs.«01_k».proof.Proof.SwaRow

@[expose] public section

noncomputable section

open Idealize.ShloMosaic

namespace Cert.PoolRow

open SwaRow (Real' low low_eq)

/-- The scale of the scores. -/
def scale : EReal := FloatOps.ofBits (F := Ideal) .f32 0x3DB504F3#32

theorem scale_real : Real' scale := by
  show ∃ r : ℝ, Ideal.ofBits .f32 0x3DB504F3#32 = _
  exact ⟨_, by simp only [Ideal.ofBits, Ideal.ieee]; norm_num [-EReal.coe_mul]; rfl⟩

/-- The largest of a row's scores. -/
def top (s : Fin 256 → EReal) : EReal := Finset.univ.fold max low s

/-- The softmax's denominator. -/
def den (s : Fin 256 → EReal) : EReal := ∑ j, Ideal.exp (s j - top s)

/-- The row as the kernel computes it. -/
def row (s v : Fin 256 → EReal) : EReal := Ideal.div (∑ j, Ideal.exp (s j - top s) * v j) (den s)

/-- The row as the reference computes it. -/
def whole (s v : Fin 256 → EReal) : EReal := ∑ j, v j * Ideal.div (Ideal.exp (s j - top s)) (den s)

theorem Real'.ne_top {x : EReal} (h : Real' x) : x ≠ ⊤ := by
  obtain ⟨r, rfl⟩ := h
  exact EReal.coe_ne_top r

theorem top_real (s : Fin 256 → EReal) (hs : ∀ j, Real' (s j)) : Real' (top s) := by
  have h1 : top s ≠ ⊤ := SwaRow.fold_ne_top s fun j => Real'.ne_top (hs j)
  have h2 : top s ≠ ⊥ := by
    intro h
    obtain ⟨r, hr⟩ := hs 0
    have : s 0 ≤ top s := (Finset.le_fold_max _).2 (Or.inr ⟨0, Finset.mem_univ _, le_refl _⟩)
    rw [h, hr] at this
    exact EReal.coe_ne_bot r (le_bot_iff.1 this)
  exact ⟨(top s).toReal, (EReal.coe_toReal h1 h2).symm⟩

theorem den_real (s : Fin 256 → EReal) (hs : ∀ j, Real' (s j)) : ∃ d : ℝ, 0 < d ∧ den s = (d : EReal) := by
  obtain ⟨m, hm⟩ := top_real s hs
  unfold den
  rw [hm]
  choose u hu using hs
  refine ⟨∑ j, Real.exp (u j - m), Finset.sum_pos (fun j _ => Real.exp_pos _) Finset.univ_nonempty, ?_⟩
  have key : ∀ t : Finset (Fin 256), ∑ j ∈ t, Ideal.exp (s j - (m : EReal)) = ((∑ j ∈ t, Real.exp (u j - m) : ℝ) : EReal) := by
    classical
    intro t
    induction t using Finset.induction with
    | empty => simp
    | insert a t ha ih =>
      rw [Finset.sum_insert ha, Finset.sum_insert ha, ih, hu a, ← EReal.coe_sub, EReal.coe_add]
      rfl
  exact key _

/-- The two rows agree where the scores are real numbers. -/
theorem whole_eq_row (s v : Fin 256 → EReal) (hs : ∀ j, Real' (s j)) : whole s v = row s v := by
  obtain ⟨d, hd, hden⟩ := den_real s hs
  unfold whole row
  rw [hden]
  simp only [Ideal.div_coe hd.ne']
  rw [mul_comm (∑ j, _) _, SwaRow.mul_sum (1 / d) (by positivity)]
  refine Finset.sum_congr rfl fun j _ => ?_
  rw [mul_comm (v j), mul_right_comm, mul_comm]

end Cert.PoolRow

end
-- ==== Proof.PoolBlock.lean ====
/- A grid step's pooled group and its memory head, read at a row and a column. -/
module

public import Idealize.ShloMosaic.Lib.Pipeline.ValueKit
public import proofs.«01_k».proof.Proof.Gen.Kernel4Ideal.Frame
public import proofs.«01_k».proof.Proof.PoolRow

@[expose] public section

set_option maxRecDepth 16384

noncomputable section

open Idealize.ShloMosaic Idealize.ShloMosaic.TcCoe Idealize.SL.Sem

namespace Cert.Pool

open Cert.Kernel4Ideal Cert.Kernel4Ideal.Gen

/-- A memory head's scores. -/
def scores (q : FVec Ideal S512x128 .bf16) (k : FVec Ideal S256x128 .bf16) : FVec Ideal S512x256 .f32 :=
  mulf (matmul dot_S512x128_S256x128_S512x256_1_1_0_0_n_n none q k (constant S512x256 .f32 0x00000000#32))
    (broadcast S512x256 (Scalar.ofBits (F := Ideal) .f32 0x3DB504F3#32))

theorem scores_at (q : FVec Ideal S512x128 .bf16) (k : FVec Ideal S256x128 .bf16) (r : Fin 512) (j : Fin 256) :
    scores q k (ix2 r j) = (∑ e : Fin 128, q (ix2 r e) * k (ix2 j e)) * PoolRow.scale := by
  pointwise [scores]
  rfl

/-- From the scores to the head's output. -/
def attend (s : FVec Ideal S512x256 .f32) (v : FVec Ideal S256x128 .bf16) : FVec Ideal S512x128 .f32 :=
  have p := exp (subf s (broadcastTo S512x256 (shapeCast S512x1 (multiReduction .maximumf [1] S512 s 0xFF800000#32 reduces_S512x256_S512 (.inl rfl) rfl)
    shapeCasts_S512_S512x1) broadcasts_S512x1_S512x256))
  divf (matmul dot_S512x256_S256x128_S512x128_1_0_0_1_n_n none (truncf .bf16 p bitsLt_bf16_f32) v (constant S512x128 .f32 0x00000000#32))
    (broadcastTo S512x128 (shapeCast S512x1 (multiReduction .add [1] S512 p 0x00000000#32 reduces_S512x256_S512 (.inl rfl) rfl)
      shapeCasts_S512_S512x1) broadcasts_S512x1_S512x128)

theorem attend_at (s : FVec Ideal S512x256 .f32) (v : FVec Ideal S256x128 .bf16) (r : Fin 512) (d : Fin 128) :
    attend s v (ix2 r d) = PoolRow.row (fun j => s (ix2 r j)) (fun j => v (ix2 j d)) := by
  pointwise [attend]
  rfl

/-- A head. -/
def head (k v : FVec Ideal S1x256x128 .bf16) (q : FVec Ideal S1x512x128 .bf16) : FVec Ideal S1x512x128 .bf16 :=
  shapeCast S1x512x128 (truncf .bf16 (attend (scores (shapeCast S512x128 q shapeCasts_S1x512x128_S512x128)
    (shapeCast S256x128 k shapeCasts_S1x256x128_S256x128)) (shapeCast S256x128 v shapeCasts_S1x256x128_S256x128)) bitsLt_bf16_f32)
    shapeCasts_S512x128_S1x512x128

theorem head_at (k v : FVec Ideal S1x256x128 .bf16) (q : FVec Ideal S1x512x128 .bf16) (r : Fin 512) (d : Fin 128) :
    head k v q (ix3 0 r d) = PoolRow.row (fun j => (∑ e : Fin 128, q (ix3 0 r e) * k (ix3 0 j e)) * PoolRow.scale) (fun j => v (ix3 0 j d)) := by
  pointwise [head, attend_at, scores_at]

theorem head_last (k v : FVec Ideal S1x256x128 .bf16) (q : FVec Ideal S1x512x128 .bf16) : k0_pay1 (F := Ideal) k v q = head k v q := rfl
theorem head_third (k v : FVec Ideal S1x256x128 .bf16) (q : FVec Ideal S1x512x128 .bf16) : k0_pay20 (F := Ideal) k v q = head k v q := rfl
theorem head_second (k v : FVec Ideal S1x256x128 .bf16) (q : FVec Ideal S1x512x128 .bf16) :
    k0_pay19 (F := Ideal) (k0_pay16 v) (k0_pay17 k q) (k0_pay18 k q) = head k v q := rfl
theorem head_first (k v : FVec Ideal S1x256x128 .bf16) (q : FVec Ideal S1x512x128 .bf16) :
    k0_pay15 (F := Ideal) (k0_pay13 k) (k0_pay14 v) q = head k v q := rfl

/-- The count of a row's window, as the kernel's word. -/
def tally (w : BitVec 32) (i : grid0.Coords) (r : Fin 512) : EReal :=
  FloatOps.sitofp (F := Ideal) .f32 (IntOp.minsi (IntOp.addi (IntOp.addi (IntOp.muli (BitVec.ofNat 32 (i 1).val) 512#32) (BitVec.ofNat 32 r)) 1#32) w)

/-- A group's pooled columns from the windows' sums. -/
def mean (w : BitVec 32) (i : grid0.Coords) (acc x : FVec Ideal S512x128 .f32) : FVec Ideal S512x128 .f32 :=
  subf (divf acc (broadcastTo S512x128 (sitofp (F := Ideal) .f32 (minsi (addi (k0_pay4 i) (broadcast S512x1 1#32)) (broadcast S512x1 w)))
    broadcasts_S512x1_S512x128)) x

theorem mean_at (w : BitVec 32) (i : grid0.Coords) (acc x : FVec Ideal S512x128 .f32) (r : Fin 512) (e : Fin 128) :
    mean w i acc x (ix2 r e) = Ideal.div (acc (ix2 r e)) (tally w i r) - x (ix2 r e) := by
  pointwise [mean, k0_pay4]
  rfl

/-- A group's output from its pooled columns. -/
def finish (p : FVec Ideal S512x128 .f32) (k : FVec Ideal S1x128x128 .bf16) (s : FVec Ideal S1x128 .f32) : FVec Ideal S1x512x128 .bf16 :=
  shapeCast S1x512x128 (truncf .bf16 (mulf (matmul dot_S512x128_S128x128_S512x128_1_0_0_1_n_n none (truncf .bf16 p bitsLt_bf16_f32)
      (shapeCast S128x128 k shapeCasts_S1x128x128_S128x128) (constant S512x128 .f32 0x00000000#32))
    (broadcastTo S512x128 (shapeCast S1x128 s shapeCasts_S1x128_S1x128) broadcasts_S1x128_S512x128)) bitsLt_bf16_f32)
    shapeCasts_S512x128_S1x512x128

theorem finish_at (p : FVec Ideal S512x128 .f32) (k : FVec Ideal S1x128x128 .bf16) (s : FVec Ideal S1x128 .f32) (r : Fin 512) (d : Fin 128) :
    finish p k s (ix3 0 r d) = (∑ e : Fin 128, p (ix2 r e) * k (ix3 0 e d)) * s (ix2 0 d) := by
  pointwise [finish]

/-- The sum of a row's window, the loads folded in order. -/
def acc2 (v : Fin 2 → FVec Ideal S512x128 .f32) : FVec Ideal S512x128 .f32 := addf (v 0) (v 1)
def acc4 (v : Fin 4 → FVec Ideal S512x128 .f32) : FVec Ideal S512x128 .f32 := addf (addf (addf (v 0) (v 1)) (v 2)) (v 3)
def acc8 (v : Fin 8 → FVec Ideal S512x128 .f32) : FVec Ideal S512x128 .f32 :=
  addf (addf (addf (addf (addf (addf (addf (v 0) (v 1)) (v 2)) (v 3)) (v 4)) (v 5)) (v 6)) (v 7)
def acc16 (v : Fin 16 → FVec Ideal S512x128 .f32) : FVec Ideal S512x128 .f32 :=
  addf (addf (addf (addf (addf (addf (addf (addf (addf (addf (addf (addf (addf (addf (addf (v 0) (v 1)) (v 2)) (v 3)) (v 4)) (v 5)) (v 6)) (v 7))
    (v 8)) (v 9)) (v 10)) (v 11)) (v 12)) (v 13)) (v 14)) (v 15)

theorem acc2_at (v : Fin 2 → FVec Ideal S512x128 .f32) (f : ℕ → EReal) (i : S512x128.Idx) (h : ∀ k, v k i = f k) :
    acc2 v i = ∑ k ∈ Finset.range 2, f k := by
  simp only [Finset.sum_range_succ, Finset.sum_range_zero, zero_add]
  show v 0 i + v 1 i = _
  simp only [h]
  rfl

theorem acc4_at (v : Fin 4 → FVec Ideal S512x128 .f32) (f : ℕ → EReal) (i : S512x128.Idx) (h : ∀ k, v k i = f k) :
    acc4 v i = ∑ k ∈ Finset.range 4, f k := by
  simp only [Finset.sum_range_succ, Finset.sum_range_zero, zero_add]
  show v 0 i + v 1 i + v 2 i + v 3 i = _
  simp only [h]
  rfl

theorem acc8_at (v : Fin 8 → FVec Ideal S512x128 .f32) (f : ℕ → EReal) (i : S512x128.Idx) (h : ∀ k, v k i = f k) :
    acc8 v i = ∑ k ∈ Finset.range 8, f k := by
  simp only [Finset.sum_range_succ, Finset.sum_range_zero, zero_add]
  show v 0 i + v 1 i + v 2 i + v 3 i + v 4 i + v 5 i + v 6 i + v 7 i = _
  simp only [h]
  rfl

theorem acc16_at (v : Fin 16 → FVec Ideal S512x128 .f32) (f : ℕ → EReal) (i : S512x128.Idx) (h : ∀ k, v k i = f k) :
    acc16 v i = ∑ k ∈ Finset.range 16, f k := by
  simp only [Finset.sum_range_succ, Finset.sum_range_zero, zero_add]
  show v 0 i + v 1 i + v 2 i + v 3 i + v 4 i + v 5 i + v 6 i + v 7 i + v 8 i + v 9 i + v 10 i + v 11 i + v 12 i + v 13 i + v 14 i + v 15 i = _
  simp only [h]
  rfl

section Payloads

variable (i : grid0.Coords) (x : FVec Ideal S512x128 .f32) (k : FVec Ideal S1x128x128 .bf16) (s : FVec Ideal S1x128 .f32)

theorem pay_two (v : Fin 2 → FVec Ideal S512x128 .f32) :
    k0_pay6 (F := Ideal) (k0_pay5 i (v 0) (v 1) x k s) = finish (mean 2#32 i (acc2 v) x) k s := rfl

theorem pay_four (v : Fin 4 → FVec Ideal S512x128 .f32) :
    k0_pay7 (F := Ideal) (k0_pay4 i) (v 0) (v 1) (v 2) (v 3) x k s = finish (mean 4#32 i (acc4 v) x) k s := rfl

theorem pay_eight (v : Fin 8 → FVec Ideal S512x128 .f32) :
    k0_pay9 (F := Ideal) (k0_pay8 (k0_pay4 i) (v 0) (v 1) (v 2) (v 3) (v 4) (v 5) (v 6) (v 7) x k s) = finish (mean 8#32 i (acc8 v) x) k s := rfl

theorem pay_sixteen (v : Fin 16 → FVec Ideal S512x128 .f32) :
    k0_pay11 (F := Ideal) (k0_pay4 i) (k0_pay10 (v 0) (v 1) (v 2) (v 3) (v 4) (v 5) (v 6) (v 7) (v 8) (v 9) (v 10) (v 11) (v 12) (v 13))
      (v 14) (v 15) x k s = finish (mean 16#32 i (acc16 v) x) k s := rfl

end Payloads

end Cert.Pool

end
-- ==== Proof.PoolTop.lean ====
/- The reference's row maxima of the memory attention. -/
module

public import proofs.«01_k».proof.Proof.Gen.Reference4Ideal.Run
public import proofs.«01_k».proof.Proof.PoolRow

@[expose] public section

set_option maxRecDepth 16384

noncomputable section

open Idealize.ShloMosaic Idealize.ShloMosaic.TcCoe Idealize.SL.Sem

namespace Cert.PoolRef

open Cert.Reference4Ideal Cert.Reference4Ideal.Gen

section Last

variable {n0 n1 n2 n3 : ℕ}

/-- The entries that drop to one of the first three axes' indices. -/
theorem fiber (h : (⟨4, ![n0, n1, n2, n3]⟩ : Shape).ReducesTo [3] ⟨3, ![n0, n1, n2]⟩) (a : Fin n0) (b : Fin n1) (c : Fin n2)
    (i : (⟨4, ![n0, n1, n2, n3]⟩ : Shape).Idx) :
    h.drop i = ix3 a b c ↔ ∃ k : Fin n3, ix4 a b c k = i := by
  constructor
  · intro q
    refine ⟨i 3, funext fun x => Fin.ext ?_⟩
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => rfl
  · rintro ⟨k, rfl⟩
    refine funext fun x => Fin.ext ?_
    match x with
    | ⟨0, _⟩ => rfl
    | ⟨1, _⟩ => rfl
    | ⟨2, _⟩ => rfl

/-- A maximum along the last of four axes. -/
theorem fold_last (h : (⟨4, ![n0, n1, n2, n3]⟩ : Shape).ReducesTo [3] ⟨3, ![n0, n1, n2]⟩) (a : Fin n0) (b : Fin n1)
    (c : Fin n2) (v : FVec Ideal ⟨4, ![n0, n1, n2, n3]⟩ .f32) (init : FVec Ideal ⟨0, ![]⟩ .f32) (hu : 0 < (⟨0, ![]⟩ : Shape).numel) :
    Host.reduce (FloatOps.maximumf (F := Ideal) (φ := .f32)) v init h hu (ix3 a b c)
      = (Finset.univ : Finset (Fin n3)).fold max (init (Shape.Idx.first hu)) fun k => v (ix4 a b c k) := by
  rw [Host.reduce_eq_fold]
  exact Finset.fold_filter_eq_fold_of_fiber max _ (fun k : Fin n3 => ix4 a b c k) (fun _ _ q => congrFun q 3)
    (fiber h a b c) _ v

end Last

/-- The largest score of each row, -/
def most (x : FVec Ideal S2x4x4096x256 .f32) : FVec Ideal S2x4x4096 .f32 :=
  Host.reduce FloatOps.maximumf x (constant S_ .f32 0xFF800000#32) reducesTo_S2x4x4096x256_S2x4x4096_d3 h_S_

theorem most_at (x : FVec Ideal S2x4x4096x256 .f32) (b : Fin 2) (h : Fin 4) (p : Fin 4096) :
    most x (ix3 b h p) = PoolRow.top fun j => x (ix4 b h p j) :=
  fold_last reducesTo_S2x4x4096x256_S2x4x4096_d3 b h p x _ h_S_

/-- and no less than the start, a column. -/
def start (y : FVec Ideal S2x4x4096 .f32) : FVec Ideal S2x4x4096x1 .f32 :=
  broadcastInDim S2x4x4096x1 ![0, 1, 2] bcast_S2x4x4096_S2x4x4096x1_0_1_2
    (maximumf (broadcastInDim S2x4x4096 ![] bcast_S_S2x4x4096 (constant S_ .f32 0xFF800000#32)) y)

theorem start_at (y : FVec Ideal S2x4x4096 .f32) (b : Fin 2) (h : Fin 4) (p : Fin 4096) :
    start y (ix4 b h p 0) = max (α := EReal) SwaRow.low (y (ix3 b h p)) := by
  pointwise [start]
  rfl

/-- The two together. -/
def tops (x : FVec Ideal S2x4x4096x256 .f32) : FVec Ideal S2x4x4096x1 .f32 := start (most x)

theorem tops_at (x : FVec Ideal S2x4x4096x256 .f32) (b : Fin 2) (h : Fin 4) (p : Fin 4096) :
    tops x (ix4 b h p 0) = PoolRow.top fun j => x (ix4 b h p j) := by
  unfold tops
  rw [start_at, most_at, SwaRow.low_eq]
  exact max_eq_right bot_le

end Cert.PoolRef

end
-- ==== Proof.PoolRef.lean ====
/- The reference of the pooling and the memory attention, read at a batch, a row and a column. -/
module

public import proofs.«01_k».proof.Proof.PoolCsum
public import proofs.«01_k».proof.Proof.PoolTop

@[expose] public section

set_option maxRecDepth 16384

noncomputable section

open Idealize.ShloMosaic Idealize.ShloMosaic.TcCoe Idealize.SL.Sem

namespace Cert.PoolRef

open Cert.Reference4Ideal Cert.Reference4Ideal.Gen

/-- The number of rows in a window of `w` ending at row `p`. -/
def count (w : BitVec 32) (p : ℕ) : EReal :=
  FloatOps.sitofp (F := Ideal) .f32 (IntOp.minsi (IntOp.addi 1#32 (BitVec.ofNat 32 p)) w)

/-- The number of rows in each row's window. -/
def counts (w : BitVec 32) : FVec Ideal S2x4096x128 .f32 :=
  broadcastInDim S2x4096x128 ![0, 1, 2] bcast_S1x4096x1_S2x4096x128_0_1_2 (broadcastInDim S1x4096x1 ![1] bcast_S4096_S1x4096x1_1
    (sitofp (F := Ideal) .f32 (minsi (addi (broadcastInDim S4096 ![] bcast_S_S4096 (constantI S_ 32 1#32)) (iotaInDim S4096 32 0))
      (broadcastInDim S4096 ![] bcast_S_S4096 (constantI S_ 32 w)))))

theorem counts_at (w : BitVec 32) (b : Fin 2) (p : Fin 4096) (l : Fin 128) : counts w (ix3 b p l) = count w p := by
  pointwise [counts]
  rfl

theorem zero_word : FloatOps.sitofp (F := Ideal) .f32 (0#32 : BitVec 32) = (0 : EReal) := by
  show (((0#32 : BitVec 32).toInt : ℝ) : EReal) = 0
  simp

/-- A window's sum of a column. -/
def win (w : ℕ) (x : FVec Ideal S2x4096x512 .f32) (b : Fin 2) (l : Fin 512) (p : ℕ) : EReal :=
  ∑ k ∈ Finset.range w, PoolSum.late (seq x b l) (p + 16 - k)

theorem seq_real (x : FVec Ideal S2x4096x512 .f32) (hx : ∀ i, SwaRow.Real' (x i)) (b : Fin 2) (l : Fin 512) (i : ℕ) :
    SwaRow.Real' (seq x b l i) := by
  unfold seq
  by_cases h : i < 4096
  · rw [dif_pos h]; exact hx _
  · rw [dif_neg h]; exact ⟨0, rfl⟩

/-- The difference of the two running sums is the window's sum. -/
theorem win_eq (w : ℕ) (hw : w ≤ 16) (x : FVec Ideal S2x4096x512 .f32) (hx : ∀ i, SwaRow.Real' (x i)) (b : Fin 2) (l : Fin 512) (p : Fin 4096) :
    csum x (ix3 b p l) - (if h : (p : ℕ) < w then (0 : EReal) else csum x (ix3 b ⟨(p : ℕ) - w, by omega⟩ l)) = win w x b l p := by
  refine Eq.trans ?_ (PoolSum.difference (seq x b l) (seq_real x hx b l) p w hw)
  by_cases h : (p : ℕ) < w
  · rw [dif_pos h, if_pos h, csum_at]
  · rw [dif_neg h, if_neg h, csum_at, csum_at]

/-- The pooled columns of group 0, windows of 2 rows. -/
def pooled0 (x : FVec Ideal S2x4096x512 .f32) : FVec Ideal S2x4096x128 .f32 :=
  have c := extractStridedSlice S2x4096x128 ![0, 0, 0] (csum x) slices_S2x4096x512_S2x4096x128_0_0_0
  subf (Host.divf (subf c (extractStridedSlice S2x4096x128 ![0, 0, 0] (pad S2x4098x128 ![0, 2, 0] ![0, 0, 0] ![0, 0, 0] c
      (sitofp (F := Ideal) .f32 (constantI S_ 32 0#32)) pads_S2x4096x128_S2x4098x128_000_200_000 h_S_) slices_S2x4098x128_S2x4096x128_0_0_0))
    (counts 2#32)) (extractStridedSlice S2x4096x128 ![0, 0, 0] x slices_S2x4096x512_S2x4096x128_0_0_0)

theorem pooled0_at (x : FVec Ideal S2x4096x512 .f32) (hx : ∀ i, SwaRow.Real' (x i)) (b : Fin 2) (p : Fin 4096) (l : Fin 128) :
    pooled0 x (ix3 b p l) = Ideal.div (win 2 x b ⟨l, by omega⟩ p) (count 2#32 p) - x (ix3 b p ⟨l, by omega⟩) := by
  rw [← win_eq 2 (by omega) x hx b _ p]
  pointwise [pooled0, counts_at, zero_word]
  by_cases h : (p : ℕ) < 2
  · rw [dif_pos h, dif_neg (by omega)]
  · rw [dif_neg h, dif_pos (by omega)]

/-- The pooled columns of group 1, windows of 4 rows. -/
def pooled1 (x : FVec Ideal S2x4096x512 .f32) : FVec Ideal S2x4096x128 .f32 :=
  have c := extractStridedSlice S2x4096x128 ![0, 0, 128] (csum x) slices_S2x4096x512_S2x4096x128_0_0_128
  subf (Host.divf (subf c (extractStridedSlice S2x4096x128 ![0, 0, 0] (pad S2x4100x128 ![0, 4, 0] ![0, 0, 0] ![0, 0, 0] c
      (sitofp (F := Ideal) .f32 (constantI S_ 32 0#32)) pads_S2x4096x128_S2x4100x128_000_400_000 h_S_) slices_S2x4100x128_S2x4096x128_0_0_0))
    (counts 4#32)) (extractStridedSlice S2x4096x128 ![0, 0, 128] x slices_S2x4096x512_S2x4096x128_0_0_128)

theorem pooled1_at (x : FVec Ideal S2x4096x512 .f32) (hx : ∀ i, SwaRow.Real' (x i)) (b : Fin 2) (p : Fin 4096) (l : Fin 128) :
    pooled1 x (ix3 b p l) = Ideal.div (win 4 x b ⟨128 + (l : ℕ), by omega⟩ p) (count 4#32 p) - x (ix3 b p ⟨128 + (l : ℕ), by omega⟩) := by
  rw [← win_eq 4 (by omega) x hx b _ p]
  pointwise [pooled1, counts_at, zero_word]
  by_cases h : (p : ℕ) < 4
  · rw [dif_pos h, dif_neg (by omega)]
  · rw [dif_neg h, dif_pos (by omega)]

/-- The pooled columns of group 2, windows of 8 rows. -/
def pooled2 (x : FVec Ideal S2x4096x512 .f32) : FVec Ideal S2x4096x128 .f32 :=
  have c := extractStridedSlice S2x4096x128 ![0, 0, 256] (csum x) slices_S2x4096x512_S2x4096x128_0_0_256
  subf (Host.divf (subf c (extractStridedSlice S2x4096x128 ![0, 0, 0] (pad S2x4104x128 ![0, 8, 0] ![0, 0, 0] ![0, 0, 0] c
      (sitofp (F := Ideal) .f32 (constantI S_ 32 0#32)) pads_S2x4096x128_S2x4104x128_000_800_000 h_S_) slices_S2x4104x128_S2x4096x128_0_0_0))
    (counts 8#32)) (extractStridedSlice S2x4096x128 ![0, 0, 256] x slices_S2x4096x512_S2x4096x128_0_0_256)

theorem pooled2_at (x : FVec Ideal S2x4096x512 .f32) (hx : ∀ i, SwaRow.Real' (x i)) (b : Fin 2) (p : Fin 4096) (l : Fin 128) :
    pooled2 x (ix3 b p l) = Ideal.div (win 8 x b ⟨256 + (l : ℕ), by omega⟩ p) (count 8#32 p) - x (ix3 b p ⟨256 + (l : ℕ), by omega⟩) := by
  rw [← win_eq 8 (by omega) x hx b _ p]
  pointwise [pooled2, counts_at, zero_word]
  by_cases h : (p : ℕ) < 8
  · rw [dif_pos h, dif_neg (by omega)]
  · rw [dif_neg h, dif_pos (by omega)]

/-- The pooled columns of group 3, windows of 16 rows. -/
def pooled3 (x : FVec Ideal S2x4096x512 .f32) : FVec Ideal S2x4096x128 .f32 :=
  have c := extractStridedSlice S2x4096x128 ![0, 0, 384] (csum x) slices_S2x4096x512_S2x4096x128_0_0_384
  subf (Host.divf (subf c (extractStridedSlice S2x4096x128 ![0, 0, 0] (pad S2x4112x128 ![0, 16, 0] ![0, 0, 0] ![0, 0, 0] c
      (sitofp (F := Ideal) .f32 (constantI S_ 32 0#32)) pads_S2x4096x128_S2x4112x128_000_1600_000 h_S_) slices_S2x4112x128_S2x4096x128_0_0_0))
    (counts 16#32)) (extractStridedSlice S2x4096x128 ![0, 0, 384] x slices_S2x4096x512_S2x4096x128_0_0_384)

theorem pooled3_at (x : FVec Ideal S2x4096x512 .f32) (hx : ∀ i, SwaRow.Real' (x i)) (b : Fin 2) (p : Fin 4096) (l : Fin 128) :
    pooled3 x (ix3 b p l) = Ideal.div (win 16 x b ⟨384 + (l : ℕ), by omega⟩ p) (count 16#32 p) - x (ix3 b p ⟨384 + (l : ℕ), by omega⟩) := by
  rw [← win_eq 16 (by omega) x hx b _ p]
  pointwise [pooled3, counts_at, zero_word]
  by_cases h : (p : ℕ) < 16
  · rw [dif_pos h, dif_neg (by omega)]
  · rw [dif_neg h, dif_pos (by omega)]

/-- The four groups side by side, -/
def stack (x : Fin 4 → FVec Ideal S2x4096x128 .f32) : FVec Ideal S2x4096x4x128 .f32 :=
  concatenate S2x4096x4x128 2 [⟨S2x4096x1x128, broadcastInDim S2x4096x1x128 ![0, 1, 3] bcast_S2x4096x128_S2x4096x1x128_0_1_3 (x 0)⟩,
    ⟨S2x4096x1x128, broadcastInDim S2x4096x1x128 ![0, 1, 3] bcast_S2x4096x128_S2x4096x1x128_0_1_3 (x 1)⟩,
    ⟨S2x4096x1x128, broadcastInDim S2x4096x1x128 ![0, 1, 3] bcast_S2x4096x128_S2x4096x1x128_0_1_3 (x 2)⟩,
    ⟨S2x4096x1x128, broadcastInDim S2x4096x1x128 ![0, 1, 3] bcast_S2x4096x128_S2x4096x1x128_0_1_3 (x 3)⟩]
    concatenates_S2x4096x1x128_S2x4096x1x128_S2x4096x1x128_S2x4096x1x128_S2x4096x4x128_d2

theorem stack_at (x : Fin 4 → FVec Ideal S2x4096x128 .f32) (b : Fin 2) (p : Fin 4096) (g : Fin 4) (e : Fin 128) :
    stack x (ix4 b p g e) = x g (ix3 b p e) := by
  fin_cases g <;> pointwise [stack]

/-- and each group's product with its weights, scaled. -/
def mix (w : FVec Ideal S1x4x128x128 .f32) (s : FVec Ideal S1x512 .f32) (x : FVec Ideal S2x4096x4x128 .f32) : FVec Ideal S2x4096x512 .bf16 :=
  truncf .bf16 (mulf (shapeCast S2x4096x512 (transpose S2x4096x4x128 [2, 3, 0, 1]
      (Host.dotGeneral (φ₁ := .f32) (φ₂ := .f32) dot_S4x128x128_S2x4096x4x128_S4x128x2x4096_1_3_2_01_0_2 none
        (shapeCast S4x128x128 w shapeCasts_S1x4x128x128_S4x128x128) x)
      transposes_S4x128x2x4096_S2x4096x4x128_2_3_0_1) shapeCasts_S2x4096x4x128_S2x4096x512)
    (broadcastInDim S2x4096x512 ![0, 1, 2] bcast_S1x1x512_S2x4096x512_0_1_2 (broadcastInDim S1x1x512 ![2] bcast_S512_S1x1x512_2
      (shapeCast S512 s shapeCasts_S1x512_S512)))) bitsLt_bf16_f32

theorem mix_at (w : FVec Ideal S1x4x128x128 .f32) (s : FVec Ideal S1x512 .f32) (x : FVec Ideal S2x4096x4x128 .f32) (b : Fin 2) (p : Fin 4096)
    (g : Fin 4) (d : Fin 128) :
    mix w s x (ix3 b p ⟨128 * (g : ℕ) + d, by omega⟩)
      = (∑ e : Fin 128, w (ix4 0 g e d) * x (ix4 b p g e)) * s (ix2 0 ⟨128 * (g : ℕ) + d, by omega⟩) := by
  pointwise [mix]

/-- The four pooled groups. -/
def groups (x : FVec Ideal S2x4096x512 .f32) : Fin 4 → FVec Ideal S2x4096x128 .f32 := ![pooled0 x, pooled1 x, pooled2 x, pooled3 x]

/-- The pooling. -/
def pooling (x : FVec Ideal S2x4096x512 .f32) (w : FVec Ideal S1x4x128x128 .f32) (s : FVec Ideal S1x512 .f32) : FVec Ideal S2x4096x512 .bf16 :=
  mix w s (stack (groups x))

theorem pooling_at (x : FVec Ideal S2x4096x512 .f32) (w : FVec Ideal S1x4x128x128 .f32) (s : FVec Ideal S1x512 .f32) (b : Fin 2) (p : Fin 4096)
    (g : Fin 4) (d : Fin 128) :
    pooling x w s (ix3 b p ⟨128 * (g : ℕ) + d, by omega⟩)
      = (∑ e : Fin 128, w (ix4 0 g e d) * groups x g (ix3 b p e)) * s (ix2 0 ⟨128 * (g : ℕ) + d, by omega⟩) := by
  refine (mix_at w s _ b p g d).trans ?_
  simp only [stack_at]

theorem pooling_eq (m : (ℓ : Loc nD τ sig) → Buf (Elt Ideal) ℓ) (c : Dev nD) :
    Value.res_main_v95 (F := Ideal) m c = pooling (m ((c.tc : Thread nD τ).loc main_arg0)) (m ((c.tc : Thread nD τ).loc main_arg2))
      (m ((c.tc : Thread nD τ).loc main_arg3)) := rfl

/-! ### The memory attention -/

/-- The keys or the values, heads apart. -/
def keys (x : FVec Ideal S2x256x1024 .f32) : FVec Ideal S2x256x4x128 .f32 :=
  shapeCast S2x256x4x128 (extractStridedSlice S2x256x512 ![0, 0, 0] x slices_S2x256x1024_S2x256x512_0_0_0) shapeCasts_S2x256x512_S2x256x4x128

theorem keys_at (x : FVec Ideal S2x256x1024 .f32) (b : Fin 2) (j : Fin 256) (h : Fin 4) (e : Fin 128) :
    keys x (ix4 b j h e) = x (ix3 b j ⟨128 * (h : ℕ) + e, by omega⟩) := by
  pointwise [keys]
  exact congrArg (fun i => x (ix3 b j i)) (Fin.ext (by show (h : ℕ) * 128 + e = 128 * h + e; omega))

def vals (x : FVec Ideal S2x256x1024 .f32) : FVec Ideal S2x256x4x128 .f32 :=
  shapeCast S2x256x4x128 (extractStridedSlice S2x256x512 ![0, 0, 512] x slices_S2x256x1024_S2x256x512_0_0_512) shapeCasts_S2x256x512_S2x256x4x128

theorem vals_at (x : FVec Ideal S2x256x1024 .f32) (b : Fin 2) (j : Fin 256) (h : Fin 4) (e : Fin 128) :
    vals x (ix4 b j h e) = x (ix3 b j ⟨512 + 128 * (h : ℕ) + e, by omega⟩) := by
  pointwise [vals]
  exact congrArg (fun i => x (ix3 b j i)) (Fin.ext (by show 512 + ((h : ℕ) * 128 + e) = 512 + 128 * h + e; omega))

/-- The scores. -/
def scores (q : FVec Ideal S2x4096x512 .f32) (k : FVec Ideal S2x256x4x128 .f32) : FVec Ideal S2x4x4096x256 .f32 :=
  mulf (Host.dotGeneral (φ₁ := .f32) (φ₂ := .f32) dot_S2x4096x4x128_S2x256x4x128_S2x4x4096x256_3_3_1_1_02_02 none
      (shapeCast S2x4096x4x128 q shapeCasts_S2x4096x512_S2x4096x4x128) k)
    (broadcastInDim S2x4x4096x256 ![] bcast_S_S2x4x4096x256 (constant S_ .f32 0x3DB504F3#32))

theorem scores_at (q : FVec Ideal S2x4096x512 .f32) (k : FVec Ideal S2x256x4x128 .f32) (b : Fin 2) (h : Fin 4) (p : Fin 4096) (j : Fin 256) :
    scores q k (ix4 b h p j) = (∑ e : Fin 128, q (ix3 b p ⟨128 * (h : ℕ) + e, by omega⟩) * k (ix4 b j h e)) * PoolRow.scale := by
  pointwise [scores]
  have e1 : ∀ e : Fin 128, (h : ℕ) * 128 + e = 128 * h + e := fun e => by omega
  simp only [e1]
  rfl

/-- The exponentials. -/
def exps (x : FVec Ideal S2x4x4096x256 .f32) (t : FVec Ideal S2x4x4096x1 .f32) : FVec Ideal S2x4x4096x256 .f32 :=
  Host.exp (subf x (broadcastInDim S2x4x4096x256 ![0, 1, 2, 3] bcast_S2x4x4096x1_S2x4x4096x256_0_1_2_3 t))

theorem exps_at (x : FVec Ideal S2x4x4096x256 .f32) (t : FVec Ideal S2x4x4096x1 .f32) (b : Fin 2) (h : Fin 4) (p : Fin 4096) (j : Fin 256) :
    exps x t (ix4 b h p j) = Ideal.exp (x (ix4 b h p j) - t (ix4 b h p 0)) := by
  pointwise [exps]

/-- The weights. -/
def weights (e : FVec Ideal S2x4x4096x256 .f32) : FVec Ideal S2x4x4096x256 .f32 :=
  Host.divf e (broadcastInDim S2x4x4096x256 ![0, 1, 2, 3] bcast_S2x4x4096x1_S2x4x4096x256_0_1_2_3
    (broadcastInDim S2x4x4096x1 ![0, 1, 2] bcast_S2x4x4096_S2x4x4096x1_0_1_2
      (Host.reduceAdd e (constant S_ .f32 0x00000000#32) reducesTo_S2x4x4096x256_S2x4x4096_d3 h_S_)))

theorem weights_at (e : FVec Ideal S2x4x4096x256 .f32) (b : Fin 2) (h : Fin 4) (p : Fin 4096) (j : Fin 256) :
    weights e (ix4 b h p j) = Ideal.div (e (ix4 b h p j)) (∑ i : Fin 256, e (ix4 b h p i)) := by
  pointwise [weights]

/-- The weighted values, heads side by side. -/
def mixed (v : FVec Ideal S2x256x4x128 .f32) (w : FVec Ideal S2x4x4096x256 .f32) : FVec Ideal S2x4096x512 .bf16 :=
  truncf .bf16 (shapeCast S2x4096x512 (transpose S2x4096x4x128 [0, 3, 1, 2]
    (Host.dotGeneral (φ₁ := .f32) (φ₂ := .f32) dot_S2x256x4x128_S2x4x4096x256_S2x4x128x4096_1_3_3_2_02_01 none v w)
    transposes_S2x4x128x4096_S2x4096x4x128_0_3_1_2) shapeCasts_S2x4096x4x128_S2x4096x512) bitsLt_bf16_f32

theorem mixed_at (v : FVec Ideal S2x256x4x128 .f32) (w : FVec Ideal S2x4x4096x256 .f32) (b : Fin 2) (p : Fin 4096) (h : Fin 4) (d : Fin 128) :
    mixed v w (ix3 b p ⟨128 * (h : ℕ) + d, by omega⟩) = ∑ j : Fin 256, v (ix4 b j h d) * w (ix4 b h p j) := by
  pointwise [mixed]

/-- The attention. -/
def attention (q : FVec Ideal S2x4096x512 .f32) (x : FVec Ideal S2x256x1024 .f32) : FVec Ideal S2x4096x512 .bf16 :=
  have s := scores q (keys x)
  mixed (vals x) (weights (exps s (tops s)))

theorem attention_at (q : FVec Ideal S2x4096x512 .f32) (x : FVec Ideal S2x256x1024 .f32) (b : Fin 2) (p : Fin 4096) (h : Fin 4) (d : Fin 128) :
    attention q x (ix3 b p ⟨128 * (h : ℕ) + d, by omega⟩)
      = PoolRow.whole (fun j => (∑ e : Fin 128, q (ix3 b p ⟨128 * (h : ℕ) + e, by omega⟩) * x (ix3 b j ⟨128 * (h : ℕ) + e, by omega⟩)) * PoolRow.scale)
        (fun j => x (ix3 b j ⟨512 + 128 * (h : ℕ) + d, by omega⟩)) := by
  refine (mixed_at _ _ b p h d).trans ?_
  simp only [vals_at, weights_at, exps_at, tops_at, scores_at, keys_at]
  rfl

end Cert.PoolRef

end
-- ==== Proof.PoolTile.lean ====
/- The value of the pooling. -/
module

public import proofs.«01_k».proof.Proof.PoolReads
public import proofs.«01_k».proof.Proof.PoolCarry
public import proofs.«01_k».proof.Proof.PoolBlock
public import proofs.«01_k».proof.Proof.PoolRef

@[expose] public section

set_option maxRecDepth 16384

noncomputable section

open Idealize.ShloMosaic Idealize.ShloMosaic.TcCoe Idealize.SL.Sem
open Idealize.ShloMosaic.Pipeline (Dat)

namespace Cert.Pool

open Cert.Kernel4Ideal Cert.Kernel4Ideal.Gen

variable (m : (ℓ : Loc nD τ sig) → Buf (Elt Ideal) ℓ)

/-- The kernel's count of a row's window is the reference's. -/
theorem tally_eq (w : BitVec 32) (t : Fin cfg0.N) (r : Fin 512) : tally w (grid0.coords t) r = PoolRef.count w (row t r) := by
  unfold tally PoolRef.count
  rw [(block_at t).2.2.2.2.2.2.2]
  refine congrArg (fun i => FloatOps.sitofp (F := Ideal) .f32 (IntOp.minsi i w)) ?_
  show BitVec.ofNat 32 ((t : ℕ) % 8) * BitVec.ofNat 32 512 + BitVec.ofNat 32 r + BitVec.ofNat 32 1
    = BitVec.ofNat 32 1 + BitVec.ofNat 32 ((t : ℕ) % 8 * 512 + r)
  rw [← BitVec.ofNat_mul, ← BitVec.ofNat_add, BitVec.add_comm]

/-- A group's piece of the tile is the reference's. -/
theorem group_piece (c : Dev nD) (t : Fin cfg0.N) (g : Fin 4) (w : ℕ) (ww : BitVec 32)
    (hg : ∀ (b : Fin 2) (p : Fin 4096) (e : Fin 128), PoolRef.groups (colArg m c) g (ix3 b p e)
      = Ideal.div (PoolRef.win w (colArg m c) b ⟨128 * (g : ℕ) + (e : ℕ), by omega⟩ p) (PoolRef.count ww p)
        - colArg m c (ix3 b p ⟨128 * (g : ℕ) + (e : ℕ), by omega⟩))
    (acc x : FVec Ideal S512x128 .f32) (k : FVec Ideal S1x128x128 .bf16) (s : FVec Ideal S1x128 .f32)
    (hacc : ∀ (r : Fin 512) (e : Fin 128), acc (ix2 r e)
      = ∑ k ∈ Finset.range w, line m c t ⟨128 * (g : ℕ) + (e : ℕ), by omega⟩ ((row t r : ℕ) + 16 - k))
    (hx : ∀ (r : Fin 512) (e : Fin 128), x (ix2 r e) = line m c t ⟨128 * (g : ℕ) + (e : ℕ), by omega⟩ ((row t r : ℕ) + 16 - 0))
    (ek : ∀ e d : Fin 128, k (ix3 0 e d) = iblk m c 1 t (ix3 g e d))
    (es : ∀ d : Fin 128, s (ix2 0 d) = iblk m c 2 t (ix2 0 ⟨128 * (g : ℕ) + (d : ℕ), by omega⟩)) (z : S1x512x128.Idx) (y : S1x512x512.Idx)
    (h1 : (y 1 : ℕ) = z 1) (h2 : (y 2 : ℕ) = 128 * (g : ℕ) + z 2) :
    finish (mean ww (grid0.coords t) acc x) k s z
      = PoolRef.pooling (colArg m c) (weightArg m c) (scaleArg m c) (ix3 (batch t) (row t (y 1)) (y 2)) := by
  obtain ⟨r, d, rfl⟩ : ∃ (r : Fin 512) (d : Fin 128), z = ix3 0 r d :=
    ⟨z 1, z 2, (eq_ix3 z).trans (congrArg (fun a => ix3 a (z 1) (z 2)) (show (z 0 : Fin 1) = (0 : Fin 1) from Fin.ext (Nat.lt_one_iff.mp (z 0).isLt)))⟩
  have e1 : (y 1 : Fin 512) = r := Fin.ext h1
  have e2 : (y 2 : Fin 512) = ⟨128 * (g : ℕ) + (d : ℕ), (by omega : 128 * (g : ℕ) + (d : ℕ) < 512)⟩ := Fin.ext h2
  rw [e1, e2]
  refine (finish_at _ k s r d).trans (Eq.trans ?_ (PoolRef.pooling_at _ _ _ (batch t) (row t r) g d).symm)
  refine congrArg₂ (· * ·) (Finset.sum_congr rfl fun e _ => ?_) ((es d).trans (scale_at m c t _))
  refine (congrArg₂ (· * ·) ?_ ((ek e d).trans (weight_at m c t g e d))).trans (mul_comm _ _)
  refine (mean_at ww (grid0.coords t) acc x r e).trans (Eq.trans ?_ (hg (batch t) (row t r) e).symm)
  refine congrArg₂ (fun a b : EReal => a - b) (congrArg₂ Ideal.div (hacc r e) (tally_eq ww t r))
    ((hx r e).trans (line_row m c t r _ _ ?_))
  show (t : ℕ) % 8 * 512 + (r : ℕ) + 16 - 0 = (t : ℕ) % 8 * 512 + 16 + r
  omega

/-- The group of windows of 2 rows. -/
theorem tile_two (c : Dev nD) (t : Fin cfg0.N) (hc : ∀ i, SwaRow.Real' (colArg m c i)) (v0 v1 x : FVec Ideal S512x128 .f32)
    (k : FVec Ideal S1x128x128 .bf16) (s : FVec Ideal S1x128 .f32)
    (h0 : ∀ (r : Fin 512) (e : Fin 128), v0 (ix2 r e) = line m c t ⟨0 + (e : ℕ), by omega⟩ ((row t r : ℕ) + 16 - 0))
    (h1 : ∀ (r : Fin 512) (e : Fin 128), v1 (ix2 r e) = line m c t ⟨0 + (e : ℕ), by omega⟩ ((row t r : ℕ) + 16 - 1))
    (hx : ∀ (r : Fin 512) (e : Fin 128), x (ix2 r e) = line m c t ⟨0 + (e : ℕ), by omega⟩ ((row t r : ℕ) + 16 - 0))
    (ek : ∀ e d : Fin 128, k (ix3 0 e d) = iblk m c 1 t (ix3 0 e d))
    (es : ∀ d : Fin 128, s (ix2 0 d) = iblk m c 2 t (ix2 0 ⟨0 + (d : ℕ), by omega⟩)) (z : S1x512x128.Idx) (y : S1x512x512.Idx)
    (h1' : (y 1 : ℕ) = z 1) (h2' : (y 2 : ℕ) = 0 + z 2) :
    k0_pay6 (F := Ideal) (k0_pay5 (grid0.coords t) v0 v1 x k s) z
      = PoolRef.pooling (colArg m c) (weightArg m c) (scaleArg m c) (ix3 (batch t) (row t (y 1)) (y 2)) := by
  refine (congrFun (pay_two (grid0.coords t) x k s ![v0, v1]) z).trans
    (group_piece m c t 0 2 2#32 ?_ _ x k s (fun r e => acc2_at _ (fun k => line m c t ⟨0 + (e : ℕ), by omega⟩ ((row t r : ℕ) + 16 - k)) (ix2 r e)
      fun k => ?_) hx ek es z y h1' h2')
  · intro b p e
    refine (PoolRef.pooled0_at (colArg m c) hc b p e).trans ?_
    have e0 : (⟨(e : ℕ), by omega⟩ : Fin 512) = ⟨0 + (e : ℕ), by omega⟩ := Fin.ext (by show (e : ℕ) = 0 + (e : ℕ); omega)
    exact congrArg (fun l => Ideal.div (PoolRef.win 2 (colArg m c) b l p) (PoolRef.count 2#32 p) - colArg m c (ix3 b p l)) e0
  · fin_cases k
    · exact h0 r e
    · exact h1 r e

/-- The group of windows of 4 rows. -/
theorem tile_four (c : Dev nD) (t : Fin cfg0.N) (hc : ∀ i, SwaRow.Real' (colArg m c i)) (v0 v1 v2 v3 x : FVec Ideal S512x128 .f32)
    (k : FVec Ideal S1x128x128 .bf16) (s : FVec Ideal S1x128 .f32)
    (h0 : ∀ (r : Fin 512) (e : Fin 128), v0 (ix2 r e) = line m c t ⟨128 + (e : ℕ), by omega⟩ ((row t r : ℕ) + 16 - 0))
    (h1 : ∀ (r : Fin 512) (e : Fin 128), v1 (ix2 r e) = line m c t ⟨128 + (e : ℕ), by omega⟩ ((row t r : ℕ) + 16 - 1))
    (h2 : ∀ (r : Fin 512) (e : Fin 128), v2 (ix2 r e) = line m c t ⟨128 + (e : ℕ), by omega⟩ ((row t r : ℕ) + 16 - 2))
    (h3 : ∀ (r : Fin 512) (e : Fin 128), v3 (ix2 r e) = line m c t ⟨128 + (e : ℕ), by omega⟩ ((row t r : ℕ) + 16 - 3))
    (hx : ∀ (r : Fin 512) (e : Fin 128), x (ix2 r e) = line m c t ⟨128 + (e : ℕ), by omega⟩ ((row t r : ℕ) + 16 - 0))
    (ek : ∀ e d : Fin 128, k (ix3 0 e d) = iblk m c 1 t (ix3 1 e d))
    (es : ∀ d : Fin 128, s (ix2 0 d) = iblk m c 2 t (ix2 0 ⟨128 + (d : ℕ), by omega⟩)) (z : S1x512x128.Idx) (y : S1x512x512.Idx)
    (h1' : (y 1 : ℕ) = z 1) (h2' : (y 2 : ℕ) = 128 + z 2) :
    k0_pay7 (F := Ideal) (k0_pay4 (grid0.coords t)) v0 v1 v2 v3 x k s z
      = PoolRef.pooling (colArg m c) (weightArg m c) (scaleArg m c) (ix3 (batch t) (row t (y 1)) (y 2)) := by
  refine (congrFun (pay_four (grid0.coords t) x k s ![v0, v1, v2, v3]) z).trans
    (group_piece m c t 1 4 4#32 ?_ _ x k s (fun r e => acc4_at _ (fun k => line m c t ⟨128 + (e : ℕ), by omega⟩ ((row t r : ℕ) + 16 - k)) (ix2 r e)
      fun k => ?_) hx ek es z y h1' h2')
  · intro b p e
    refine (PoolRef.pooled1_at (colArg m c) hc b p e).trans ?_
    have e0 : (⟨128 + (e : ℕ), by omega⟩ : Fin 512) = ⟨128 + (e : ℕ), by omega⟩ := Fin.ext (by rfl)
    exact congrArg (fun l => Ideal.div (PoolRef.win 4 (colArg m c) b l p) (PoolRef.count 4#32 p) - colArg m c (ix3 b p l)) e0
  · fin_cases k
    · exact h0 r e
    · exact h1 r e
    · exact h2 r e
    · exact h3 r e

/-- The group of windows of 8 rows. -/
theorem tile_eight (c : Dev nD) (t : Fin cfg0.N) (hc : ∀ i, SwaRow.Real' (colArg m c i)) (v0 v1 v2 v3 v4 v5 v6 v7 x : FVec Ideal S512x128 .f32)
    (k : FVec Ideal S1x128x128 .bf16) (s : FVec Ideal S1x128 .f32)
    (h0 : ∀ (r : Fin 512) (e : Fin 128), v0 (ix2 r e) = line m c t ⟨256 + (e : ℕ), by omega⟩ ((row t r : ℕ) + 16 - 0))
    (h1 : ∀ (r : Fin 512) (e : Fin 128), v1 (ix2 r e) = line m c t ⟨256 + (e : ℕ), by omega⟩ ((row t r : ℕ) + 16 - 1))
    (h2 : ∀ (r : Fin 512) (e : Fin 128), v2 (ix2 r e) = line m c t ⟨256 + (e : ℕ), by omega⟩ ((row t r : ℕ) + 16 - 2))
    (h3 : ∀ (r : Fin 512) (e : Fin 128), v3 (ix2 r e) = line m c t ⟨256 + (e : ℕ), by omega⟩ ((row t r : ℕ) + 16 - 3))
    (h4 : ∀ (r : Fin 512) (e : Fin 128), v4 (ix2 r e) = line m c t ⟨256 + (e : ℕ), by omega⟩ ((row t r : ℕ) + 16 - 4))
    (h5 : ∀ (r : Fin 512) (e : Fin 128), v5 (ix2 r e) = line m c t ⟨256 + (e : ℕ), by omega⟩ ((row t r : ℕ) + 16 - 5))
    (h6 : ∀ (r : Fin 512) (e : Fin 128), v6 (ix2 r e) = line m c t ⟨256 + (e : ℕ), by omega⟩ ((row t r : ℕ) + 16 - 6))
    (h7 : ∀ (r : Fin 512) (e : Fin 128), v7 (ix2 r e) = line m c t ⟨256 + (e : ℕ), by omega⟩ ((row t r : ℕ) + 16 - 7))
    (hx : ∀ (r : Fin 512) (e : Fin 128), x (ix2 r e) = line m c t ⟨256 + (e : ℕ), by omega⟩ ((row t r : ℕ) + 16 - 0))
    (ek : ∀ e d : Fin 128, k (ix3 0 e d) = iblk m c 1 t (ix3 2 e d))
    (es : ∀ d : Fin 128, s (ix2 0 d) = iblk m c 2 t (ix2 0 ⟨256 + (d : ℕ), by omega⟩)) (z : S1x512x128.Idx) (y : S1x512x512.Idx)
    (h1' : (y 1 : ℕ) = z 1) (h2' : (y 2 : ℕ) = 256 + z 2) :
    k0_pay9 (F := Ideal) (k0_pay8 (k0_pay4 (grid0.coords t)) v0 v1 v2 v3 v4 v5 v6 v7 x k s) z
      = PoolRef.pooling (colArg m c) (weightArg m c) (scaleArg m c) (ix3 (batch t) (row t (y 1)) (y 2)) := by
  refine (congrFun (pay_eight (grid0.coords t) x k s ![v0, v1, v2, v3, v4, v5, v6, v7]) z).trans
    (group_piece m c t 2 8 8#32 ?_ _ x k s (fun r e => acc8_at _ (fun k => line m c t ⟨256 + (e : ℕ), by omega⟩ ((row t r : ℕ) + 16 - k)) (ix2 r e)
      fun k => ?_) hx ek es z y h1' h2')
  · intro b p e
    refine (PoolRef.pooled2_at (colArg m c) hc b p e).trans ?_
    have e0 : (⟨256 + (e : ℕ), by omega⟩ : Fin 512) = ⟨256 + (e : ℕ), by omega⟩ := Fin.ext (by rfl)
    exact congrArg (fun l => Ideal.div (PoolRef.win 8 (colArg m c) b l p) (PoolRef.count 8#32 p) - colArg m c (ix3 b p l)) e0
  · fin_cases k
    · exact h0 r e
    · exact h1 r e
    · exact h2 r e
    · exact h3 r e
    · exact h4 r e
    · exact h5 r e
    · exact h6 r e
    · exact h7 r e

/-- The group of windows of 16 rows. -/
theorem tile_sixteen (c : Dev nD) (t : Fin cfg0.N) (hc : ∀ i, SwaRow.Real' (colArg m c i)) (v0 v1 v2 v3 v4 v5 v6 v7 v8 v9 v10 v11 v12 v13 v14 v15 x : FVec Ideal S512x128 .f32)
    (k : FVec Ideal S1x128x128 .bf16) (s : FVec Ideal S1x128 .f32)
    (h0 : ∀ (r : Fin 512) (e : Fin 128), v0 (ix2 r e) = line m c t ⟨384 + (e : ℕ), by omega⟩ ((row t r : ℕ) + 16 - 0))
    (h1 : ∀ (r : Fin 512) (e : Fin 128), v1 (ix2 r e) = line m c t ⟨384 + (e : ℕ), by omega⟩ ((row t r : ℕ) + 16 - 1))
    (h2 : ∀ (r : Fin 512) (e : Fin 128), v2 (ix2 r e) = line m c t ⟨384 + (e : ℕ), by omega⟩ ((row t r : ℕ) + 16 - 2))
    (h3 : ∀ (r : Fin 512) (e : Fin 128), v3 (ix2 r e) = line m c t ⟨384 + (e : ℕ), by omega⟩ ((row t r : ℕ) + 16 - 3))
    (h4 : ∀ (r : Fin 512) (e : Fin 128), v4 (ix2 r e) = line m c t ⟨384 + (e : ℕ), by omega⟩ ((row t r : ℕ) + 16 - 4))
    (h5 : ∀ (r : Fin 512) (e : Fin 128), v5 (ix2 r e) = line m c t ⟨384 + (e : ℕ), by omega⟩ ((row t r : ℕ) + 16 - 5))
    (h6 : ∀ (r : Fin 512) (e : Fin 128), v6 (ix2 r e) = line m c t ⟨384 + (e : ℕ), by omega⟩ ((row t r : ℕ) + 16 - 6))
    (h7 : ∀ (r : Fin 512) (e : Fin 128), v7 (ix2 r e) = line m c t ⟨384 + (e : ℕ), by omega⟩ ((row t r : ℕ) + 16 - 7))
    (h8 : ∀ (r : Fin 512) (e : Fin 128), v8 (ix2 r e) = line m c t ⟨384 + (e : ℕ), by omega⟩ ((row t r : ℕ) + 16 - 8))
    (h9 : ∀ (r : Fin 512) (e : Fin 128), v9 (ix2 r e) = line m c t ⟨384 + (e : ℕ), by omega⟩ ((row t r : ℕ) + 16 - 9))
    (h10 : ∀ (r : Fin 512) (e : Fin 128), v10 (ix2 r e) = line m c t ⟨384 + (e : ℕ), by omega⟩ ((row t r : ℕ) + 16 - 10))
    (h11 : ∀ (r : Fin 512) (e : Fin 128), v11 (ix2 r e) = line m c t ⟨384 + (e : ℕ), by omega⟩ ((row t r : ℕ) + 16 - 11))
    (h12 : ∀ (r : Fin 512) (e : Fin 128), v12 (ix2 r e) = line m c t ⟨384 + (e : ℕ), by omega⟩ ((row t r : ℕ) + 16 - 12))
    (h13 : ∀ (r : Fin 512) (e : Fin 128), v13 (ix2 r e) = line m c t ⟨384 + (e : ℕ), by omega⟩ ((row t r : ℕ) + 16 - 13))
    (h14 : ∀ (r : Fin 512) (e : Fin 128), v14 (ix2 r e) = line m c t ⟨384 + (e : ℕ), by omega⟩ ((row t r : ℕ) + 16 - 14))
    (h15 : ∀ (r : Fin 512) (e : Fin 128), v15 (ix2 r e) = line m c t ⟨384 + (e : ℕ), by omega⟩ ((row t r : ℕ) + 16 - 15))
    (hx : ∀ (r : Fin 512) (e : Fin 128), x (ix2 r e) = line m c t ⟨384 + (e : ℕ), by omega⟩ ((row t r : ℕ) + 16 - 0))
    (ek : ∀ e d : Fin 128, k (ix3 0 e d) = iblk m c 1 t (ix3 3 e d))
    (es : ∀ d : Fin 128, s (ix2 0 d) = iblk m c 2 t (ix2 0 ⟨384 + (d : ℕ), by omega⟩)) (z : S1x512x128.Idx) (y : S1x512x512.Idx)
    (h1' : (y 1 : ℕ) = z 1) (h2' : (y 2 : ℕ) = 384 + z 2) :
    k0_pay11 (F := Ideal) (k0_pay4 (grid0.coords t)) (k0_pay10 v0 v1 v2 v3 v4 v5 v6 v7 v8 v9 v10 v11 v12 v13) v14 v15 x k s z
      = PoolRef.pooling (colArg m c) (weightArg m c) (scaleArg m c) (ix3 (batch t) (row t (y 1)) (y 2)) := by
  refine (congrFun (pay_sixteen (grid0.coords t) x k s ![v0, v1, v2, v3, v4, v5, v6, v7, v8, v9, v10, v11, v12, v13, v14, v15]) z).trans
    (group_piece m c t 3 16 16#32 ?_ _ x k s (fun r e => acc16_at _ (fun k => line m c t ⟨384 + (e : ℕ), by omega⟩ ((row t r : ℕ) + 16 - k)) (ix2 r e)
      fun k => ?_) hx ek es z y h1' h2')
  · intro b p e
    refine (PoolRef.pooled3_at (colArg m c) hc b p e).trans ?_
    have e0 : (⟨384 + (e : ℕ), by omega⟩ : Fin 512) = ⟨384 + (e : ℕ), by omega⟩ := Fin.ext (by rfl)
    exact congrArg (fun l => Ideal.div (PoolRef.win 16 (colArg m c) b l p) (PoolRef.count 16#32 p) - colArg m c (ix3 b p l)) e0
  · fin_cases k
    · exact h0 r e
    · exact h1 r e
    · exact h2 r e
    · exact h3 r e
    · exact h4 r e
    · exact h5 r e
    · exact h6 r e
    · exact h7 r e
    · exact h8 r e
    · exact h9 r e
    · exact h10 r e
    · exact h11 r e
    · exact h12 r e
    · exact h13 r e
    · exact h14 r e
    · exact h15 r e

theorem result5 (c : Dev nD) (hx : ∀ i, SwaRow.Real' (colArg m c i)) :
    (dats m 0 c).arrAt 5 (cfgs 0).N = PoolRef.pooling (colArg m c) (weightArg m c) (scaleArg m c) := by
  refine (dats m 0 c).arrAt_eq_of_covers 5 _ (by decide +kernel) fun t _ y => ?_
  blk_simp
  rw [after0_5]
  obtain ⟨r, l, e⟩ : ∃ (r : Fin 512) (l : Fin 512), y = ix3 0 r l :=
    ⟨y 1, y 2, (eq_ix3 y).trans (congrArg (fun a => ix3 a (y 1) (y 2)) (show (y 0 : Fin 1) = (0 : Fin 1) from Fin.ext (Nat.lt_one_iff.mp (y 0).isLt)))⟩
  refine Eq.trans ?_ (congrArg (PoolRef.pooling (colArg m c) (weightArg m c) (scaleArg m c)) ((congrArg _ e).trans (place5 t r l))).symm
  have e1 : r = y 1 := by rw [e]; rfl
  have e2 : l = y 2 := by rw [e]; rfl
  rw [e1, e2]
  clear e e1 e2
  by_cases ht : t.val % 8 = 0
  · rw [outsAt0_A m c t ht]
    frame_out
    canon_tiles z h
    · exact tile_sixteen m c t hx _ _ _ _ _ _ _ _ _ _ _ _ _ _ _ _ _ _ _
        (fun r e => load_first m c t ht 16 384 0 _ rfl r e (by omega)) (fun r e => load_first m c t ht 15 384 1 _ rfl r e (by omega)) (fun r e => load_first m c t ht 14 384 2 _ rfl r e (by omega)) (fun r e => load_first m c t ht 13 384 3 _ rfl r e (by omega)) (fun r e => load_first m c t ht 12 384 4 _ rfl r e (by omega)) (fun r e => load_first m c t ht 11 384 5 _ rfl r e (by omega)) (fun r e => load_first m c t ht 10 384 6 _ rfl r e (by omega)) (fun r e => load_first m c t ht 9 384 7 _ rfl r e (by omega)) (fun r e => load_first m c t ht 8 384 8 _ rfl r e (by omega)) (fun r e => load_first m c t ht 7 384 9 _ rfl r e (by omega)) (fun r e => load_first m c t ht 6 384 10 _ rfl r e (by omega)) (fun r e => load_first m c t ht 5 384 11 _ rfl r e (by omega)) (fun r e => load_first m c t ht 4 384 12 _ rfl r e (by omega)) (fun r e => load_first m c t ht 3 384 13 _ rfl r e (by omega)) (fun r e => load_first m c t ht 2 384 14 _ rfl r e (by omega)) (fun r e => load_first m c t ht 1 384 15 _ rfl r e (by omega))
        (fun r e => load_first m c t ht 16 384 0 _ rfl r e (by omega))
        (fun e d => by pointwise []) (fun d => by pointwise []) z y h1 h2
    · exact tile_eight m c t hx _ _ _ _ _ _ _ _ _ _ _
        (fun r e => load_first m c t ht 16 256 0 _ rfl r e (by omega)) (fun r e => load_first m c t ht 15 256 1 _ rfl r e (by omega)) (fun r e => load_first m c t ht 14 256 2 _ rfl r e (by omega)) (fun r e => load_first m c t ht 13 256 3 _ rfl r e (by omega)) (fun r e => load_first m c t ht 12 256 4 _ rfl r e (by omega)) (fun r e => load_first m c t ht 11 256 5 _ rfl r e (by omega)) (fun r e => load_first m c t ht 10 256 6 _ rfl r e (by omega)) (fun r e => load_first m c t ht 9 256 7 _ rfl r e (by omega))
        (fun r e => load_first m c t ht 16 256 0 _ rfl r e (by omega))
        (fun e d => by pointwise []) (fun d => by pointwise []) z y h1 h2
    · exact tile_four m c t hx _ _ _ _ _ _ _
        (fun r e => load_first m c t ht 16 128 0 _ rfl r e (by omega)) (fun r e => load_first m c t ht 15 128 1 _ rfl r e (by omega)) (fun r e => load_first m c t ht 14 128 2 _ rfl r e (by omega)) (fun r e => load_first m c t ht 13 128 3 _ rfl r e (by omega))
        (fun r e => load_first m c t ht 16 128 0 _ rfl r e (by omega))
        (fun e d => by pointwise []) (fun d => by pointwise []) z y h1 h2
    · exact tile_two m c t hx _ _ _ _ _
        (fun r e => load_first m c t ht 16 0 0 _ rfl r e (by omega)) (fun r e => load_first m c t ht 15 0 1 _ rfl r e (by omega))
        (fun r e => load_first m c t ht 16 0 0 _ rfl r e (by omega))
        (fun e d => by pointwise []) (fun d => by pointwise []) z y h1 (h2.trans (Nat.zero_add _).symm)
  · rw [outsAt0_B m c t ht]
    frame_out
    canon_tiles z h
    · exact tile_sixteen m c t hx _ _ _ _ _ _ _ _ _ _ _ _ _ _ _ _ _ _ _
        (fun r e => load_now m c t 384 _ r e (by omega)) (fun r e => load_later m c t _ _ (carry m c t ht) 15 384 1 _ rfl r e (by omega)) (fun r e => load_later m c t _ _ (carry m c t ht) 14 384 2 _ rfl r e (by omega)) (fun r e => load_later m c t _ _ (carry m c t ht) 13 384 3 _ rfl r e (by omega)) (fun r e => load_later m c t _ _ (carry m c t ht) 12 384 4 _ rfl r e (by omega)) (fun r e => load_later m c t _ _ (carry m c t ht) 11 384 5 _ rfl r e (by omega)) (fun r e => load_later m c t _ _ (carry m c t ht) 10 384 6 _ rfl r e (by omega)) (fun r e => load_later m c t _ _ (carry m c t ht) 9 384 7 _ rfl r e (by omega)) (fun r e => load_later m c t _ _ (carry m c t ht) 8 384 8 _ rfl r e (by omega)) (fun r e => load_later m c t _ _ (carry m c t ht) 7 384 9 _ rfl r e (by omega)) (fun r e => load_later m c t _ _ (carry m c t ht) 6 384 10 _ rfl r e (by omega)) (fun r e => load_later m c t _ _ (carry m c t ht) 5 384 11 _ rfl r e (by omega)) (fun r e => load_later m c t _ _ (carry m c t ht) 4 384 12 _ rfl r e (by omega)) (fun r e => load_later m c t _ _ (carry m c t ht) 3 384 13 _ rfl r e (by omega)) (fun r e => load_later m c t _ _ (carry m c t ht) 2 384 14 _ rfl r e (by omega)) (fun r e => load_later m c t _ _ (carry m c t ht) 1 384 15 _ rfl r e (by omega))
        (fun r e => load_now m c t 384 _ r e (by omega))
        (fun e d => by pointwise []) (fun d => by pointwise []) z y h1 h2
    · exact tile_eight m c t hx _ _ _ _ _ _ _ _ _ _ _
        (fun r e => load_now m c t 256 _ r e (by omega)) (fun r e => load_later m c t _ _ (carry m c t ht) 15 256 1 _ rfl r e (by omega)) (fun r e => load_later m c t _ _ (carry m c t ht) 14 256 2 _ rfl r e (by omega)) (fun r e => load_later m c t _ _ (carry m c t ht) 13 256 3 _ rfl r e (by omega)) (fun r e => load_later m c t _ _ (carry m c t ht) 12 256 4 _ rfl r e (by omega)) (fun r e => load_later m c t _ _ (carry m c t ht) 11 256 5 _ rfl r e (by omega)) (fun r e => load_later m c t _ _ (carry m c t ht) 10 256 6 _ rfl r e (by omega)) (fun r e => load_later m c t _ _ (carry m c t ht) 9 256 7 _ rfl r e (by omega))
        (fun r e => load_now m c t 256 _ r e (by omega))
        (fun e d => by pointwise []) (fun d => by pointwise []) z y h1 h2
    · exact tile_four m c t hx _ _ _ _ _ _ _
        (fun r e => load_now m c t 128 _ r e (by omega)) (fun r e => load_later m c t _ _ (carry m c t ht) 15 128 1 _ rfl r e (by omega)) (fun r e => load_later m c t _ _ (carry m c t ht) 14 128 2 _ rfl r e (by omega)) (fun r e => load_later m c t _ _ (carry m c t ht) 13 128 3 _ rfl r e (by omega))
        (fun r e => load_now m c t 128 _ r e (by omega))
        (fun e d => by pointwise []) (fun d => by pointwise []) z y h1 h2
    · exact tile_two m c t hx _ _ _ _ _
        (fun r e => load_now m c t 0 _ r e (by omega)) (fun r e => load_later m c t _ _ (carry m c t ht) 15 0 1 _ rfl r e (by omega))
        (fun r e => load_now m c t 0 _ r e (by omega))
        (fun e d => by pointwise []) (fun d => by pointwise []) z y h1 (h2.trans (Nat.zero_add _).symm)

end Cert.Pool

end
-- ==== Proof.PoolMem.lean ====
/- The value of the memory attention. -/
module

public import proofs.«01_k».proof.Proof.PoolReads
public import proofs.«01_k».proof.Proof.PoolBlock
public import proofs.«01_k».proof.Proof.PoolRef

@[expose] public section

set_option maxRecDepth 16384

noncomputable section

open Idealize.ShloMosaic Idealize.ShloMosaic.TcCoe Idealize.SL.Sem
open Idealize.ShloMosaic.Pipeline (Dat)

namespace Cert.Pool

open Cert.Kernel4Ideal Cert.Kernel4Ideal.Gen

variable (m : (ℓ : Loc nD τ sig) → Buf (Elt Ideal) ℓ)

/-- A head's piece of the tile is the reference's. -/
theorem head_piece (c : Dev nD) (t : Fin cfg0.N) (hq : ∀ i, SwaRow.Real' (queryArg m c i))
    (hk : ∀ (b : Fin 2) (j : Fin 256) (l : Fin 512), SwaRow.Real' (memArg m c (ix3 b j ⟨(l : ℕ), by omega⟩))) (h : Fin 4)
    (k v : FVec Ideal S1x256x128 .bf16) (q : FVec Ideal S1x512x128 .bf16)
    (ek : ∀ j e, k (ix3 0 j e) = iblk m c 4 t (ix3 0 j ⟨128 * (h : ℕ) + (e : ℕ), by omega⟩))
    (ev : ∀ j e, v (ix3 0 j e) = iblk m c 4 t (ix3 0 j ⟨512 + 128 * (h : ℕ) + (e : ℕ), by omega⟩))
    (eq : ∀ r e, q (ix3 0 r e) = iblk m c 3 t (ix3 0 r ⟨128 * (h : ℕ) + (e : ℕ), by omega⟩)) (z : S1x512x128.Idx) (y : S1x512x512.Idx)
    (h1 : (y 1 : ℕ) = z 1) (h2 : (y 2 : ℕ) = 128 * (h : ℕ) + z 2) :
    head k v q z = PoolRef.attention (queryArg m c) (memArg m c) (ix3 (batch t) (row t (y 1)) (y 2)) := by
  obtain ⟨r, d, rfl⟩ : ∃ (r : Fin 512) (d : Fin 128), z = ix3 0 r d :=
    ⟨z 1, z 2, (eq_ix3 z).trans (congrArg (fun a => ix3 a (z 1) (z 2)) (show (z 0 : Fin 1) = (0 : Fin 1) from Fin.ext (Nat.lt_one_iff.mp (z 0).isLt)))⟩
  have e1 : (y 1 : Fin 512) = r := Fin.ext h1
  have e2 : (y 2 : Fin 512) = ⟨128 * (h : ℕ) + (d : ℕ), (by omega : 128 * (h : ℕ) + (d : ℕ) < 512)⟩ := Fin.ext h2
  rw [e1, e2]
  refine (head_at k v q r d).trans (Eq.trans ?_ (PoolRef.attention_at _ _ (batch t) (row t r) h d).symm)
  refine Eq.trans ?_ (PoolRow.whole_eq_row _ _ fun j => ?_).symm
  · simp only [ek, ev, eq, mem_at, query_at]
  · exact (SwaRow.Real'.sum fun e => (hq _).mul (hk _ j ⟨128 * (h : ℕ) + (e : ℕ), by omega⟩)).mul PoolRow.scale_real

theorem result6 (c : Dev nD) (hq : ∀ i, SwaRow.Real' (queryArg m c i))
    (hk : ∀ (b : Fin 2) (j : Fin 256) (l : Fin 512), SwaRow.Real' (memArg m c (ix3 b j ⟨(l : ℕ), by omega⟩))) :
    (dats m 0 c).arrAt 6 (cfgs 0).N = PoolRef.attention (queryArg m c) (memArg m c) := by
  refine (dats m 0 c).arrAt_eq_of_covers 6 _ (by decide +kernel) fun t _ y => ?_
  blk_simp
  rw [after0_6]
  obtain ⟨r, l, e⟩ : ∃ (r : Fin 512) (l : Fin 512), y = ix3 0 r l :=
    ⟨y 1, y 2, (eq_ix3 y).trans (congrArg (fun a => ix3 a (y 1) (y 2)) (show (y 0 : Fin 1) = (0 : Fin 1) from Fin.ext (Nat.lt_one_iff.mp (y 0).isLt)))⟩
  refine Eq.trans ?_ (congrArg (PoolRef.attention (queryArg m c) (memArg m c)) ((congrArg _ e).trans (place6 t r l))).symm
  have e1 : r = y 1 := by rw [e]; rfl
  have e2 : l = y 2 := by rw [e]; rfl
  rw [e1, e2]
  clear e e1 e2
  by_cases h0 : t.val % 8 = 0
  · rw [outsAt0_A m c t h0]
    frame_out
    canon_tiles z h
    · refine (congrFun (head_last _ _ _) z).trans (head_piece m c t hq hk 3 _ _ _ (fun j e => ?_) (fun j e => ?_) (fun r e => ?_) z y h1 h2)
      · pointwise []
      · pointwise []
      · pointwise []
    · refine (congrFun (head_third _ _ _) z).trans (head_piece m c t hq hk 2 _ _ _ (fun j e => ?_) (fun j e => ?_) (fun r e => ?_) z y h1 h2)
      · pointwise []
      · pointwise []
      · pointwise []
    · refine (congrFun (head_second _ _ _) z).trans (head_piece m c t hq hk 1 _ _ _ (fun j e => ?_) (fun j e => ?_) (fun r e => ?_) z y h1 h2)
      · pointwise []
      · pointwise []
      · pointwise []
    · refine (congrFun (head_first _ _ _) z).trans (head_piece m c t hq hk 0 _ _ _ (fun j e => ?_) (fun j e => ?_) (fun r e => ?_) z y h1 (h2.trans (Nat.zero_add _).symm))
      · pointwise []
      · pointwise []
      · pointwise []
  · rw [outsAt0_B m c t h0]
    frame_out
    canon_tiles z h
    · refine (congrFun (head_last _ _ _) z).trans (head_piece m c t hq hk 3 _ _ _ (fun j e => ?_) (fun j e => ?_) (fun r e => ?_) z y h1 h2)
      · pointwise []
      · pointwise []
      · pointwise []
    · refine (congrFun (head_third _ _ _) z).trans (head_piece m c t hq hk 2 _ _ _ (fun j e => ?_) (fun j e => ?_) (fun r e => ?_) z y h1 h2)
      · pointwise []
      · pointwise []
      · pointwise []
    · refine (congrFun (head_second _ _ _) z).trans (head_piece m c t hq hk 1 _ _ _ (fun j e => ?_) (fun j e => ?_) (fun r e => ?_) z y h1 h2)
      · pointwise []
      · pointwise []
      · pointwise []
    · refine (congrFun (head_first _ _ _) z).trans (head_piece m c t hq hk 0 _ _ _ (fun j e => ?_) (fun j e => ?_) (fun r e => ?_) z y h1 (h2.trans (Nat.zero_add _).symm))
      · pointwise []
      · pointwise []
      · pointwise []

end Cert.Pool

end
-- ==== Proof.PoolValue.lean ====
/- The value claim of the pooling and the memory attention, where the pooled columns, the queries and the keys are finite. -/
module

public import proofs.«01_k».proof.Defs
public import proofs.«01_k».proof.Proof.Gen.Kernel4Ideal.Value
public import proofs.«01_k».proof.Proof.PoolTile
public import proofs.«01_k».proof.Proof.PoolMem
public import proofs.«01_k».proof.Proof.SwaValue
public import proofs.«01_k».proof.Proof.Gen.Pre_finite_pool

@[expose] public section

set_option maxRecDepth 16384

noncomputable section

open Idealize.ShloMosaic Idealize.ShloMosaic.TcCoe Idealize.SL.Sem

namespace Cert.Pool

/-- The keys are the memory's first columns. -/
theorem key_at (x : FVec Ideal Cert.Pre_finite_pool.S2x256x1024 .f32) (b : Fin 2) (j : Fin 256) (l : Fin 512) :
    extractStridedSlice Cert.Pre_finite_pool.S2x256x512 ![0, 0, 0] x Cert.Pre_finite_pool.Gen.slices_S2x256x1024_S2x256x512_0_0_0 (ix3 b j l)
      = x (ix3 b j ⟨(l : ℕ), by omega⟩) := by
  pointwise []

theorem value : Cert.algebraic_Kernel4Ideal_Reference4Ideal_pre_finite_pool := by
  pair_intro
  · run_from Cert.Kernel4Ideal.Gen.run_main m g
  · run_from Cert.Reference4Ideal.Value.run m' g'
    · obtain ⟨h0, h1, h2, h3, h4⟩ := hagree c
      refine Eq.trans ?_ (result5 m c fun i => Swa.finite _ (congrFun (hpre c).1 i)).symm
      refine (PoolRef.pooling_eq m' c).trans ?_
      rw [h0, h2, h3]
      rfl
    · refine Eq.trans ?_ (result6 m c (fun i => Swa.finite _ (congrFun (hpre c).2.1 i)) fun b j l =>
        (key_at (memArg m c) b j l) ▸ Swa.finite _ (congrFun (hpre c).2.2 (ix3 b j l))).symm
      rfl

end Cert.Pool

end
-- ==== Proof.Turned.lean ====
/- The weights written transposed: each grid step stores its rows as columns, in the half format. -/
module

public import proofs.«01_k».proof.Proof.Frames
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Turned8

/-- The reference's result. -/
def turned {F : FTy → Type} [FloatOps F] (a : FVec F Cert.Reference8.S1x2048x2048 .f32) : FVec F Cert.Reference8.S2048x2048 .bf16 :=
  truncf .bf16 (transpose Cert.Reference8.S2048x2048 [1, 0]
    (shapeCast Cert.Reference8.S2048x2048 a Cert.Reference8.Gen.shapeCasts_S1x2048x2048_S2048x2048)
    Cert.Reference8.Gen.transposes_S2048x2048_S2048x2048_1_0) Cert.Reference8.Gen.bitsLt_bf16_f32

end Cert.Turned8

namespace Cert.Turned8.OnBits

open Cert.Kernel8 Cert.Kernel8.Gen

variable (m : (ℓ : Loc nD τ sig) → Buf (Elt Bits) ℓ)

theorem block_at : ∀ t : Fin cfg0.N, win0_0.index t = ![t.val, 0] ∧ win0_1.index t = ![0, t.val] :=
  (by decide +kernel : ∀ t : Fin grid0.N, _)

theorem stored (c : Dev nD) (t : Fin cfg0.N) (y) :
    k0_pay1 (iblk m c 0 t) y = turned (m ((c : Thread nD τ).loc main_arg0)) (((cfg0.win 1).blk t).view.emb y) := by
  pointwise [k0_pay1, turned]
  blk_point [iblk, V, block_at t]

theorem result (c : Dev nD) : (dats m 0 c).arrAt 1 (cfgs 0).N = turned (F := Bits) (m ((c : Thread nD τ).loc main_arg0)) := by
  refine (dats m 0 c).arrAt_eq_of_covers 1 _ (by decide +kernel) fun t _ y => ?_
  blk_simp
  rw [after0_1]
  frame_out
  exact stored m c t y

end Cert.Turned8.OnBits

namespace Cert.Turned8.OnIdeal

open Cert.Kernel8Ideal Cert.Kernel8Ideal.Gen

variable (m : (ℓ : Loc nD τ sig) → Buf (Elt Ideal) ℓ)

theorem block_at : ∀ t : Fin cfg0.N, win0_0.index t = ![t.val, 0] ∧ win0_1.index t = ![0, t.val] :=
  (by decide +kernel : ∀ t : Fin grid0.N, _)

theorem stored (c : Dev nD) (t : Fin cfg0.N) (y) :
    k0_pay1 (iblk m c 0 t) y = turned (m ((c : Thread nD τ).loc main_arg0)) (((cfg0.win 1).blk t).view.emb y) := by
  pointwise [k0_pay1, turned]
  blk_point [iblk, V, block_at t]

theorem result (c : Dev nD) : (dats m 0 c).arrAt 1 (cfgs 0).N = turned (F := Ideal) (m ((c : Thread nD τ).loc main_arg0)) := by
  refine (dats m 0 c).arrAt_eq_of_covers 1 _ (by decide +kernel) fun t _ y => ?_
  blk_simp
  rw [after0_1]
  frame_out
  exact stored m c t y

end Cert.Turned8.OnIdeal

namespace Cert.Turned9

/-- The reference's result. -/
def turned {F : FTy → Type} [FloatOps F] (a : FVec F Cert.Reference9.S1x16384x2048 .f32) : FVec F Cert.Reference9.S2048x16384 .bf16 :=
  truncf .bf16 (transpose Cert.Reference9.S2048x16384 [1, 0]
    (shapeCast Cert.Reference9.S16384x2048 a Cert.Reference9.Gen.shapeCasts_S1x16384x2048_S16384x2048)
    Cert.Reference9.Gen.transposes_S16384x2048_S2048x16384_1_0) Cert.Reference9.Gen.bitsLt_bf16_f32

end Cert.Turned9

namespace Cert.Turned9.OnBits

open Cert.Kernel9 Cert.Kernel9.Gen

variable (m : (ℓ : Loc nD τ sig) → Buf (Elt Bits) ℓ)

theorem block_at : ∀ t : Fin cfg0.N, win0_0.index t = ![t.val, 0] ∧ win0_1.index t = ![0, t.val] :=
  (by decide +kernel : ∀ t : Fin grid0.N, _)

theorem stored (c : Dev nD) (t : Fin cfg0.N) (y) :
    k0_pay1 (iblk m c 0 t) y = turned (m ((c : Thread nD τ).loc main_arg0)) (((cfg0.win 1).blk t).view.emb y) := by
  pointwise [k0_pay1, turned]
  blk_point [iblk, V, block_at t]

theorem result (c : Dev nD) : (dats m 0 c).arrAt 1 (cfgs 0).N = turned (F := Bits) (m ((c : Thread nD τ).loc main_arg0)) := by
  refine (dats m 0 c).arrAt_eq_of_covers 1 _ (by decide +kernel) fun t _ y => ?_
  blk_simp
  rw [after0_1]
  frame_out
  exact stored m c t y

end Cert.Turned9.OnBits

namespace Cert.Turned9.OnIdeal

open Cert.Kernel9Ideal Cert.Kernel9Ideal.Gen

variable (m : (ℓ : Loc nD τ sig) → Buf (Elt Ideal) ℓ)

theorem block_at : ∀ t : Fin cfg0.N, win0_0.index t = ![t.val, 0] ∧ win0_1.index t = ![0, t.val] :=
  (by decide +kernel : ∀ t : Fin grid0.N, _)

theorem stored (c : Dev nD) (t : Fin cfg0.N) (y) :
    k0_pay1 (iblk m c 0 t) y = turned (m ((c : Thread nD τ).loc main_arg0)) (((cfg0.win 1).blk t).view.emb y) := by
  pointwise [k0_pay1, turned]
  blk_point [iblk, V, block_at t]

theorem result (c : Dev nD) : (dats m 0 c).arrAt 1 (cfgs 0).N = turned (F := Ideal) (m ((c : Thread nD τ).loc main_arg0)) := by
  refine (dats m 0 c).arrAt_eq_of_covers 1 _ (by decide +kernel) fun t _ y => ?_
  blk_simp
  rw [after0_1]
  frame_out
  exact stored m c t y

end Cert.Turned9.OnIdeal

namespace Cert.Turned

theorem ideal8 : Cert.algebraic_Kernel8Ideal_Reference8Ideal := by
  pair_intro
  · run_from Cert.Kernel8Ideal.Gen.run_main m g
  · run_from Cert.Reference8Ideal.Value.run m' g'
    exact (Cert.Turned8.OnIdeal.result m c).symm

theorem bits8 : Cert.bitexact_Kernel8_Reference8 := by
  pair_intro
  · run_from Cert.Kernel8.Gen.run_main m g
  · run_from Cert.Reference8.Value.run m' g'
    exact (Cert.Turned8.OnBits.result m c).symm

theorem ideal9 : Cert.algebraic_Kernel9Ideal_Reference9Ideal := by
  pair_intro
  · run_from Cert.Kernel9Ideal.Gen.run_main m g
  · run_from Cert.Reference9Ideal.Value.run m' g'
    exact (Cert.Turned9.OnIdeal.result m c).symm

theorem bits9 : Cert.bitexact_Kernel9_Reference9 := by
  pair_intro
  · run_from Cert.Kernel9.Gen.run_main m g
  · run_from Cert.Reference9.Value.run m' g'
    exact (Cert.Turned9.OnBits.result m c).symm

end Cert.Turned

end
-- ==== Proof.lean ====
module

public import proofs.«01_k».proof.Defs
public import proofs.«01_k».proof.Proof.Frames
public import proofs.«01_k».proof.Proof.Values
public import proofs.«01_k».proof.Proof.SwaValue
public import proofs.«01_k».proof.Proof.PoolValue
public import proofs.«01_k».proof.Proof.Turned
public import proofs.«01_k».proof.Proof.Gen.Pre_finite_scores
public import proofs.«01_k».proof.Proof.Gen.Pre_finite_pool

@[expose] public section

noncomputable section

namespace Cert.Proof

open Idealize.ShloMosaic Idealize.SL.Sem

/-- The mask's constant is minus infinity over the extended reals. -/
theorem preserves : Cert.preserves_Kernel_KernelIdeal :=
  IdealRules.named_const.statement Cert.KernelIdeal.κ "mask" .f32 0xF149F2CA#32 ⊥ rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Reference8.Gen.facts,
    Cert.Kernel9.Gen.facts, Cert.Kernel9Ideal.Gen.facts, Cert.Reference9Ideal.Gen.facts, Cert.Reference9.Gen.facts,
    Cert.Pre_finite_scores.Gen.facts,
    Cert.Pre_finite_pool.Gen.facts,
    Frames.kernel, Frames.ideal, fun m ρ _ => Frames.ideal m ρ trivial, Frames.reference,
    fun m ρ _ => Frames.reference m ρ trivial,
    Frames.kernel2, Frames.ideal2, Frames.reference2,
    Frames.kernel3, Frames.ideal3, Frames.reference3,
    Frames.kernel4, Frames.ideal4, fun m ρ _ => Frames.ideal4 m ρ trivial, Frames.reference4,
    fun m ρ _ => Frames.reference4 m ρ trivial,
    Frames.kernel6, Frames.ideal6, Frames.reference6,
    Frames.kernel7, Frames.ideal7, Frames.reference7,
    Frames.kernel8, Frames.ideal8, Frames.reference8, Frames.bits8,
    Frames.kernel9, Frames.ideal9, Frames.reference9, Frames.bits9,
    preserves, Swa.value,
    trivial, Values.outproj,
    trivial, Values.inproj,
    trivial, Pool.value,
    trivial, Values.memKv,
    trivial, Values.residual,
    trivial, Turned.ideal8, Turned.bits8,
    trivial, Turned.ideal9, Turned.bits9⟩

end Cert.Proof

end
